-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def algebraic_KernelIdeal_ReferenceIdeal_on_separated_rows [hKernelIdeal : Cert.KernelIdeal.Facts] [hReferenceIdeal : Cert.ReferenceIdeal.Facts] [hOn_separated_rows : Cert.On_separated_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1, 2048, 2048]⟩ : Shape).Idx, (Cert.On_separated_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.KernelIdeal.nD Cert.KernelIdeal.τ).loc Cert.KernelIdeal.main_v85) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1, 2048, 2048]⟩ : Shape).Idx, (Cert.On_separated_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.ReferenceIdeal.nD Cert.ReferenceIdeal.τ).loc Cert.ReferenceIdeal.main_indices) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_separated : Cert.Pre_separated.Facts) (hOn_separated_rows : Cert.On_separated_rows.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
    ∧ algebraic_KernelIdeal_ReferenceIdeal_on_separated_rows (hKernelIdeal := hKernelIdeal) (hReferenceIdeal := hReferenceIdeal) (hOn_separated_rows := hOn_separated_rows)
-- ==== On_separated_rows.lean ====
abbrev S1x2048x1024 : Shape := ⟨3, ![1, 2048, 1024]⟩
abbrev S1x2048x64 : Shape := ⟨3, ![1, 2048, 64]⟩
abbrev S1024x1024 : Shape := ⟨2, ![1024, 1024]⟩
abbrev S1024x64 : Shape := ⟨2, ![1024, 64]⟩
abbrev S1024x16 : Shape := ⟨2, ![1024, 16]⟩
abbrev S64 : Shape := ⟨1, ![64]⟩
abbrev S_ : Shape := ⟨0, ![]⟩
abbrev S1x2048x16x64 : Shape := ⟨4, ![1, 2048, 16, 64]⟩
abbrev S1x2048x16 : Shape := ⟨3, ![1, 2048, 16]⟩
abbrev S1x2048x16x1 : Shape := ⟨4, ![1, 2048, 16, 1]⟩
abbrev S1x1x1x64 : Shape := ⟨4, ![1, 1, 1, 64]⟩
abbrev S1x2048x1x64 : Shape := ⟨4, ![1, 2048, 1, 64]⟩
abbrev S1x2048x1 : Shape := ⟨3, ![1, 2048, 1]⟩
abbrev S1x2048x1x1 : Shape := ⟨4, ![1, 2048, 1, 1]⟩
abbrev S1x16x2048x64 : Shape := ⟨4, ![1, 16, 2048, 64]⟩
abbrev S1x1x2048x64 : Shape := ⟨4, ![1, 1, 2048, 64]⟩
abbrev S1x16x2048x32 : Shape := ⟨4, ![1, 16, 2048, 32]⟩
abbrev S1x1x2048x32 : Shape := ⟨4, ![1, 1, 2048, 32]⟩
abbrev S1x2048x16x2048 : Shape := ⟨4, ![1, 2048, 16, 2048]⟩
abbrev S1x2048x2048 : Shape := ⟨3, ![1, 2048, 2048]⟩
abbrev S2048x2048 : Shape := ⟨2, ![2048, 2048]⟩
abbrev S2048x2048x2048 : Shape := ⟨3, ![2048, 2048, 2048]⟩
abbrev S2048x2048x1 : Shape := ⟨3, ![2048, 2048, 1]⟩
abbrev S2048x1x2048 : Shape := ⟨3, ![2048, 1, 2048]⟩
abbrev S2048 : Shape := ⟨1, ![2048]⟩

class Facts : Prop where
  shapeCasts_S1x2048x1024_S1x2048x16x64 : S1x2048x1024.ShapeCasts S1x2048x16x64
  reducesTo_S1x2048x16x64_S1x2048x16_d3 : S1x2048x16x64.ReducesTo [3] S1x2048x16
  h_S_ : 0 < S_.numel
  bcast_S1x2048x16_S1x2048x16x1_0_1_2 : S1x2048x16.BroadcastsInDim S1x2048x16x1 (![0, 1, 2] : Fin 3 → Fin S1x2048x16x1.rank)
  bcast_S_S1x2048x16x1 : S_.BroadcastsInDim S1x2048x16x1 (![] : Fin 0 → Fin S1x2048x16x1.rank)
  bcast_S1x2048x16x1_S1x2048x16x64_0_1_2_3 : S1x2048x16x1.BroadcastsInDim S1x2048x16x64 (![0, 1, 2, 3] : Fin 4 → Fin S1x2048x16x64.rank)
  bcast_S64_S1x1x1x64_3 : S64.BroadcastsInDim S1x1x1x64 (![3] : Fin 1 → Fin S1x1x1x64.rank)
  bcast_S1x1x1x64_S1x2048x16x64_0_1_2_3 : S1x1x1x64.BroadcastsInDim S1x2048x16x64 (![0, 1, 2, 3] : Fin 4 → Fin S1x2048x16x64.rank)
  shapeCasts_S1x2048x64_S1x2048x1x64 : S1x2048x64.ShapeCasts S1x2048x1x64
  reducesTo_S1x2048x1x64_S1x2048x1_d3 : S1x2048x1x64.ReducesTo [3] S1x2048x1
  bcast_S1x2048x1_S1x2048x1x1_0_1_2 : S1x2048x1.BroadcastsInDim S1x2048x1x1 (![0, 1, 2] : Fin 3 → Fin S1x2048x1x1.rank)
  bcast_S_S1x2048x1x1 : S_.BroadcastsInDim S1x2048x1x1 (![] : Fin 0 → Fin S1x2048x1x1.rank)
  bcast_S1x2048x1x1_S1x2048x1x64_0_1_2_3 : S1x2048x1x1.BroadcastsInDim S1x2048x1x64 (![0, 1, 2, 3] : Fin 4 → Fin S1x2048x1x64.rank)
  bcast_S1x1x1x64_S1x2048x1x64_0_1_2_3 : S1x1x1x64.BroadcastsInDim S1x2048x1x64 (![0, 1, 2, 3] : Fin 4 → Fin S1x2048x1x64.rank)
  transposes_S1x2048x16x64_S1x16x2048x64_0_2_1_3 : S1x2048x16x64.Transposes [0, 2, 1, 3] S1x16x2048x64
  transposes_S1x2048x1x64_S1x1x2048x64_0_2_1_3 : S1x2048x1x64.Transposes [0, 2, 1, 3] S1x1x2048x64
  bcast_S1x2048x64_S1x1x2048x64_0_2_3 : S1x2048x64.BroadcastsInDim S1x1x2048x64 (![0, 2, 3] : Fin 3 → Fin S1x1x2048x64.rank)
  bcast_S1x1x2048x64_S1x16x2048x64_0_1_2_3 : S1x1x2048x64.BroadcastsInDim S1x16x2048x64 (![0, 1, 2, 3] : Fin 4 → Fin S1x16x2048x64.rank)
  slices_S1x16x2048x64_S1x16x2048x32_0_0_0_32 : S1x16x2048x64.Slices ![0, 0, 0, 32] S1x16x2048x32
  slices_S1x16x2048x64_S1x16x2048x32_0_0_0_0 : S1x16x2048x64.Slices ![0, 0, 0, 0] S1x16x2048x32
  concatenates_S1x16x2048x32_S1x16x2048x32_S1x16x2048x64_d3 : Shape.Concatenates [S1x16x2048x32, S1x16x2048x32] S1x16x2048x64 3
  slices_S1x1x2048x64_S1x1x2048x32_0_0_0_32 : S1x1x2048x64.Slices ![0, 0, 0, 32] S1x1x2048x32
  slices_S1x1x2048x64_S1x1x2048x32_0_0_0_0 : S1x1x2048x64.Slices ![0, 0, 0, 0] S1x1x2048x32
  concatenates_S1x1x2048x32_S1x1x2048x32_S1x1x2048x64_d3 : Shape.Concatenates [S1x1x2048x32, S1x1x2048x32] S1x1x2048x64 3
  transposes_S1x16x2048x64_S1x2048x16x64_0_2_1_3 : S1x16x2048x64.Transposes [0, 2, 1, 3] S1x2048x16x64
  transposes_S1x1x2048x64_S1x2048x1x64_0_2_1_3 : S1x1x2048x64.Transposes [0, 2, 1, 3] S1x2048x1x64
  shapeCasts_S1x2048x1x64_S1x2048x64 : S1x2048x1x64.ShapeCasts S1x2048x64
  bcast_S_S1x2048x16 : S_.BroadcastsInDim S1x2048x16 (![] : Fin 0 → Fin S1x2048x16.rank)
  bcast_S_S1x2048x16x2048 : S_.BroadcastsInDim S1x2048x16x2048 (![] : Fin 0 → Fin S1x2048x16x2048.rank)
  bcast_S1x2048x16x1_S1x2048x16x2048_0_1_2_3 : S1x2048x16x1.BroadcastsInDim S1x2048x16x2048 (![0, 1, 2, 3] : Fin 4 → Fin S1x2048x16x2048.rank)
  reducesTo_S1x2048x16x2048_S1x2048x2048_d2 : S1x2048x16x2048.ReducesTo [2] S1x2048x2048
  shapeCasts_S1x2048x2048_S2048x2048 : S1x2048x2048.ShapeCasts S2048x2048
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S2048x2048_S2048x1x2048_0_2 : S2048x2048.BroadcastsInDim S2048x1x2048 (![0, 2] : Fin 2 → Fin S2048x1x2048.rank)
  bcast_S2048x2048x1_S2048x2048x2048_0_1_2 : S2048x2048x1.BroadcastsInDim S2048x2048x2048 (![0, 1, 2] : Fin 3 → Fin S2048x2048x2048.rank)
  bcast_S2048x1x2048_S2048x2048x2048_0_1_2 : S2048x1x2048.BroadcastsInDim S2048x2048x2048 (![0, 1, 2] : Fin 3 → Fin S2048x2048x2048.rank)
  reducesTo_S2048x2048_S2048_d1 : S2048x2048.ReducesTo [1] S2048
  reducesTo_S2048x2048x2048_S2048_d1_2 : S2048x2048x2048.ReducesTo [1, 2] S2048
  bcast_S2048_S1x2048x1_1 : S2048.BroadcastsInDim S1x2048x1 (![1] : Fin 1 → Fin S1x2048x1.rank)
  bcast_S1x2048x1_S1x2048x2048_0_1_2 : S1x2048x1.BroadcastsInDim S1x2048x2048 (![0, 1, 2] : Fin 3 → Fin S1x2048x2048.rank)
  dot_S1x2048x1024_S1024x1024_S1x2048x1024_2_0_01_1_n_n_wf : DotDims.WF S1x2048x1024 S1024x1024 S1x2048x1024 [2] [0] [0, 1] [1] [] []
  dot_S1x2048x1024_S1024x64_S1x2048x64_2_0_01_1_n_n_wf : DotDims.WF S1x2048x1024 S1024x64 S1x2048x64 [2] [0] [0, 1] [1] [] []
  dot_S1x2048x1024_S1024x16_S1x2048x16_2_0_01_1_n_n_wf : DotDims.WF S1x2048x1024 S1024x16 S1x2048x16 [2] [0] [0, 1] [1] [] []
  dot_S1x2048x16x64_S1x2048x64_S1x2048x16x2048_3_2_12_1_0_0_wf : DotDims.WF S1x2048x16x64 S1x2048x64 S1x2048x16x2048 [3] [2] [1, 2] [1] [0] [0]

variable [Facts]

def dot_S1x2048x1024_S1024x1024_S1x2048x1024_2_0_01_1_n_n : DotDims S1x2048x1024 S1024x1024 S1x2048x1024 where
  lhsContracting := [2]
  rhsContracting := [0]
  lhsNonContracting := [0, 1]
  rhsNonContracting := [1]
  lhsBatch := []
  rhsBatch := []
  wf := dot_S1x2048x1024_S1024x1024_S1x2048x1024_2_0_01_1_n_n_wf
def dot_S1x2048x1024_S1024x64_S1x2048x64_2_0_01_1_n_n : DotDims S1x2048x1024 S1024x64 S1x2048x64 where
  lhsContracting := [2]
  rhsContracting := [0]
  lhsNonContracting := [0, 1]
  rhsNonContracting := [1]
  lhsBatch := []
  rhsBatch := []
  wf := dot_S1x2048x1024_S1024x64_S1x2048x64_2_0_01_1_n_n_wf
def dot_S1x2048x1024_S1024x16_S1x2048x16_2_0_01_1_n_n : DotDims S1x2048x1024 S1024x16 S1x2048x16 where
  lhsContracting := [2]
  rhsContracting := [0]
  lhsNonContracting := [0, 1]
  rhsNonContracting := [1]
  lhsBatch := []
  rhsBatch := []
  wf := dot_S1x2048x1024_S1024x16_S1x2048x16_2_0_01_1_n_n_wf
def dot_S1x2048x16x64_S1x2048x64_S1x2048x16x2048_3_2_12_1_0_0 : DotDims S1x2048x16x64 S1x2048x64 S1x2048x16x2048 where
  lhsContracting := [3]
  rhsContracting := [2]
  lhsNonContracting := [1, 2]
  rhsNonContracting := [1]
  lhsBatch := [0]
  rhsBatch := [0]
  wf := dot_S1x2048x16x64_S1x2048x64_S1x2048x16x2048_3_2_12_1_0_0_wf
def fn_part4 {F : FTy → Type} [FloatOps F] (main_v71 : IVec S2048x2048 1) (main_v83 : IVec S2048x2048x2048 1) (main_c : IVec S_ 1) : IVec S1x2048x2048 1 :=
  let main_v84 : IVec S2048 1 := (fun x v => Host.reduce IntOp.andi x v reducesTo_S2048x2048_S2048_d1 h_S_) main_v71 main_c
  let main_c_10 : IVec S_ 1 := constantI S_ 1 1#1
  let main_v85 : IVec S2048 1 := (fun x v => Host.reduce IntOp.andi x v reducesTo_S2048x2048x2048_S2048_d1_2 h_S_) main_v83 main_c_10
  let main_v86 : IVec S2048 1 := andi main_v84 main_v85
  let main_v87 : IVec S1x2048x1 1 := broadcastInDim S1x2048x1 ![1] bcast_S2048_S1x2048x1_1 main_v86
  let main_v88 : IVec S1x2048x2048 1 := broadcastInDim S1x2048x2048 ![0, 1, 2] bcast_S1x2048x1_S1x2048x2048_0_1_2 main_v87
  main_v88

def fn_part3 {F : FTy → Type} [FloatOps F] (main_v61 : FVec F S1x2048x16x2048 .f32) (main_v62 : FVec F S1x2048x16x2048 .f32) : IVec S1x2048x2048 1 :=
  let main_v63 : FVec F S1x2048x16x2048 .f32 := mulf main_v61 main_v62
  let main_cst_8 : FVec F S_ .f32 := constant S_ .f32 0x00000000#32
  let main_v64 : FVec F S1x2048x2048 .f32 := (fun x v => Host.reduceAdd x v reducesTo_S1x2048x16x2048_S1x2048x2048_d2 h_S_) main_v63 main_cst_8
  let main_v65 : FVec F S2048x2048 .f32 := shapeCast S2048x2048 main_v64 shapeCasts_S1x2048x2048_S2048x2048
  let main_v66 : IVec S2048x2048 32 := iotaInDim S2048x2048 32 0
  let main_v67 : IVec S2048x2048 32 := iotaInDim S2048x2048 32 1
  let main_v68 : IVec S2048x2048 1 := cmpi .sgt main_v67 main_v66
  let main_cst_9 : FVec F S_ .f32 := constant S_ .f32 0xF149F2CA#32
  let main_v69 : FVec F S2048x2048 .f32 := broadcastInDim S2048x2048 ![] bcast_S_S2048x2048 main_cst_9
  let main_v70 : IVec S2048x2048 1 := cmpf .ogt main_v65 main_v69
  let main_v71 : IVec S2048x2048 1 := ori main_v68 main_v70
  let main_v72 : IVec S2048x2048x2048 32 := iotaInDim S2048x2048x2048 32 0
  let main_v73 : IVec S2048x2048x2048 32 := iotaInDim S2048x2048x2048 32 1
  let main_v74 : IVec S2048x2048x2048 32 := iotaInDim S2048x2048x2048 32 2
  let main_v75 : IVec S2048x2048x2048 1 := cmpi .sgt main_v73 main_v72
  let main_v76 : IVec S2048x2048x2048 1 := cmpi .sge main_v74 main_v73
  let main_v77 : IVec S2048x2048x2048 1 := ori main_v75 main_v76
  let main_v78 : FVec F S2048x2048x1 .f32 := broadcastInDim S2048x2048x1 ![0, 1] bcast_S2048x2048_S2048x2048x1_0_1 main_v65
  let main_v79 : FVec F S2048x1x2048 .f32 := broadcastInDim S2048x1x2048 ![0, 2] bcast_S2048x2048_S2048x1x2048_0_2 main_v65
  let main_v80 : FVec F S2048x2048x2048 .f32 := broadcastInDim S2048x2048x2048 ![0, 1, 2] bcast_S2048x2048x1_S2048x2048x2048_0_1_2 main_v78
  let main_v81 : FVec F S2048x2048x2048 .f32 := broadcastInDim S2048x2048x2048 ![0, 1, 2] bcast_S2048x1x2048_S2048x2048x2048_0_1_2 main_v79
  let main_v82 : IVec S2048x2048x2048 1 := cmpf .une main_v80 main_v81
  let main_v83 : IVec S2048x2048x2048 1 := ori main_v77 main_v82
  let main_c : IVec S_ 1 := constantI S_ 1 1#1
  fn_part4 (F := F) main_v71 main_v83 main_c

def fn_part2 {F : FTy → Type} [FloatOps F] (main_arg0 : FVec F S1x2048x1024 .f32) (main_arg5 : FVec F S1024x16 .f32) (main_v31 : FVec F S1x1x2048x64 .f32) (main_v32 : FVec F S1x1x2048x64 .f32) (main_v33 : FVec F S1x1x2048x64 .f32) (main_v35 : FVec F S1x16x2048x64 .f32) (main_v41 : FVec F S1x16x2048x64 .f32) : IVec S1x2048x2048 1 :=
  let main_v42 : FVec F S1x16x2048x64 .f32 := addf main_v35 main_v41
  let main_v43 : FVec F S1x1x2048x64 .f32 := mulf main_v31 main_v32
  let main_v44 : FVec F S1x1x2048x32 .f32 := (extractStridedSlice S1x1x2048x32 ![0, 0, 0, 32] · slices_S1x1x2048x64_S1x1x2048x32_0_0_0_32) main_v31
  let main_v45 : FVec F S1x1x2048x32 .f32 := Host.negf main_v44
  let main_v46 : FVec F S1x1x2048x32 .f32 := (extractStridedSlice S1x1x2048x32 ![0, 0, 0, 0] · slices_S1x1x2048x64_S1x1x2048x32_0_0_0_0) main_v31
  let main_v47 : FVec F S1x1x2048x64 .f32 := (fun a b => concatenate S1x1x2048x64 3 [⟨S1x1x2048x32, a⟩, ⟨S1x1x2048x32, b⟩] concatenates_S1x1x2048x32_S1x1x2048x32_S1x1x2048x64_d3) main_v45 main_v46
  let main_v48 : FVec F S1x1x2048x64 .f32 := mulf main_v47 main_v33
  let main_v49 : FVec F S1x1x2048x64 .f32 := addf main_v43 main_v48
  let main_v50 : FVec F S1x2048x16x64 .f32 := (transpose S1x2048x16x64 [0, 2, 1, 3] · transposes_S1x16x2048x64_S1x2048x16x64_0_2_1_3) main_v42
  let main_v51 : FVec F S1x2048x1x64 .f32 := (transpose S1x2048x1x64 [0, 2, 1, 3] · transposes_S1x1x2048x64_S1x2048x1x64_0_2_1_3) main_v49
  let main_v52 : FVec F S1x2048x64 .f32 := shapeCast S1x2048x64 main_v51 shapeCasts_S1x2048x1x64_S1x2048x64
  let main_v53 : FVec F S1x2048x16 .f32 := (fun l r => Host.dotGeneral dot_S1x2048x1024_S1024x16_S1x2048x16_2_0_01_1_n_n none l r) main_arg0 main_arg5
  let main_cst_5 : FVec F S_ .f32 := constant S_ .f32 0x3E800000#32
  let main_v54 : FVec F S1x2048x16 .f32 := broadcastInDim S1x2048x16 ![] bcast_S_S1x2048x16 main_cst_5
  let main_v55 : FVec F S1x2048x16 .f32 := mulf main_v53 main_v54
  let main_v56 : FVec F S1x2048x16x1 .f32 := broadcastInDim S1x2048x16x1 ![0, 1, 2] bcast_S1x2048x16_S1x2048x16x1_0_1_2 main_v55
  let main_cst_6 : FVec F S_ .f32 := constant S_ .f32 0x3E000000#32
  let main_v57 : FVec F S1x2048x16x1 .f32 := broadcastInDim S1x2048x16x1 ![] bcast_S_S1x2048x16x1 main_cst_6
  let main_v58 : FVec F S1x2048x16x1 .f32 := mulf main_v56 main_v57
  let main_v59 : FVec F S1x2048x16x2048 .f32 := (fun l r => Host.dotGeneral dot_S1x2048x16x64_S1x2048x64_S1x2048x16x2048_3_2_12_1_0_0 none l r) main_v50 main_v52
  let main_cst_7 : FVec F S_ .f32 := constant S_ .f32 0x00000000#32
  let main_v60 : FVec F S1x2048x16x2048 .f32 := broadcastInDim S1x2048x16x2048 ![] bcast_S_S1x2048x16x2048 main_cst_7
  let main_v61 : FVec F S1x2048x16x2048 .f32 := maximumf main_v59 main_v60
  let main_v62 : FVec F S1x2048x16x2048 .f32 := broadcastInDim S1x2048x16x2048 ![0, 1, 2, 3] bcast_S1x2048x16x1_S1x2048x16x2048_0_1_2_3 main_v58
  fn_part3 (F := F) main_v61 main_v62

def fn_part1 {F : FTy → Type} [FloatOps F] (main_arg0 : FVec F S1x2048x1024 .f32) (main_arg1 : FVec F S1x2048x64 .f32) (main_arg2 : FVec F S1x2048x64 .f32) (main_arg5 : FVec F S1024x16 .f32) (main_arg7 : FVec F S64 .f32) (main_v14 : FVec F S1x2048x16x64 .f32) (main_v16 : FVec F S1x2048x1x64 .f32) (main_v19 : FVec F S1x2048x1x1 .f32) : IVec S1x2048x2048 1 :=
  let main_cst_3 : FVec F S_ .f32 := constant S_ .f32 0x42800000#32
  let main_v20 : FVec F S1x2048x1x1 .f32 := broadcastInDim S1x2048x1x1 ![] bcast_S_S1x2048x1x1 main_cst_3
  let main_v21 : FVec F S1x2048x1x1 .f32 := Host.divf main_v19 main_v20
  let main_cst_4 : FVec F S_ .f32 := constant S_ .f32 0x358637BD#32
  let main_v22 : FVec F S1x2048x1x1 .f32 := broadcastInDim S1x2048x1x1 ![] bcast_S_S1x2048x1x1 main_cst_4
  let main_v23 : FVec F S1x2048x1x1 .f32 := addf main_v21 main_v22
  let main_v24 : FVec F S1x2048x1x1 .f32 := Host.rsqrt main_v23
  let main_v25 : FVec F S1x2048x1x64 .f32 := broadcastInDim S1x2048x1x64 ![0, 1, 2, 3] bcast_S1x2048x1x1_S1x2048x1x64_0_1_2_3 main_v24
  let main_v26 : FVec F S1x2048x1x64 .f32 := mulf main_v16 main_v25
  let main_v27 : FVec F S1x1x1x64 .f32 := broadcastInDim S1x1x1x64 ![3] bcast_S64_S1x1x1x64_3 main_arg7
  let main_v28 : FVec F S1x2048x1x64 .f32 := broadcastInDim S1x2048x1x64 ![0, 1, 2, 3] bcast_S1x1x1x64_S1x2048x1x64_0_1_2_3 main_v27
  let main_v29 : FVec F S1x2048x1x64 .f32 := mulf main_v26 main_v28
  let main_v30 : FVec F S1x16x2048x64 .f32 := (transpose S1x16x2048x64 [0, 2, 1, 3] · transposes_S1x2048x16x64_S1x16x2048x64_0_2_1_3) main_v14
  let main_v31 : FVec F S1x1x2048x64 .f32 := (transpose S1x1x2048x64 [0, 2, 1, 3] · transposes_S1x2048x1x64_S1x1x2048x64_0_2_1_3) main_v29
  let main_v32 : FVec F S1x1x2048x64 .f32 := broadcastInDim S1x1x2048x64 ![0, 2, 3] bcast_S1x2048x64_S1x1x2048x64_0_2_3 main_arg1
  let main_v33 : FVec F S1x1x2048x64 .f32 := broadcastInDim S1x1x2048x64 ![0, 2, 3] bcast_S1x2048x64_S1x1x2048x64_0_2_3 main_arg2
  let main_v34 : FVec F S1x16x2048x64 .f32 := broadcastInDim S1x16x2048x64 ![0, 1, 2, 3] bcast_S1x1x2048x64_S1x16x2048x64_0_1_2_3 main_v32
  let main_v35 : FVec F S1x16x2048x64 .f32 := mulf main_v30 main_v34
  let main_v36 : FVec F S1x16x2048x32 .f32 := (extractStridedSlice S1x16x2048x32 ![0, 0, 0, 32] · slices_S1x16x2048x64_S1x16x2048x32_0_0_0_32) main_v30
  let main_v37 : FVec F S1x16x2048x32 .f32 := Host.negf main_v36
  let main_v38 : FVec F S1x16x2048x32 .f32 := (extractStridedSlice S1x16x2048x32 ![0, 0, 0, 0] · slices_S1x16x2048x64_S1x16x2048x32_0_0_0_0) main_v30
  let main_v39 : FVec F S1x16x2048x64 .f32 := (fun a b => concatenate S1x16x2048x64 3 [⟨S1x16x2048x32, a⟩, ⟨S1x16x2048x32, b⟩] concatenates_S1x16x2048x32_S1x16x2048x32_S1x16x2048x64_d3) main_v37 main_v38
  let main_v40 : FVec F S1x16x2048x64 .f32 := broadcastInDim S1x16x2048x64 ![0, 1, 2, 3] bcast_S1x1x2048x64_S1x16x2048x64_0_1_2_3 main_v33
  let main_v41 : FVec F S1x16x2048x64 .f32 := mulf main_v39 main_v40
  fn_part2 (F := F) main_arg0 main_arg5 main_v31 main_v32 main_v33 main_v35 main_v41

def fn {F : FTy → Type} [FloatOps F] (main_arg0 : FVec F S1x2048x1024 .f32) (main_arg1 : FVec F S1x2048x64 .f32) (main_arg2 : FVec F S1x2048x64 .f32) (main_arg3 : FVec F S1024x1024 .f32) (main_arg4 : FVec F S1024x64 .f32) (main_arg5 : FVec F S1024x16 .f32) (main_arg6 : FVec F S64 .f32) (main_arg7 : FVec F S64 .f32) (main_arg8 : IVec S_ 32) (main_arg9 : IVec S_ 32) (main_arg10 : IVec S_ 32) : IVec S1x2048x2048 1 :=
  let main_v0 : FVec F S1x2048x1024 .f32 := (fun l r => Host.dotGeneral dot_S1x2048x1024_S1024x1024_S1x2048x1024_2_0_01_1_n_n none l r) main_arg0 main_arg3
  let main_v1 : FVec F S1x2048x16x64 .f32 := shapeCast S1x2048x16x64 main_v0 shapeCasts_S1x2048x1024_S1x2048x16x64
  let main_v2 : FVec F S1x2048x16x64 .f32 := mulf main_v1 main_v1
  let main_cst : FVec F S_ .f32 := constant S_ .f32 0x00000000#32
  let main_v3 : FVec F S1x2048x16 .f32 := (fun x v => Host.reduceAdd x v reducesTo_S1x2048x16x64_S1x2048x16_d3 h_S_) main_v2 main_cst
  let main_v4 : FVec F S1x2048x16x1 .f32 := broadcastInDim S1x2048x16x1 ![0, 1, 2] bcast_S1x2048x16_S1x2048x16x1_0_1_2 main_v3
  let main_cst_0 : FVec F S_ .f32 := constant S_ .f32 0x42800000#32
  let main_v5 : FVec F S1x2048x16x1 .f32 := broadcastInDim S1x2048x16x1 ![] bcast_S_S1x2048x16x1 main_cst_0
  let main_v6 : FVec F S1x2048x16x1 .f32 := Host.divf main_v4 main_v5
  let main_cst_1 : FVec F S_ .f32 := constant S_ .f32 0x358637BD#32
  let main_v7 : FVec F S1x2048x16x1 .f32 := broadcastInDim S1x2048x16x1 ![] bcast_S_S1x2048x16x1 main_cst_1
  let main_v8 : FVec F S1x2048x16x1 .f32 := addf main_v6 main_v7
  let main_v9 : FVec F S1x2048x16x1 .f32 := Host.rsqrt main_v8
  let main_v10 : FVec F S1x2048x16x64 .f32 := broadcastInDim S1x2048x16x64 ![0, 1, 2, 3] bcast_S1x2048x16x1_S1x2048x16x64_0_1_2_3 main_v9
  let main_v11 : FVec F S1x2048x16x64 .f32 := mulf main_v1 main_v10
  let main_v12 : FVec F S1x1x1x64 .f32 := broadcastInDim S1x1x1x64 ![3] bcast_S64_S1x1x1x64_3 main_arg6
  let main_v13 : FVec F S1x2048x16x64 .f32 := broadcastInDim S1x2048x16x64 ![0, 1, 2, 3] bcast_S1x1x1x64_S1x2048x16x64_0_1_2_3 main_v12
  let main_v14 : FVec F S1x2048x16x64 .f32 := mulf main_v11 main_v13
  let main_v15 : FVec F S1x2048x64 .f32 := (fun l r => Host.dotGeneral dot_S1x2048x1024_S1024x64_S1x2048x64_2_0_01_1_n_n none l r) main_arg0 main_arg4
  let main_v16 : FVec F S1x2048x1x64 .f32 := shapeCast S1x2048x1x64 main_v15 shapeCasts_S1x2048x64_S1x2048x1x64
  let main_v17 : FVec F S1x2048x1x64 .f32 := mulf main_v16 main_v16
  let main_cst_2 : FVec F S_ .f32 := constant S_ .f32 0x00000000#32
  let main_v18 : FVec F S1x2048x1 .f32 := (fun x v => Host.reduceAdd x v reducesTo_S1x2048x1x64_S1x2048x1_d3 h_S_) main_v17 main_cst_2
  let main_v19 : FVec F S1x2048x1x1 .f32 := broadcastInDim S1x2048x1x1 ![0, 1, 2] bcast_S1x2048x1_S1x2048x1x1_0_1_2 main_v18
  fn_part1 (F := F) main_arg0 main_arg1 main_arg2 main_arg5 main_arg7 main_v14 main_v16 main_v19
-- ==== Pre_separated.lean ====
abbrev S1x2048x1024 : Shape := ⟨3, ![1, 2048, 1024]⟩
abbrev S1x2048x64 : Shape := ⟨3, ![1, 2048, 64]⟩
abbrev S1024x1024 : Shape := ⟨2, ![1024, 1024]⟩
abbrev S1024x64 : Shape := ⟨2, ![1024, 64]⟩
abbrev S1024x16 : Shape := ⟨2, ![1024, 16]⟩
abbrev S64 : Shape := ⟨1, ![64]⟩
abbrev S_ : Shape := ⟨0, ![]⟩
abbrev S1x2048x16x64 : Shape := ⟨4, ![1, 2048, 16, 64]⟩
abbrev S1x2048x16 : Shape := ⟨3, ![1, 2048, 16]⟩
abbrev S1x2048x16x1 : Shape := ⟨4, ![1, 2048, 16, 1]⟩
abbrev S1x1x1x64 : Shape := ⟨4, ![1, 1, 1, 64]⟩
abbrev S1x2048x1x64 : Shape := ⟨4, ![1, 2048, 1, 64]⟩
abbrev S1x2048x1 : Shape := ⟨3, ![1, 2048, 1]⟩
abbrev S1x2048x1x1 : Shape := ⟨4, ![1, 2048, 1, 1]⟩
abbrev S1x16x2048x64 : Shape := ⟨4, ![1, 16, 2048, 64]⟩
abbrev S1x1x2048x64 : Shape := ⟨4, ![1, 1, 2048, 64]⟩
abbrev S1x16x2048x32 : Shape := ⟨4, ![1, 16, 2048, 32]⟩
abbrev S1x1x2048x32 : Shape := ⟨4, ![1, 1, 2048, 32]⟩
abbrev S1x2048x16x2048 : Shape := ⟨4, ![1, 2048, 16, 2048]⟩
abbrev S1x2048x2048 : Shape := ⟨3, ![1, 2048, 2048]⟩
abbrev S2048x2048 : Shape := ⟨2, ![2048, 2048]⟩
abbrev S2048x2048x2048 : Shape := ⟨3, ![2048, 2048, 2048]⟩
abbrev S2048x2048x1 : Shape := ⟨3, ![2048, 2048, 1]⟩
abbrev S2048x1x2048 : Shape := ⟨3, ![2048, 1, 2048]⟩

class Facts : Prop where
  shapeCasts_S1x2048x1024_S1x2048x16x64 : S1x2048x1024.ShapeCasts S1x2048x16x64
  reducesTo_S1x2048x16x64_S1x2048x16_d3 : S1x2048x16x64.ReducesTo [3] S1x2048x16
  h_S_ : 0 < S_.numel
  bcast_S1x2048x16_S1x2048x16x1_0_1_2 : S1x2048x16.BroadcastsInDim S1x2048x16x1 (![0, 1, 2] : Fin 3 → Fin S1x2048x16x1.rank)
  bcast_S_S1x2048x16x1 : S_.BroadcastsInDim S1x2048x16x1 (![] : Fin 0 → Fin S1x2048x16x1.rank)
  bcast_S1x2048x16x1_S1x2048x16x64_0_1_2_3 : S1x2048x16x1.BroadcastsInDim S1x2048x16x64 (![0, 1, 2, 3] : Fin 4 → Fin S1x2048x16x64.rank)
  bcast_S64_S1x1x1x64_3 : S64.BroadcastsInDim S1x1x1x64 (![3] : Fin 1 → Fin S1x1x1x64.rank)
  bcast_S1x1x1x64_S1x2048x16x64_0_1_2_3 : S1x1x1x64.BroadcastsInDim S1x2048x16x64 (![0, 1, 2, 3] : Fin 4 → Fin S1x2048x16x64.rank)
  shapeCasts_S1x2048x64_S1x2048x1x64 : S1x2048x64.ShapeCasts S1x2048x1x64
  reducesTo_S1x2048x1x64_S1x2048x1_d3 : S1x2048x1x64.ReducesTo [3] S1x2048x1
  bcast_S1x2048x1_S1x2048x1x1_0_1_2 : S1x2048x1.BroadcastsInDim S1x2048x1x1 (![0, 1, 2] : Fin 3 → Fin S1x2048x1x1.rank)
  bcast_S_S1x2048x1x1 : S_.BroadcastsInDim S1x2048x1x1 (![] : Fin 0 → Fin S1x2048x1x1.rank)
  bcast_S1x2048x1x1_S1x2048x1x64_0_1_2_3 : S1x2048x1x1.BroadcastsInDim S1x2048x1x64 (![0, 1, 2, 3] : Fin 4 → Fin S1x2048x1x64.rank)
  bcast_S1x1x1x64_S1x2048x1x64_0_1_2_3 : S1x1x1x64.BroadcastsInDim S1x2048x1x64 (![0, 1, 2, 3] : Fin 4 → Fin S1x2048x1x64.rank)
  transposes_S1x2048x16x64_S1x16x2048x64_0_2_1_3 : S1x2048x16x64.Transposes [0, 2, 1, 3] S1x16x2048x64
  transposes_S1x2048x1x64_S1x1x2048x64_0_2_1_3 : S1x2048x1x64.Transposes [0, 2, 1, 3] S1x1x2048x64
  bcast_S1x2048x64_S1x1x2048x64_0_2_3 : S1x2048x64.BroadcastsInDim S1x1x2048x64 (![0, 2, 3] : Fin 3 → Fin S1x1x2048x64.rank)
  bcast_S1x1x2048x64_S1x16x2048x64_0_1_2_3 : S1x1x2048x64.BroadcastsInDim S1x16x2048x64 (![0, 1, 2, 3] : Fin 4 → Fin S1x16x2048x64.rank)
  slices_S1x16x2048x64_S1x16x2048x32_0_0_0_32 : S1x16x2048x64.Slices ![0, 0, 0, 32] S1x16x2048x32
  slices_S1x16x2048x64_S1x16x2048x32_0_0_0_0 : S1x16x2048x64.Slices ![0, 0, 0, 0] S1x16x2048x32
  concatenates_S1x16x2048x32_S1x16x2048x32_S1x16x2048x64_d3 : Shape.Concatenates [S1x16x2048x32, S1x16x2048x32] S1x16x2048x64 3
  slices_S1x1x2048x64_S1x1x2048x32_0_0_0_32 : S1x1x2048x64.Slices ![0, 0, 0, 32] S1x1x2048x32
  slices_S1x1x2048x64_S1x1x2048x32_0_0_0_0 : S1x1x2048x64.Slices ![0, 0, 0, 0] S1x1x2048x32
  concatenates_S1x1x2048x32_S1x1x2048x32_S1x1x2048x64_d3 : Shape.Concatenates [S1x1x2048x32, S1x1x2048x32] S1x1x2048x64 3
  transposes_S1x16x2048x64_S1x2048x16x64_0_2_1_3 : S1x16x2048x64.Transposes [0, 2, 1, 3] S1x2048x16x64
  transposes_S1x1x2048x64_S1x2048x1x64_0_2_1_3 : S1x1x2048x64.Transposes [0, 2, 1, 3] S1x2048x1x64
  shapeCasts_S1x2048x1x64_S1x2048x64 : S1x2048x1x64.ShapeCasts S1x2048x64
  bcast_S_S1x2048x16 : S_.BroadcastsInDim S1x2048x16 (![] : Fin 0 → Fin S1x2048x16.rank)
  bcast_S_S1x2048x16x2048 : S_.BroadcastsInDim S1x2048x16x2048 (![] : Fin 0 → Fin S1x2048x16x2048.rank)
  bcast_S1x2048x16x1_S1x2048x16x2048_0_1_2_3 : S1x2048x16x1.BroadcastsInDim S1x2048x16x2048 (![0, 1, 2, 3] : Fin 4 → Fin S1x2048x16x2048.rank)
  reducesTo_S1x2048x16x2048_S1x2048x2048_d2 : S1x2048x16x2048.ReducesTo [2] S1x2048x2048
  shapeCasts_S1x2048x2048_S2048x2048 : S1x2048x2048.ShapeCasts S2048x2048
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S2048x2048_S2048x1x2048_0_2 : S2048x2048.BroadcastsInDim S2048x1x2048 (![0, 2] : Fin 2 → Fin S2048x1x2048.rank)
  bcast_S2048x2048x1_S2048x2048x2048_0_1_2 : S2048x2048x1.BroadcastsInDim S2048x2048x2048 (![0, 1, 2] : Fin 3 → Fin S2048x2048x2048.rank)
  bcast_S2048x1x2048_S2048x2048x2048_0_1_2 : S2048x1x2048.BroadcastsInDim S2048x2048x2048 (![0, 1, 2] : Fin 3 → Fin S2048x2048x2048.rank)
  reducesTo_S2048x2048_S_d0_1 : S2048x2048.ReducesTo [0, 1] S_
  reducesTo_S2048x2048x2048_S_d0_1_2 : S2048x2048x2048.ReducesTo [0, 1, 2] S_
  dot_S1x2048x1024_S1024x1024_S1x2048x1024_2_0_01_1_n_n_wf : DotDims.WF S1x2048x1024 S1024x1024 S1x2048x1024 [2] [0] [0, 1] [1] [] []
  dot_S1x2048x1024_S1024x64_S1x2048x64_2_0_01_1_n_n_wf : DotDims.WF S1x2048x1024 S1024x64 S1x2048x64 [2] [0] [0, 1] [1] [] []
  dot_S1x2048x1024_S1024x16_S1x2048x16_2_0_01_1_n_n_wf : DotDims.WF S1x2048x1024 S1024x16 S1x2048x16 [2] [0] [0, 1] [1] [] []
  dot_S1x2048x16x64_S1x2048x64_S1x2048x16x2048_3_2_12_1_0_0_wf : DotDims.WF S1x2048x16x64 S1x2048x64 S1x2048x16x2048 [3] [2] [1, 2] [1] [0] [0]

variable [Facts]

def dot_S1x2048x1024_S1024x1024_S1x2048x1024_2_0_01_1_n_n : DotDims S1x2048x1024 S1024x1024 S1x2048x1024 where
  lhsContracting := [2]
  rhsContracting := [0]
  lhsNonContracting := [0, 1]
  rhsNonContracting := [1]
  lhsBatch := []
  rhsBatch := []
  wf := dot_S1x2048x1024_S1024x1024_S1x2048x1024_2_0_01_1_n_n_wf
def dot_S1x2048x1024_S1024x64_S1x2048x64_2_0_01_1_n_n : DotDims S1x2048x1024 S1024x64 S1x2048x64 where
  lhsContracting := [2]
  rhsContracting := [0]
  lhsNonContracting := [0, 1]
  rhsNonContracting := [1]
  lhsBatch := []
  rhsBatch := []
  wf := dot_S1x2048x1024_S1024x64_S1x2048x64_2_0_01_1_n_n_wf
def dot_S1x2048x1024_S1024x16_S1x2048x16_2_0_01_1_n_n : DotDims S1x2048x1024 S1024x16 S1x2048x16 where
  lhsContracting := [2]
  rhsContracting := [0]
  lhsNonContracting := [0, 1]
  rhsNonContracting := [1]
  lhsBatch := []
  rhsBatch := []
  wf := dot_S1x2048x1024_S1024x16_S1x2048x16_2_0_01_1_n_n_wf
def dot_S1x2048x16x64_S1x2048x64_S1x2048x16x2048_3_2_12_1_0_0 : DotDims S1x2048x16x64 S1x2048x64 S1x2048x16x2048 where
  lhsContracting := [3]
  rhsContracting := [2]
  lhsNonContracting := [1, 2]
  rhsNonContracting := [1]
  lhsBatch := [0]
  rhsBatch := [0]
  wf := dot_S1x2048x16x64_S1x2048x64_S1x2048x16x2048_3_2_12_1_0_0_wf
def fn_part4 {F : FTy → Type} [FloatOps F] (main_v71 : IVec S2048x2048 1) (main_v83 : IVec S2048x2048x2048 1) (main_c : IVec S_ 1) : IVec S_ 1 :=
  let main_v84 : IVec S_ 1 := (fun x v => Host.reduce IntOp.andi x v reducesTo_S2048x2048_S_d0_1 h_S_) main_v71 main_c
  let main_c_10 : IVec S_ 1 := constantI S_ 1 1#1
  let main_v85 : IVec S_ 1 := (fun x v => Host.reduce IntOp.andi x v reducesTo_S2048x2048x2048_S_d0_1_2 h_S_) main_v83 main_c_10
  let main_v86 : IVec S_ 1 := andi main_v84 main_v85
  main_v86

def fn_part3 {F : FTy → Type} [FloatOps F] (main_v61 : FVec F S1x2048x16x2048 .f32) (main_v62 : FVec F S1x2048x16x2048 .f32) : IVec S_ 1 :=
  let main_v63 : FVec F S1x2048x16x2048 .f32 := mulf main_v61 main_v62
  let main_cst_8 : FVec F S_ .f32 := constant S_ .f32 0x00000000#32
  let main_v64 : FVec F S1x2048x2048 .f32 := (fun x v => Host.reduceAdd x v reducesTo_S1x2048x16x2048_S1x2048x2048_d2 h_S_) main_v63 main_cst_8
  let main_v65 : FVec F S2048x2048 .f32 := shapeCast S2048x2048 main_v64 shapeCasts_S1x2048x2048_S2048x2048
  let main_v66 : IVec S2048x2048 32 := iotaInDim S2048x2048 32 0
  let main_v67 : IVec S2048x2048 32 := iotaInDim S2048x2048 32 1
  let main_v68 : IVec S2048x2048 1 := cmpi .sgt main_v67 main_v66
  let main_cst_9 : FVec F S_ .f32 := constant S_ .f32 0xF149F2CA#32
  let main_v69 : FVec F S2048x2048 .f32 := broadcastInDim S2048x2048 ![] bcast_S_S2048x2048 main_cst_9
  let main_v70 : IVec S2048x2048 1 := cmpf .ogt main_v65 main_v69
  let main_v71 : IVec S2048x2048 1 := ori main_v68 main_v70
  let main_v72 : IVec S2048x2048x2048 32 := iotaInDim S2048x2048x2048 32 0
  let main_v73 : IVec S2048x2048x2048 32 := iotaInDim S2048x2048x2048 32 1
  let main_v74 : IVec S2048x2048x2048 32 := iotaInDim S2048x2048x2048 32 2
  let main_v75 : IVec S2048x2048x2048 1 := cmpi .sgt main_v73 main_v72
  let main_v76 : IVec S2048x2048x2048 1 := cmpi .sge main_v74 main_v73
  let main_v77 : IVec S2048x2048x2048 1 := ori main_v75 main_v76
  let main_v78 : FVec F S2048x2048x1 .f32 := broadcastInDim S2048x2048x1 ![0, 1] bcast_S2048x2048_S2048x2048x1_0_1 main_v65
  let main_v79 : FVec F S2048x1x2048 .f32 := broadcastInDim S2048x1x2048 ![0, 2] bcast_S2048x2048_S2048x1x2048_0_2 main_v65
  let main_v80 : FVec F S2048x2048x2048 .f32 := broadcastInDim S2048x2048x2048 ![0, 1, 2] bcast_S2048x2048x1_S2048x2048x2048_0_1_2 main_v78
  let main_v81 : FVec F S2048x2048x2048 .f32 := broadcastInDim S2048x2048x2048 ![0, 1, 2] bcast_S2048x1x2048_S2048x2048x2048_0_1_2 main_v79
  let main_v82 : IVec S2048x2048x2048 1 := cmpf .une main_v80 main_v81
  let main_v83 : IVec S2048x2048x2048 1 := ori main_v77 main_v82
  let main_c : IVec S_ 1 := constantI S_ 1 1#1
  fn_part4 (F := F) main_v71 main_v83 main_c

def fn_part2 {F : FTy → Type} [FloatOps F] (main_arg0 : FVec F S1x2048x1024 .f32) (main_arg5 : FVec F S1024x16 .f32) (main_v31 : FVec F S1x1x2048x64 .f32) (main_v32 : FVec F S1x1x2048x64 .f32) (main_v33 : FVec F S1x1x2048x64 .f32) (main_v35 : FVec F S1x16x2048x64 .f32) (main_v41 : FVec F S1x16x2048x64 .f32) : IVec S_ 1 :=
  let main_v42 : FVec F S1x16x2048x64 .f32 := addf main_v35 main_v41
  let main_v43 : FVec F S1x1x2048x64 .f32 := mulf main_v31 main_v32
  let main_v44 : FVec F S1x1x2048x32 .f32 := (extractStridedSlice S1x1x2048x32 ![0, 0, 0, 32] · slices_S1x1x2048x64_S1x1x2048x32_0_0_0_32) main_v31
  let main_v45 : FVec F S1x1x2048x32 .f32 := Host.negf main_v44
  let main_v46 : FVec F S1x1x2048x32 .f32 := (extractStridedSlice S1x1x2048x32 ![0, 0, 0, 0] · slices_S1x1x2048x64_S1x1x2048x32_0_0_0_0) main_v31
  let main_v47 : FVec F S1x1x2048x64 .f32 := (fun a b => concatenate S1x1x2048x64 3 [⟨S1x1x2048x32, a⟩, ⟨S1x1x2048x32, b⟩] concatenates_S1x1x2048x32_S1x1x2048x32_S1x1x2048x64_d3) main_v45 main_v46
  let main_v48 : FVec F S1x1x2048x64 .f32 := mulf main_v47 main_v33
  let main_v49 : FVec F S1x1x2048x64 .f32 := addf main_v43 main_v48
  let main_v50 : FVec F S1x2048x16x64 .f32 := (transpose S1x2048x16x64 [0, 2, 1, 3] · transposes_S1x16x2048x64_S1x2048x16x64_0_2_1_3) main_v42
  let main_v51 : FVec F S1x2048x1x64 .f32 := (transpose S1x2048x1x64 [0, 2, 1, 3] · transposes_S1x1x2048x64_S1x2048x1x64_0_2_1_3) main_v49
  let main_v52 : FVec F S1x2048x64 .f32 := shapeCast S1x2048x64 main_v51 shapeCasts_S1x2048x1x64_S1x2048x64
  let main_v53 : FVec F S1x2048x16 .f32 := (fun l r => Host.dotGeneral dot_S1x2048x1024_S1024x16_S1x2048x16_2_0_01_1_n_n none l r) main_arg0 main_arg5
  let main_cst_5 : FVec F S_ .f32 := constant S_ .f32 0x3E800000#32
  let main_v54 : FVec F S1x2048x16 .f32 := broadcastInDim S1x2048x16 ![] bcast_S_S1x2048x16 main_cst_5
  let main_v55 : FVec F S1x2048x16 .f32 := mulf main_v53 main_v54
  let main_v56 : FVec F S1x2048x16x1 .f32 := broadcastInDim S1x2048x16x1 ![0, 1, 2] bcast_S1x2048x16_S1x2048x16x1_0_1_2 main_v55
  let main_cst_6 : FVec F S_ .f32 := constant S_ .f32 0x3E000000#32
  let main_v57 : FVec F S1x2048x16x1 .f32 := broadcastInDim S1x2048x16x1 ![] bcast_S_S1x2048x16x1 main_cst_6
  let main_v58 : FVec F S1x2048x16x1 .f32 := mulf main_v56 main_v57
  let main_v59 : FVec F S1x2048x16x2048 .f32 := (fun l r => Host.dotGeneral dot_S1x2048x16x64_S1x2048x64_S1x2048x16x2048_3_2_12_1_0_0 none l r) main_v50 main_v52
  let main_cst_7 : FVec F S_ .f32 := constant S_ .f32 0x00000000#32
  let main_v60 : FVec F S1x2048x16x2048 .f32 := broadcastInDim S1x2048x16x2048 ![] bcast_S_S1x2048x16x2048 main_cst_7
  let main_v61 : FVec F S1x2048x16x2048 .f32 := maximumf main_v59 main_v60
  let main_v62 : FVec F S1x2048x16x2048 .f32 := broadcastInDim S1x2048x16x2048 ![0, 1, 2, 3] bcast_S1x2048x16x1_S1x2048x16x2048_0_1_2_3 main_v58
  fn_part3 (F := F) main_v61 main_v62

def fn_part1 {F : FTy → Type} [FloatOps F] (main_arg0 : FVec F S1x2048x1024 .f32) (main_arg1 : FVec F S1x2048x64 .f32) (main_arg2 : FVec F S1x2048x64 .f32) (main_arg5 : FVec F S1024x16 .f32) (main_arg7 : FVec F S64 .f32) (main_v14 : FVec F S1x2048x16x64 .f32) (main_v16 : FVec F S1x2048x1x64 .f32) (main_v19 : FVec F S1x2048x1x1 .f32) : IVec S_ 1 :=
  let main_cst_3 : FVec F S_ .f32 := constant S_ .f32 0x42800000#32
  let main_v20 : FVec F S1x2048x1x1 .f32 := broadcastInDim S1x2048x1x1 ![] bcast_S_S1x2048x1x1 main_cst_3
  let main_v21 : FVec F S1x2048x1x1 .f32 := Host.divf main_v19 main_v20
  let main_cst_4 : FVec F S_ .f32 := constant S_ .f32 0x358637BD#32
  let main_v22 : FVec F S1x2048x1x1 .f32 := broadcastInDim S1x2048x1x1 ![] bcast_S_S1x2048x1x1 main_cst_4
  let main_v23 : FVec F S1x2048x1x1 .f32 := addf main_v21 main_v22
  let main_v24 : FVec F S1x2048x1x1 .f32 := Host.rsqrt main_v23
  let main_v25 : FVec F S1x2048x1x64 .f32 := broadcastInDim S1x2048x1x64 ![0, 1, 2, 3] bcast_S1x2048x1x1_S1x2048x1x64_0_1_2_3 main_v24
  let main_v26 : FVec F S1x2048x1x64 .f32 := mulf main_v16 main_v25
  let main_v27 : FVec F S1x1x1x64 .f32 := broadcastInDim S1x1x1x64 ![3] bcast_S64_S1x1x1x64_3 main_arg7
  let main_v28 : FVec F S1x2048x1x64 .f32 := broadcastInDim S1x2048x1x64 ![0, 1, 2, 3] bcast_S1x1x1x64_S1x2048x1x64_0_1_2_3 main_v27
  let main_v29 : FVec F S1x2048x1x64 .f32 := mulf main_v26 main_v28
  let main_v30 : FVec F S1x16x2048x64 .f32 := (transpose S1x16x2048x64 [0, 2, 1, 3] · transposes_S1x2048x16x64_S1x16x2048x64_0_2_1_3) main_v14
  let main_v31 : FVec F S1x1x2048x64 .f32 := (transpose S1x1x2048x64 [0, 2, 1, 3] · transposes_S1x2048x1x64_S1x1x2048x64_0_2_1_3) main_v29
  let main_v32 : FVec F S1x1x2048x64 .f32 := broadcastInDim S1x1x2048x64 ![0, 2, 3] bcast_S1x2048x64_S1x1x2048x64_0_2_3 main_arg1
  let main_v33 : FVec F S1x1x2048x64 .f32 := broadcastInDim S1x1x2048x64 ![0, 2, 3] bcast_S1x2048x64_S1x1x2048x64_0_2_3 main_arg2
  let main_v34 : FVec F S1x16x2048x64 .f32 := broadcastInDim S1x16x2048x64 ![0, 1, 2, 3] bcast_S1x1x2048x64_S1x16x2048x64_0_1_2_3 main_v32
  let main_v35 : FVec F S1x16x2048x64 .f32 := mulf main_v30 main_v34
  let main_v36 : FVec F S1x16x2048x32 .f32 := (extractStridedSlice S1x16x2048x32 ![0, 0, 0, 32] · slices_S1x16x2048x64_S1x16x2048x32_0_0_0_32) main_v30
  let main_v37 : FVec F S1x16x2048x32 .f32 := Host.negf main_v36
  let main_v38 : FVec F S1x16x2048x32 .f32 := (extractStridedSlice S1x16x2048x32 ![0, 0, 0, 0] · slices_S1x16x2048x64_S1x16x2048x32_0_0_0_0) main_v30
  let main_v39 : FVec F S1x16x2048x64 .f32 := (fun a b => concatenate S1x16x2048x64 3 [⟨S1x16x2048x32, a⟩, ⟨S1x16x2048x32, b⟩] concatenates_S1x16x2048x32_S1x16x2048x32_S1x16x2048x64_d3) main_v37 main_v38
  let main_v40 : FVec F S1x16x2048x64 .f32 := broadcastInDim S1x16x2048x64 ![0, 1, 2, 3] bcast_S1x1x2048x64_S1x16x2048x64_0_1_2_3 main_v33
  let main_v41 : FVec F S1x16x2048x64 .f32 := mulf main_v39 main_v40
  fn_part2 (F := F) main_arg0 main_arg5 main_v31 main_v32 main_v33 main_v35 main_v41

def fn {F : FTy → Type} [FloatOps F] (main_arg0 : FVec F S1x2048x1024 .f32) (main_arg1 : FVec F S1x2048x64 .f32) (main_arg2 : FVec F S1x2048x64 .f32) (main_arg3 : FVec F S1024x1024 .f32) (main_arg4 : FVec F S1024x64 .f32) (main_arg5 : FVec F S1024x16 .f32) (main_arg6 : FVec F S64 .f32) (main_arg7 : FVec F S64 .f32) (main_arg8 : IVec S_ 32) (main_arg9 : IVec S_ 32) (main_arg10 : IVec S_ 32) : IVec S_ 1 :=
  let main_v0 : FVec F S1x2048x1024 .f32 := (fun l r => Host.dotGeneral dot_S1x2048x1024_S1024x1024_S1x2048x1024_2_0_01_1_n_n none l r) main_arg0 main_arg3
  let main_v1 : FVec F S1x2048x16x64 .f32 := shapeCast S1x2048x16x64 main_v0 shapeCasts_S1x2048x1024_S1x2048x16x64
  let main_v2 : FVec F S1x2048x16x64 .f32 := mulf main_v1 main_v1
  let main_cst : FVec F S_ .f32 := constant S_ .f32 0x00000000#32
  let main_v3 : FVec F S1x2048x16 .f32 := (fun x v => Host.reduceAdd x v reducesTo_S1x2048x16x64_S1x2048x16_d3 h_S_) main_v2 main_cst
  let main_v4 : FVec F S1x2048x16x1 .f32 := broadcastInDim S1x2048x16x1 ![0, 1, 2] bcast_S1x2048x16_S1x2048x16x1_0_1_2 main_v3
  let main_cst_0 : FVec F S_ .f32 := constant S_ .f32 0x42800000#32
  let main_v5 : FVec F S1x2048x16x1 .f32 := broadcastInDim S1x2048x16x1 ![] bcast_S_S1x2048x16x1 main_cst_0
  let main_v6 : FVec F S1x2048x16x1 .f32 := Host.divf main_v4 main_v5
  let main_cst_1 : FVec F S_ .f32 := constant S_ .f32 0x358637BD#32
  let main_v7 : FVec F S1x2048x16x1 .f32 := broadcastInDim S1x2048x16x1 ![] bcast_S_S1x2048x16x1 main_cst_1
  let main_v8 : FVec F S1x2048x16x1 .f32 := addf main_v6 main_v7
  let main_v9 : FVec F S1x2048x16x1 .f32 := Host.rsqrt main_v8
  let main_v10 : FVec F S1x2048x16x64 .f32 := broadcastInDim S1x2048x16x64 ![0, 1, 2, 3] bcast_S1x2048x16x1_S1x2048x16x64_0_1_2_3 main_v9
  let main_v11 : FVec F S1x2048x16x64 .f32 := mulf main_v1 main_v10
  let main_v12 : FVec F S1x1x1x64 .f32 := broadcastInDim S1x1x1x64 ![3] bcast_S64_S1x1x1x64_3 main_arg6
  let main_v13 : FVec F S1x2048x16x64 .f32 := broadcastInDim S1x2048x16x64 ![0, 1, 2, 3] bcast_S1x1x1x64_S1x2048x16x64_0_1_2_3 main_v12
  let main_v14 : FVec F S1x2048x16x64 .f32 := mulf main_v11 main_v13
  let main_v15 : FVec F S1x2048x64 .f32 := (fun l r => Host.dotGeneral dot_S1x2048x1024_S1024x64_S1x2048x64_2_0_01_1_n_n none l r) main_arg0 main_arg4
  let main_v16 : FVec F S1x2048x1x64 .f32 := shapeCast S1x2048x1x64 main_v15 shapeCasts_S1x2048x64_S1x2048x1x64
  let main_v17 : FVec F S1x2048x1x64 .f32 := mulf main_v16 main_v16
  let main_cst_2 : FVec F S_ .f32 := constant S_ .f32 0x00000000#32
  let main_v18 : FVec F S1x2048x1 .f32 := (fun x v => Host.reduceAdd x v reducesTo_S1x2048x1x64_S1x2048x1_d3 h_S_) main_v17 main_cst_2
  let main_v19 : FVec F S1x2048x1x1 .f32 := broadcastInDim S1x2048x1x1 ![0, 1, 2] bcast_S1x2048x1_S1x2048x1x1_0_1_2 main_v18
  fn_part1 (F := F) main_arg0 main_arg1 main_arg2 main_arg5 main_arg7 main_v14 main_v16 main_v19
-- ==== Kernel.lean ====
abbrev S1x2048x1024 : Shape := ⟨3, ![1, 2048, 1024]⟩
abbrev S1x2048x64 : Shape := ⟨3, ![1, 2048, 64]⟩
abbrev S1024x1024 : Shape := ⟨2, ![1024, 1024]⟩
abbrev S1024x64 : Shape := ⟨2, ![1024, 64]⟩
abbrev S1024x16 : Shape := ⟨2, ![1024, 16]⟩
abbrev S64 : Shape := ⟨1, ![64]⟩
abbrev S_ : Shape := ⟨0, ![]⟩
abbrev S2048x1024 : Shape := ⟨2, ![2048, 1024]⟩
abbrev S2048x64 : Shape := ⟨2, ![2048, 64]⟩
abbrev S2048x16 : Shape := ⟨2, ![2048, 16]⟩
abbrev S256x1024 : Shape := ⟨2, ![256, 1024]⟩
abbrev S256x64 : Shape := ⟨2, ![256, 64]⟩
abbrev S256x16 : Shape := ⟨2, ![256, 16]⟩
abbrev S1x2048x16x64 : Shape := ⟨4, ![1, 2048, 16, 64]⟩
abbrev S1x2048x16 : Shape := ⟨3, ![1, 2048, 16]⟩
abbrev S1x2048x16x1 : Shape := ⟨4, ![1, 2048, 16, 1]⟩
abbrev S1x1x1x64 : Shape := ⟨4, ![1, 1, 1, 64]⟩
abbrev S1x2048x1x64 : Shape := ⟨4, ![1, 2048, 1, 64]⟩
abbrev S1x2048x1 : Shape := ⟨3, ![1, 2048, 1]⟩
abbrev S1x2048x1x1 : Shape := ⟨4, ![1, 2048, 1, 1]⟩
abbrev S1x16x2048x64 : Shape := ⟨4, ![1, 16, 2048, 64]⟩
abbrev S1x1x2048x64 : Shape := ⟨4, ![1, 1, 2048, 64]⟩
abbrev S1x16x2048x32 : Shape := ⟨4, ![1, 16, 2048, 32]⟩
abbrev S1x1x2048x32 : Shape := ⟨4, ![1, 1, 2048, 32]⟩
abbrev S2048x2048 : Shape := ⟨2, ![2048, 2048]⟩
abbrev S256x2048 : Shape := ⟨2, ![256, 2048]⟩
abbrev S256x1 : Shape := ⟨2, ![256, 1]⟩
abbrev S256x256 : Shape := ⟨2, ![256, 256]⟩
abbrev S64x256 : Shape := ⟨2, ![64, 256]⟩
abbrev S64x128 : Shape := ⟨2, ![64, 128]⟩
abbrev S1792 : Shape := ⟨1, ![1792]⟩
abbrev S1x1792 : Shape := ⟨2, ![1, 1792]⟩
abbrev S256x1792 : Shape := ⟨2, ![256, 1792]⟩
abbrev S256x512 : Shape := ⟨2, ![256, 512]⟩
abbrev S64x512 : Shape := ⟨2, ![64, 512]⟩
abbrev S1536 : Shape := ⟨1, ![1536]⟩
abbrev S1x1536 : Shape := ⟨2, ![1, 1536]⟩
abbrev S256x1536 : Shape := ⟨2, ![256, 1536]⟩
abbrev S512x1024 : Shape := ⟨2, ![512, 1024]⟩
abbrev S32x1024 : Shape := ⟨2, ![32, 1024]⟩
abbrev S32x128 : Shape := ⟨2, ![32, 128]⟩
abbrev S32x256 : Shape := ⟨2, ![32, 256]⟩
abbrev S32x512 : Shape := ⟨2, ![32, 512]⟩
abbrev S1024 : Shape := ⟨1, ![1024]⟩
abbrev S1x1024 : Shape := ⟨2, ![1, 1024]⟩
abbrev S512x2048 : Shape := ⟨2, ![512, 2048]⟩
abbrev S1024x2048 : Shape := ⟨2, ![1024, 2048]⟩
abbrev S32x2048 : Shape := ⟨2, ![32, 2048]⟩
abbrev S1x2048x2048 : Shape := ⟨3, ![1, 2048, 2048]⟩

abbrev nBuf : Space → Nat
  | .hbm => 110
  | .vmem => 34
  | .smem => 0
  | _ => 0

abbrev bufTy : (tb : Table) → Fin (tcTables nBuf tb) → BufTy
  | .hbm, ⟨0, _⟩ => ⟨S1x2048x1024, .f32⟩
  | .hbm, ⟨1, _⟩ => ⟨S1x2048x64, .f32⟩
  | .hbm, ⟨2, _⟩ => ⟨S1x2048x64, .f32⟩
  | .hbm, ⟨3, _⟩ => ⟨S1024x1024, .f32⟩
  | .hbm, ⟨4, _⟩ => ⟨S1024x64, .f32⟩
  | .hbm, ⟨5, _⟩ => ⟨S1024x16, .f32⟩
  | .hbm, ⟨6, _⟩ => ⟨S64, .f32⟩
  | .hbm, ⟨7, _⟩ => ⟨S64, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .f32⟩
  | .hbm, ⟨12, _⟩ => ⟨S2048x1024, .f32⟩
  | .hbm, ⟨13, _⟩ => ⟨S2048x64, .f32⟩
  | .hbm, ⟨14, _⟩ => ⟨S2048x16, .f32⟩
  | .hbm, ⟨15, _⟩ => ⟨S1x2048x16x64, .f32⟩
  | .hbm, ⟨16, _⟩ => ⟨S1x2048x16x64, .f32⟩
  | .hbm, ⟨17, _⟩ => ⟨S_, .f32⟩
  | .hbm, ⟨18, _⟩ => ⟨S1x2048x16, .f32⟩
  | .hbm, ⟨19, _⟩ => ⟨S1x2048x16x1, .f32⟩
  | .hbm, ⟨20, _⟩ => ⟨S_, .f32⟩
  | .hbm, ⟨21, _⟩ => ⟨S1x2048x16x1, .f32⟩
  | .hbm, ⟨22, _⟩ => ⟨S1x2048x16x1, .f32⟩
  | .hbm, ⟨23, _⟩ => ⟨S_, .f32⟩
  | .hbm, ⟨24, _⟩ => ⟨S1x2048x16x1, .f32⟩
  | .hbm, ⟨25, _⟩ => ⟨S1x2048x16x1, .f32⟩
  | .hbm, ⟨26, _⟩ => ⟨S1x2048x16x1, .f32⟩
  | .hbm, ⟨27, _⟩ => ⟨S1x2048x16x64, .f32⟩
  | .hbm, ⟨28, _⟩ => ⟨S1x2048x16x64, .f32⟩
  | .hbm, ⟨29, _⟩ => ⟨S1x1x1x64, .f32⟩
  | .hbm, ⟨30, _⟩ => ⟨S1x2048x16x64, .f32⟩
  | .hbm, ⟨31, _⟩ => ⟨S1x2048x16x64, .f32⟩
  | .hbm, ⟨32, _⟩ => ⟨S1x2048x1x64, .f32⟩
  | .hbm, ⟨33, _⟩ => ⟨S1x2048x1x64, .f32⟩
  | .hbm, ⟨34, _⟩ => ⟨S_, .f32⟩
  | .hbm, ⟨35, _⟩ => ⟨S1x2048x1, .f32⟩
  | .hbm, ⟨36, _⟩ => ⟨S1x2048x1x1, .f32⟩
  | .hbm, ⟨37, _⟩ => ⟨S_, .f32⟩
  | .hbm, ⟨38, _⟩ => ⟨S1x2048x1x1, .f32⟩
  | .hbm, ⟨39, _⟩ => ⟨S1x2048x1x1, .f32⟩
  | .hbm, ⟨40, _⟩ => ⟨S_, .f32⟩
  | .hbm, ⟨41, _⟩ => ⟨S1x2048x1x1, .f32⟩
  | .hbm, ⟨42, _⟩ => ⟨S1x2048x1x1, .f32⟩
  | .hbm, ⟨43, _⟩ => ⟨S1x2048x1x1, .f32⟩
  | .hbm, ⟨44, _⟩ => ⟨S1x2048x1x64, .f32⟩
  | .hbm, ⟨45, _⟩ => ⟨S1x2048x1x64, .f32⟩
  | .hbm, ⟨46, _⟩ => ⟨S1x1x1x64, .f32⟩
  | .hbm, ⟨47, _⟩ => ⟨S1x2048x1x64, .f32⟩
  | .hbm, ⟨48, _⟩ => ⟨S1x2048x1x64, .f32⟩
  | .hbm, ⟨49, _⟩ => ⟨S1x16x2048x64, .f32⟩
  | .hbm, ⟨50, _⟩ => ⟨S1x1x2048x64, .f32⟩
  | .hbm, ⟨51, _⟩ => ⟨S1x1x2048x64, .f32⟩
  | .hbm, ⟨52, _⟩ => ⟨S1x1x2048x64, .f32⟩
  | .hbm, ⟨53, _⟩ => ⟨S1x16x2048x64, .f32⟩
  | .hbm, ⟨54, _⟩ => ⟨S1x16x2048x64, .f32⟩
  | .hbm, ⟨55, _⟩ => ⟨S1x16x2048x32, .f32⟩
  | .hbm, ⟨56, _⟩ => ⟨S1x16x2048x32, .f32⟩
  | .hbm, ⟨57, _⟩ => ⟨S1x16x2048x32, .f32⟩
  | .hbm, ⟨58, _⟩ => ⟨S1x16x2048x64, .f32⟩
  | .hbm, ⟨59, _⟩ => ⟨S1x16x2048x64, .f32⟩
  | .hbm, ⟨60, _⟩ => ⟨S1x16x2048x64, .f32⟩
  | .hbm, ⟨61, _⟩ => ⟨S1x16x2048x64, .f32⟩
  | .hbm, ⟨62, _⟩ => ⟨S1x1x2048x64, .f32⟩
  | .hbm, ⟨63, _⟩ => ⟨S1x1x2048x32, .f32⟩
  | .hbm, ⟨64, _⟩ => ⟨S1x1x2048x32, .f32⟩
  | .hbm, ⟨65, _⟩ => ⟨S1x1x2048x32, .f32⟩
  | .hbm, ⟨66, _⟩ => ⟨S1x1x2048x64, .f32⟩
  | .hbm, ⟨67, _⟩ => ⟨S1x1x2048x64, .f32⟩
  | .hbm, ⟨68, _⟩ => ⟨S1x1x2048x64, .f32⟩
  | .hbm, ⟨69, _⟩ => ⟨S1x2048x16x64, .f32⟩
  | .hbm, ⟨70, _⟩ => ⟨S1x2048x1x64, .f32⟩
  | .hbm, ⟨71, _⟩ => ⟨S1x2048x64, .f32⟩
  | .hbm, ⟨72, _⟩ => ⟨S1x2048x16, .f32⟩
  | .hbm, ⟨73, _⟩ => ⟨S_, .f32⟩
  | .hbm, ⟨74, _⟩ => ⟨S1x2048x16, .f32⟩
  | .hbm, ⟨75, _⟩ => ⟨S1x2048x16, .f32⟩
  | .hbm, ⟨76, _⟩ => ⟨S_, .f32⟩
  | .hbm, ⟨77, _⟩ => ⟨S1x2048x16, .f32⟩
  | .hbm, ⟨78, _⟩ => ⟨S1x2048x16, .f32⟩
  | .hbm, ⟨79, _⟩ => ⟨S2048x1024, .f32⟩
  | .hbm, ⟨80, _⟩ => ⟨S2048x16, .f32⟩
  | .hbm, ⟨81, _⟩ => ⟨S2048x64, .f32⟩
  | .hbm, ⟨82, _⟩ => ⟨S2048x2048, .f32⟩
  | .hbm, ⟨83, _⟩ => ⟨S256x256, .i32⟩
  | .hbm, ⟨84, _⟩ => ⟨S1792, .i32⟩
  | .hbm, ⟨85, _⟩ => ⟨S_, .i32⟩
  | .hbm, ⟨86, _⟩ => ⟨S1792, .i32⟩
  | .hbm, ⟨87, _⟩ => ⟨S1792, .i32⟩
  | .hbm, ⟨88, _⟩ => ⟨S1x1792, .i32⟩
  | .hbm, ⟨89, _⟩ => ⟨S256x1792, .i32⟩
  | .hbm, ⟨90, _⟩ => ⟨S256x2048, .i32⟩
  | .hbm, ⟨91, _⟩ => ⟨S256x512, .i32⟩
  | .hbm, ⟨92, _⟩ => ⟨S1536, .i32⟩
  | .hbm, ⟨93, _⟩ => ⟨S_, .i32⟩
  | .hbm, ⟨94, _⟩ => ⟨S1536, .i32⟩
  | .hbm, ⟨95, _⟩ => ⟨S1536, .i32⟩
  | .hbm, ⟨96, _⟩ => ⟨S1x1536, .i32⟩
  | .hbm, ⟨97, _⟩ => ⟨S256x1536, .i32⟩
  | .hbm, ⟨98, _⟩ => ⟨S256x2048, .i32⟩
  | .hbm, ⟨99, _⟩ => ⟨S512x1024, .i32⟩
  | .hbm, ⟨100, _⟩ => ⟨S1024, .i32⟩
  | .hbm, ⟨101, _⟩ => ⟨S_, .i32⟩
  | .hbm, ⟨102, _⟩ => ⟨S1024, .i32⟩
  | .hbm, ⟨103, _⟩ => ⟨S1024, .i32⟩
  | .hbm, ⟨104, _⟩ => ⟨S1x1024, .i32⟩
  | .hbm, ⟨105, _⟩ => ⟨S512x1024, .i32⟩
  | .hbm, ⟨106, _⟩ => ⟨S512x2048, .i32⟩
  | .hbm, ⟨107, _⟩ => ⟨S1024x2048, .i32⟩
  | .hbm, ⟨108, _⟩ => ⟨S2048x2048, .i32⟩
  | .hbm, ⟨109, _⟩ => ⟨S1x2048x2048, .i32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x64, .f32⟩
  | .local _ .vmem, ⟨4, _⟩ => ⟨S1024x16, .f32⟩
  | .local _ .vmem, ⟨5, _⟩ => ⟨S256x1024, .f32⟩
  | .local _ .vmem, ⟨6, _⟩ => ⟨S256x1024, .f32⟩
  | .local _ .vmem, ⟨7, _⟩ => ⟨S256x64, .f32⟩
  | .local _ .vmem, ⟨8, _⟩ => ⟨S256x64, .f32⟩
  | .local _ .vmem, ⟨9, _⟩ => ⟨S256x16, .f32⟩
  | .local _ .vmem, ⟨10, _⟩ => ⟨S256x16, .f32⟩
  | .local _ .vmem, ⟨11, _⟩ => ⟨S256x1024, .f32⟩
  | .local _ .vmem, ⟨12, _⟩ => ⟨S256x1024, .f32⟩
  | .local _ .vmem, ⟨13, _⟩ => ⟨S256x16, .f32⟩
  | .local _ .vmem, ⟨14, _⟩ => ⟨S256x16, .f32⟩
  | .local _ .vmem, ⟨15, _⟩ => ⟨S2048x64, .f32⟩
  | .local _ .vmem, ⟨16, _⟩ => ⟨S256x2048, .f32⟩
  | .local _ .vmem, ⟨17, _⟩ => ⟨S256x2048, .f32⟩
  | .local _ .vmem, ⟨18, _⟩ => ⟨S64x256, .f32⟩
  | .local _ .vmem, ⟨19, _⟩ => ⟨S64x256, .f32⟩
  | .local _ .vmem, ⟨20, _⟩ => ⟨S64x256, .i32⟩
  | .local _ .vmem, ⟨21, _⟩ => ⟨S64x256, .i32⟩
  | .local _ .vmem, ⟨22, _⟩ => ⟨S64x512, .f32⟩
  | .local _ .vmem, ⟨23, _⟩ => ⟨S64x512, .f32⟩
  | .local _ .vmem, ⟨24, _⟩ => ⟨S64x512, .i32⟩
  | .local _ .vmem, ⟨25, _⟩ => ⟨S64x512, .i32⟩
  | .local _ .vmem, ⟨26, _⟩ => ⟨S32x1024, .f32⟩
  | .local _ .vmem, ⟨27, _⟩ => ⟨S32x1024, .f32⟩
  | .local _ .vmem, ⟨28, _⟩ => ⟨S32x1024, .i32⟩
  | .local _ .vmem, ⟨29, _⟩ => ⟨S32x1024, .i32⟩
  | .local _ .vmem, ⟨30, _⟩ => ⟨S32x2048, .f32⟩
  | .local _ .vmem, ⟨31, _⟩ => ⟨S32x2048, .f32⟩
  | .local _ .vmem, ⟨32, _⟩ => ⟨S32x2048, .i32⟩
  | .local _ .vmem, ⟨33, _⟩ => ⟨S32x2048, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_7 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_8 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc5_sem0_0 : DmaSem sig := 30
abbrev cc5_sem0_1 : DmaSem sig := 31
abbrev cc5_sem1_0 : DmaSem sig := 32
abbrev cc5_sem1_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x256 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x512 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S32x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S32x1024 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S32x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S32x2048 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]
-- ==== ReferenceIdeal.lean ====
abbrev S1x2048x1024 : Shape := ⟨3, ![1, 2048, 1024]⟩
abbrev S1x2048x64 : Shape := ⟨3, ![1, 2048, 64]⟩
abbrev S1024x1024 : Shape := ⟨2, ![1024, 1024]⟩
abbrev S1024x64 : Shape := ⟨2, ![1024, 64]⟩
abbrev S1024x16 : Shape := ⟨2, ![1024, 16]⟩
abbrev S64 : Shape := ⟨1, ![64]⟩
abbrev S_ : Shape := ⟨0, ![]⟩
abbrev S1x2048x16x64 : Shape := ⟨4, ![1, 2048, 16, 64]⟩
abbrev S1x2048x16 : Shape := ⟨3, ![1, 2048, 16]⟩
abbrev S1x2048x16x1 : Shape := ⟨4, ![1, 2048, 16, 1]⟩
abbrev S1x1x1x64 : Shape := ⟨4, ![1, 1, 1, 64]⟩
abbrev S1x2048x1x64 : Shape := ⟨4, ![1, 2048, 1, 64]⟩
abbrev S1x2048x1 : Shape := ⟨3, ![1, 2048, 1]⟩
abbrev S1x2048x1x1 : Shape := ⟨4, ![1, 2048, 1, 1]⟩
abbrev S1x16x2048x64 : Shape := ⟨4, ![1, 16, 2048, 64]⟩
abbrev S1x1x2048x64 : Shape := ⟨4, ![1, 1, 2048, 64]⟩
abbrev S1x16x2048x32 : Shape := ⟨4, ![1, 16, 2048, 32]⟩
abbrev S1x1x2048x32 : Shape := ⟨4, ![1, 1, 2048, 32]⟩
abbrev S1x2048x16x2048 : Shape := ⟨4, ![1, 2048, 16, 2048]⟩
abbrev S1x2048x2048 : Shape := ⟨3, ![1, 2048, 2048]⟩

abbrev nBuf : Space → Nat
  | .hbm => 98
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x64, .f32⟩
  | .hbm, ⟨2, _⟩ => ⟨S1x2048x64, .f32⟩
  | .hbm, ⟨3, _⟩ => ⟨S1024x1024, .f32⟩
  | .hbm, ⟨4, _⟩ => ⟨S1024x64, .f32⟩
  | .hbm, ⟨5, _⟩ => ⟨S1024x16, .f32⟩
  | .hbm, ⟨6, _⟩ => ⟨S64, .f32⟩
  | .hbm, ⟨7, _⟩ => ⟨S64, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x2048x1024, .f32⟩
  | .hbm, ⟨12, _⟩ => ⟨S1x2048x16x64, .f32⟩
  | .hbm, ⟨13, _⟩ => ⟨S1x2048x16x64, .f32⟩
  | .hbm, ⟨14, _⟩ => ⟨S_, .f32⟩
  | .hbm, ⟨15, _⟩ => ⟨S1x2048x16, .f32⟩
  | .hbm, ⟨16, _⟩ => ⟨S1x2048x16x1, .f32⟩
  | .hbm, ⟨17, _⟩ => ⟨S_, .f32⟩
  | .hbm, ⟨18, _⟩ => ⟨S1x2048x16x1, .f32⟩
  | .hbm, ⟨19, _⟩ => ⟨S1x2048x16x1, .f32⟩
  | .hbm, ⟨20, _⟩ => ⟨S_, .f32⟩
  | .hbm, ⟨21, _⟩ => ⟨S1x2048x16x1, .f32⟩
  | .hbm, ⟨22, _⟩ => ⟨S1x2048x16x1, .f32⟩
  | .hbm, ⟨23, _⟩ => ⟨S1x2048x16x1, .f32⟩
  | .hbm, ⟨24, _⟩ => ⟨S1x2048x16x64, .f32⟩
  | .hbm, ⟨25, _⟩ => ⟨S1x2048x16x64, .f32⟩
  | .hbm, ⟨26, _⟩ => ⟨S1x1x1x64, .f32⟩
  | .hbm, ⟨27, _⟩ => ⟨S1x2048x16x64, .f32⟩
  | .hbm, ⟨28, _⟩ => ⟨S1x2048x16x64, .f32⟩
  | .hbm, ⟨29, _⟩ => ⟨S1x2048x64, .f32⟩
  | .hbm, ⟨30, _⟩ => ⟨S1x2048x1x64, .f32⟩
  | .hbm, ⟨31, _⟩ => ⟨S1x2048x1x64, .f32⟩
  | .hbm, ⟨32, _⟩ => ⟨S_, .f32⟩
  | .hbm, ⟨33, _⟩ => ⟨S1x2048x1, .f32⟩
  | .hbm, ⟨34, _⟩ => ⟨S1x2048x1x1, .f32⟩
  | .hbm, ⟨35, _⟩ => ⟨S_, .f32⟩
  | .hbm, ⟨36, _⟩ => ⟨S1x2048x1x1, .f32⟩
  | .hbm, ⟨37, _⟩ => ⟨S1x2048x1x1, .f32⟩
  | .hbm, ⟨38, _⟩ => ⟨S_, .f32⟩
  | .hbm, ⟨39, _⟩ => ⟨S1x2048x1x1, .f32⟩
  | .hbm, ⟨40, _⟩ => ⟨S1x2048x1x1, .f32⟩
  | .hbm, ⟨41, _⟩ => ⟨S1x2048x1x1, .f32⟩
  | .hbm, ⟨42, _⟩ => ⟨S1x2048x1x64, .f32⟩
  | .hbm, ⟨43, _⟩ => ⟨S1x2048x1x64, .f32⟩
  | .hbm, ⟨44, _⟩ => ⟨S1x1x1x64, .f32⟩
  | .hbm, ⟨45, _⟩ => ⟨S1x2048x1x64, .f32⟩
  | .hbm, ⟨46, _⟩ => ⟨S1x2048x1x64, .f32⟩
  | .hbm, ⟨47, _⟩ => ⟨S1x16x2048x64, .f32⟩
  | .hbm, ⟨48, _⟩ => ⟨S1x1x2048x64, .f32⟩
  | .hbm, ⟨49, _⟩ => ⟨S1x1x2048x64, .f32⟩
  | .hbm, ⟨50, _⟩ => ⟨S1x1x2048x64, .f32⟩
  | .hbm, ⟨51, _⟩ => ⟨S1x16x2048x64, .f32⟩
  | .hbm, ⟨52, _⟩ => ⟨S1x16x2048x64, .f32⟩
  | .hbm, ⟨53, _⟩ => ⟨S1x16x2048x32, .f32⟩
  | .hbm, ⟨54, _⟩ => ⟨S1x16x2048x32, .f32⟩
  | .hbm, ⟨55, _⟩ => ⟨S1x16x2048x32, .f32⟩
  | .hbm, ⟨56, _⟩ => ⟨S1x16x2048x64, .f32⟩
  | .hbm, ⟨57, _⟩ => ⟨S1x16x2048x64, .f32⟩
  | .hbm, ⟨58, _⟩ => ⟨S1x16x2048x64, .f32⟩
  | .hbm, ⟨59, _⟩ => ⟨S1x16x2048x64, .f32⟩
  | .hbm, ⟨60, _⟩ => ⟨S1x1x2048x64, .f32⟩
  | .hbm, ⟨61, _⟩ => ⟨S1x1x2048x32, .f32⟩
  | .hbm, ⟨62, _⟩ => ⟨S1x1x2048x32, .f32⟩
  | .hbm, ⟨63, _⟩ => ⟨S1x1x2048x32, .f32⟩
  | .hbm, ⟨64, _⟩ => ⟨S1x1x2048x64, .f32⟩
  | .hbm, ⟨65, _⟩ => ⟨S1x1x2048x64, .f32⟩
  | .hbm, ⟨66, _⟩ => ⟨S1x1x2048x64, .f32⟩
  | .hbm, ⟨67, _⟩ => ⟨S1x2048x16x64, .f32⟩
  | .hbm, ⟨68, _⟩ => ⟨S1x2048x1x64, .f32⟩
  | .hbm, ⟨69, _⟩ => ⟨S1x2048x64, .f32⟩
  | .hbm, ⟨70, _⟩ => ⟨S1x2048x16, .f32⟩
  | .hbm, ⟨71, _⟩ => ⟨S_, .f32⟩
  | .hbm, ⟨72, _⟩ => ⟨S1x2048x16, .f32⟩
  | .hbm, ⟨73, _⟩ => ⟨S1x2048x16, .f32⟩
  | .hbm, ⟨74, _⟩ => ⟨S1x2048x16x1, .f32⟩
  | .hbm, ⟨75, _⟩ => ⟨S_, .f32⟩
  | .hbm, ⟨76, _⟩ => ⟨S1x2048x16x1, .f32⟩
  | .hbm, ⟨77, _⟩ => ⟨S1x2048x16x1, .f32⟩
  | .hbm, ⟨78, _⟩ => ⟨S1x2048x16x2048, .f32⟩
  | .hbm, ⟨79, _⟩ => ⟨S_, .f32⟩
  | .hbm, ⟨80, _⟩ => ⟨S1x2048x16x2048, .f32⟩
  | .hbm, ⟨81, _⟩ => ⟨S1x2048x16x2048, .f32⟩
  | .hbm, ⟨82, _⟩ => ⟨S1x2048x16x2048, .f32⟩
  | .hbm, ⟨83, _⟩ => ⟨S1x2048x16x2048, .f32⟩
  | .hbm, ⟨84, _⟩ => ⟨S_, .f32⟩
  | .hbm, ⟨85, _⟩ => ⟨S1x2048x2048, .f32⟩
  | .hbm, ⟨86, _⟩ => ⟨S1x2048x2048, .i32⟩
  | .hbm, ⟨87, _⟩ => ⟨S1x2048x2048, .i32⟩
  | .hbm, ⟨88, _⟩ => ⟨S1x2048x2048, .i1⟩
  | .hbm, ⟨89, _⟩ => ⟨S_, .f32⟩
  | .hbm, ⟨90, _⟩ => ⟨S_, .f32⟩
  | .hbm, ⟨91, _⟩ => ⟨S1x2048x2048, .f32⟩
  | .hbm, ⟨92, _⟩ => ⟨S1x2048x2048, .f32⟩
  | .hbm, ⟨93, _⟩ => ⟨S1x2048x2048, .f32⟩
  | .hbm, ⟨94, _⟩ => ⟨S1x2048x2048, .f32⟩
  | .hbm, ⟨95, _⟩ => ⟨S1x2048x2048, .f32⟩
  | .hbm, ⟨96, _⟩ => ⟨S1x2048x2048, .f32⟩
  | .hbm, ⟨97, _⟩ => ⟨S1x2048x2048, .i32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_cst_10 : Ref sig .tc := ⟨.hbm, 90, rfl⟩
abbrev main_call0_v0 : Ref sig .tc := ⟨.hbm, 91, rfl⟩
abbrev main_call0_v1 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_values : Ref sig .tc := ⟨.hbm, 96, rfl⟩
abbrev main_indices : Ref sig .tc := ⟨.hbm, 97, rfl⟩

abbrev nD : Nat := 1
abbrev τ : Topo := Topo.v7x

variable {F : FTy → Type} [FloatOps F]
-- ==== Proof.Run.lean ====
/-
  The kernel's run, with its result: every execution ends with each buffer of the main program at the contents that the fold over its
  host stretches and calls gives it, so the result array holds what the fold's last valuation holds there.
-/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one
set_option backward.isDefEq.respectTransparency.types false in
/-- Every execution of the main program ends with each unscoped buffer at the last boundary's contents. -/
theorem boundary_run : θ_run defs (onTc (τ := τ) (main (F := F))) ⟨m, fun _ => 0, ρ⟩ (fun r =>
    ∀ (c : Dev nD) (b : Ref sig .tc), ¬ (Proc.devRef .tc b : DevRef τ sig).isScoped →
      r.2.mem ((c.tc : Thread nD τ).loc b) = W12 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ c b hb => h c _ (mem_uc b hb))

/-- Every execution ends with the result array at the last boundary's contents and the arguments as launched. -/
theorem result_run : θ_run defs (onTc (τ := τ) (main (F := F))) ⟨m, fun _ => 0, ρ⟩ (fun r => ∀ c : Dev nD,
    r.2.mem ((c.tc : Thread nD τ).loc main_v85) = W12 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨h c main_v85 (by decide),
     (h c main_arg0 (by decide)).trans (W12_main_arg0 m ρ c),
     (h c main_arg1 (by decide)).trans (W12_main_arg1 m ρ c),
     (h c main_arg2 (by decide)).trans (W12_main_arg2 m ρ c),
     (h c main_arg3 (by decide)).trans (W12_main_arg3 m ρ c),
     (h c main_arg4 (by decide)).trans (W12_main_arg4 m ρ c),
     (h c main_arg5 (by decide)).trans (W12_main_arg5 m ρ c),
     (h c main_arg6 (by decide)).trans (W12_main_arg6 m ρ c),
     (h c main_arg7 (by decide)).trans (W12_main_arg7 m ρ c),
     (h c main_arg8 (by decide)).trans (W12_main_arg8 m ρ c),
     (h c main_arg9 (by decide)).trans (W12_main_arg9 m ρ c),
     (h c main_arg10 (by decide)).trans (W12_main_arg10 m ρ c)⟩)
    (boundary_run m ρ)

end Cert.KernelIdeal.Run
-- ==== Proof.Proj.lean ====
/-
  What the projection launch leaves in its three arrays: each entry is the sum, over the 1024 features, of the row's feature times the
  weight of that feature and column.
-/
module

public import proofs.«01_k».proof.Proof.Gen.KernelIdeal.Frame
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Scores

open Idealize.ShloMosaic Idealize.ShloMosaic.Pipeline Cert.KernelIdeal.Gen Cert.KernelIdeal

/-- The sum, over the 1024 features, of a row's feature times the weight of that feature and column. -/
def projected {M : Nat} (x : S2048x1024.Idx → EReal) (w : (⟨2, ![1024, M]⟩ : Shape).Idx → EReal) (r : Fin 2048) (j : Fin M) : EReal :=
  ∑ k : Fin 1024, x (ix2 r k) * w (ix2 k j)

/-- One block of the query projection, at an entry. -/
theorem out0_4_apply (x0 : Vec Ideal S256x1024 .f32) (x1 : Vec Ideal S1024x1024 .f32) (x2 : Vec Ideal S1024x64 .f32)
    (x3 : Vec Ideal S1024x16 .f32) (y : S256x1024.Idx) :
    out0_4 x0 x1 x2 x3 y = ∑ k : Fin 1024, (x0 (ix2 (y 0) k) : EReal) * (x1 (ix2 k (y 1)) : EReal) := by
  have e1 : out0_4 x0 x1 x2 x3 = k0_pay2 (View.ld x0 r0_0) (View.ld x1 r0_1) :=
    View.canon_cons_unit_lit inb_S256x1024_S256x1024_0_0 _ _ (by decide)
  have e2 : View.ld x0 r0_0 = x0 := View.ld_unit_lit inb_S256x1024_S256x1024_0_0 x0 (by decide)
  have e3 : View.ld x1 r0_1 = x1 := View.ld_unit_lit inb_S1024x1024_S1024x1024_0_0 x1 (by decide)
  rw [e1, e2, e3]
  unfold k0_pay2 k0_pay1
  rw [shapeCast_self]
  simp only [pointwise, Ideal.ofBits_zero_f32, zero_add]

/-- One block of the key projection, at an entry. -/
theorem out0_5_apply (x0 : Vec Ideal S256x1024 .f32) (x1 : Vec Ideal S1024x1024 .f32) (x2 : Vec Ideal S1024x64 .f32)
    (x3 : Vec Ideal S1024x16 .f32) (y : S256x64.Idx) :
    out0_5 x0 x1 x2 x3 y = ∑ k : Fin 1024, (x0 (ix2 (y 0) k) : EReal) * (x2 (ix2 k (y 1)) : EReal) := by
  have e1 : out0_5 x0 x1 x2 x3 = k0_pay3 (View.ld x0 r0_0) (View.ld x2 r0_2) :=
    View.canon_cons_unit_lit inb_S256x64_S256x64_0_0 _ _ (by decide)
  have e2 : View.ld x0 r0_0 = x0 := View.ld_unit_lit inb_S256x1024_S256x1024_0_0 x0 (by decide)
  have e3 : View.ld x2 r0_2 = x2 := View.ld_unit_lit inb_S1024x64_S1024x64_0_0 x2 (by decide)
  rw [e1, e2, e3]
  unfold k0_pay3 k0_pay1
  rw [shapeCast_self]
  simp only [pointwise, Ideal.ofBits_zero_f32, zero_add]

/-- One block of the weight projection, at an entry. -/
theorem out0_6_apply (x0 : Vec Ideal S256x1024 .f32) (x1 : Vec Ideal S1024x1024 .f32) (x2 : Vec Ideal S1024x64 .f32)
    (x3 : Vec Ideal S1024x16 .f32) (y : S256x16.Idx) :
    out0_6 x0 x1 x2 x3 y = ∑ k : Fin 1024, (x0 (ix2 (y 0) k) : EReal) * (x3 (ix2 k (y 1)) : EReal) := by
  have e1 : out0_6 x0 x1 x2 x3 = k0_pay4 (View.ld x0 r0_0) (View.ld x3 r0_4) :=
    View.canon_cons_unit_lit inb_S256x16_S256x16_0_0 _ _ (by decide)
  have e2 : View.ld x0 r0_0 = x0 := View.ld_unit_lit inb_S256x1024_S256x1024_0_0 x0 (by decide)
  have e3 : View.ld x3 r0_4 = x3 := View.ld_unit_lit inb_S1024x16_S1024x16_0_0 x3 (by decide)
  rw [e1, e2, e3]
  unfold k0_pay4 k0_pay1
  rw [shapeCast_self]
  simp only [pointwise, Ideal.ofBits_zero_f32, zero_add]

variable (V : (c : Dev nD) → (b : Ref sig .tc) → Buf (Elt Ideal) ((c.tc : Thread nD τ).loc b)) (c : Dev nD)

/-- A block of rows of the tokens, at an entry: the array's entry `256 * t` rows further down. -/
theorem iblk0_0_apply (t : Fin cfg0.N) (y : S256x1024.Idx) (r : Fin 2048) (hr : r.val = (grid0.coords t 0).val * 256 + (y 0).val) :
    iblk0 V c 0 t y = V c main_v0 (ix2 r (y 1)) := by
  have e : ∀ t : Fin cfg0.N, win0_0.index t = ![(grid0.coords t 0).val, 0] := (by decide +kernel : ∀ t : Fin grid0.N, _)
  blk_simp [iblk0]
  congr 1
  funext a
  apply Fin.ext
  fin_cases a
  · blk_simp [e]
    exact hr.symm
  · blk_simp [e]
    rfl

/-- The query weights enter whole. -/
theorem iblk0_1_apply (t : Fin cfg0.N) (y : S1024x1024.Idx) : iblk0 V c 1 t y = V c main_arg3 y := by
  have e : ∀ t : Fin cfg0.N, win0_1.index t = ![0, 0] := (by decide +kernel : ∀ t : Fin grid0.N, _)
  blk_simp [iblk0]
  congr 1
  funext a
  apply Fin.ext
  fin_cases a <;> blk_simp [e]

/-- The key weights enter whole. -/
theorem iblk0_2_apply (t : Fin cfg0.N) (y : S1024x64.Idx) : iblk0 V c 2 t y = V c main_arg4 y := by
  have e : ∀ t : Fin cfg0.N, win0_2.index t = ![0, 0] := (by decide +kernel : ∀ t : Fin grid0.N, _)
  blk_simp [iblk0]
  congr 1
  funext a
  apply Fin.ext
  fin_cases a <;> blk_simp [e]

/-- The head weights enter whole. -/
theorem iblk0_3_apply (t : Fin cfg0.N) (y : S1024x16.Idx) : iblk0 V c 3 t y = V c main_arg5 y := by
  have e : ∀ t : Fin cfg0.N, win0_3.index t = ![0, 0] := (by decide +kernel : ∀ t : Fin grid0.N, _)
  blk_simp [iblk0]
  congr 1
  funext a
  apply Fin.ext
  fin_cases a <;> blk_simp [e]

/-- The projected queries. -/
theorem queries_apply (i : S2048x1024.Idx) :
    (dat0 V c).arrAt 4 cfg0.N i = projected (V c main_v0) (V c main_arg3) (i 0) (i 1) := by
  have e : ∀ t : Fin cfg0.N, win0_4.index t = ![(grid0.coords t 0).val, 0] := (by decide +kernel : ∀ t : Fin grid0.N, _)
  refine (dat0 V c).arrAt_forall_of_covers 4
    (fun (i : S2048x1024.Idx) v => v = projected (V c main_v0) (V c main_arg3) (i 0) (i 1))
    (by decide +kernel) (fun t hf y => ?_) i
  have hy : (((cfg0.win 4).blk t).view.emb y : S2048x1024.Idx) 1 = (y 1 : Fin 1024) := by
    apply Fin.ext
    blk_simp [e]
  have hr : ((((cfg0.win 4).blk t).view.emb y : S2048x1024.Idx) 0 : Fin 2048).val = (grid0.coords t 0).val * 256 + (y 0).val := by
    blk_simp [e]
  rw [hy]
  generalize (((cfg0.win 4).blk t).view.emb y : S2048x1024.Idx) 0 = r at hr ⊢
  blk_simp
  rw [after0_4]
  refine (out0_4_apply _ _ _ _ y).trans (Finset.sum_congr rfl fun k _ => ?_)
  exact congrArg₂ (fun a b : EReal => a * b) (iblk0_0_apply V c t (ix2 (y 0) k) r hr) (iblk0_1_apply V c t _)

/-- The projected keys. -/
theorem keys_apply (i : S2048x64.Idx) :
    (dat0 V c).arrAt 5 cfg0.N i = projected (V c main_v0) (V c main_arg4) (i 0) (i 1) := by
  have e : ∀ t : Fin cfg0.N, win0_5.index t = ![(grid0.coords t 0).val, 0] := (by decide +kernel : ∀ t : Fin grid0.N, _)
  refine (dat0 V c).arrAt_forall_of_covers 5
    (fun (i : S2048x64.Idx) v => v = projected (V c main_v0) (V c main_arg4) (i 0) (i 1))
    (by decide +kernel) (fun t hf y => ?_) i
  have hy : (((cfg0.win 5).blk t).view.emb y : S2048x64.Idx) 1 = (y 1 : Fin 64) := by
    apply Fin.ext
    blk_simp [e]
  have hr : ((((cfg0.win 5).blk t).view.emb y : S2048x64.Idx) 0 : Fin 2048).val = (grid0.coords t 0).val * 256 + (y 0).val := by
    blk_simp [e]
  rw [hy]
  generalize (((cfg0.win 5).blk t).view.emb y : S2048x64.Idx) 0 = r at hr ⊢
  blk_simp
  rw [after0_5]
  refine (out0_5_apply _ _ _ _ y).trans (Finset.sum_congr rfl fun k _ => ?_)
  exact congrArg₂ (fun a b : EReal => a * b) (iblk0_0_apply V c t (ix2 (y 0) k) r hr) (iblk0_2_apply V c t _)

/-- The projected head weights. -/
theorem weights_apply (i : S2048x16.Idx) :
    (dat0 V c).arrAt 6 cfg0.N i = projected (V c main_v0) (V c main_arg5) (i 0) (i 1) := by
  have e : ∀ t : Fin cfg0.N, win0_6.index t = ![(grid0.coords t 0).val, 0] := (by decide +kernel : ∀ t : Fin grid0.N, _)
  refine (dat0 V c).arrAt_forall_of_covers 6
    (fun (i : S2048x16.Idx) v => v = projected (V c main_v0) (V c main_arg5) (i 0) (i 1))
    (by decide +kernel) (fun t hf y => ?_) i
  have hy : (((cfg0.win 6).blk t).view.emb y : S2048x16.Idx) 1 = (y 1 : Fin 16) := by
    apply Fin.ext
    blk_simp [e]
  have hr : ((((cfg0.win 6).blk t).view.emb y : S2048x16.Idx) 0 : Fin 2048).val = (grid0.coords t 0).val * 256 + (y 0).val := by
    blk_simp [e]
  rw [hy]
  generalize (((cfg0.win 6).blk t).view.emb y : S2048x16.Idx) 0 = r at hr ⊢
  blk_simp
  rw [after0_6]
  refine (out0_6_apply _ _ _ _ y).trans (Finset.sum_congr rfl fun k _ => ?_)
  exact congrArg₂ (fun a b : EReal => a * b) (iblk0_0_apply V c t (ix2 (y 0) k) r hr) (iblk0_3_apply V c t _)

end Cert.KernelIdeal.Scores

end
-- ==== Proof.Match.lean ====
/-
  The arrays the score launch reads, as the reference's own values: the projections are the reference's, and what the program does to
  them before that launch is what the reference does.
-/
module

public import proofs.«01_k».proof.Proof.Proj
public import proofs.«01_k».proof.Proof.Gen.ReferenceIdeal.Read
public import Idealize.ShloMosaic.Lib.StableHlo.Run

@[expose] public section

set_option maxRecDepth 16384

noncomputable section

namespace Cert.KernelIdeal.Scores

open Idealize.ShloMosaic Idealize.ShloMosaic.Pipeline Idealize.ShloMosaic.StableHlo Cert.KernelIdeal.Gen Cert.KernelIdeal
open Cert.ReferenceIdeal.Read

section Host
variable (W : Valuation τ sig (Elt Ideal)) (x0 : (⟨S1x2048x1024, .f32⟩ : BufTy).Contents (Elt Ideal))
  (x3 : (⟨S1024x1024, .f32⟩ : BufTy).Contents (Elt Ideal)) (x4 : (⟨S1024x64, .f32⟩ : BufTy).Contents (Elt Ideal))
  (x5 : (⟨S1024x16, .f32⟩ : BufTy).Contents (Elt Ideal))

/-- The queries, normalised and rotated. -/
theorem host_queries (h : shapeCast S1x2048x16x64 (W (Proc.devRef .tc main_v1_0) : S2048x1024.Idx → EReal) shapeCasts_S2048x1024_S1x2048x16x64
      = val_main_v1 (F := Ideal) x0 x3) :
    after hostOps1 W (Proc.devRef .tc main_v58) = shapeCast S2048x1024 (val_main_v50 (F := Ideal) x0 (W (Proc.devRef .tc main_arg1))
      (W (Proc.devRef .tc main_arg2)) x3 (W (Proc.devRef .tc main_arg6))) shapeCasts_S1x2048x16x64_S2048x1024 := by
  simp only [hostOps1]
  after_results_simp
  simp (disch := decide) only [↓ readResult, ↓ readPieces]
  have h' : shapeCast main_v2.ty.shape (W (Proc.devRef .tc main_v1_0)) shapeCasts_S2048x1024_S1x2048x16x64 = val_main_v1 (F := Ideal) x0 x3 := h
  rw [h']
  rfl

/-- The keys, normalised and rotated. -/
theorem host_keys (h : shapeCast S1x2048x1x64 (W (Proc.devRef .tc main_v1_1) : S2048x64.Idx → EReal) shapeCasts_S2048x64_S1x2048x1x64
      = val_main_v16 (F := Ideal) x0 x4) :
    after hostOps1 W (Proc.devRef .tc main_v60) = shapeCast S2048x64 (val_main_v52 (F := Ideal) x0 (W (Proc.devRef .tc main_arg1))
      (W (Proc.devRef .tc main_arg2)) x4 (W (Proc.devRef .tc main_arg7))) shapeCasts_S1x2048x64_S2048x64 := by
  simp only [hostOps1]
  after_results_simp
  simp (disch := decide) only [↓ readResult, ↓ readPieces]
  have h' : shapeCast main_v16.ty.shape (W (Proc.devRef .tc main_v1_1)) shapeCasts_S2048x64_S1x2048x1x64 = val_main_v16 (F := Ideal) x0 x4 := h
  rw [h']
  rfl

/-- The head weights scaled a second time, as rows. -/
def rescaled (u : FVec Ideal S1x2048x16 .f32) : S2048x16.Idx → EReal :=
  shapeCast S2048x16 (mulf u (broadcastInDim S1x2048x16 ![] bcast_S_S1x2048x16 (constant S_ .f32 0x3E000000#32))) shapeCasts_S1x2048x16_S2048x16

/-- The head weights, scaled twice. -/
theorem host_weights (h : shapeCast S1x2048x16 (W (Proc.devRef .tc main_v1_2) : S2048x16.Idx → EReal) shapeCasts_S2048x16_S1x2048x16
      = val_main_v53 (F := Ideal) x0 x5) :
    after hostOps1 W (Proc.devRef .tc main_v59) = rescaled (val_main_v55 (F := Ideal) x0 x5) := by
  simp only [hostOps1]
  after_results_simp
  have h' : shapeCast main_v53.ty.shape (W (Proc.devRef .tc main_v1_2)) shapeCasts_S2048x16_S1x2048x16 = val_main_v53 (F := Ideal) x0 x5 := h
  rw [h']
  rfl

end Host

variable (m : (ℓ : Loc nD τ sig) → Buf (Elt Ideal) ℓ) (ρ : Dev nD → PrngReg) (c : Dev nD)

/-- The tokens enter the projection launch as rows. -/
theorem tokens_apply (r : Fin 2048) (k : Fin 1024) :
    V1 m ρ c main_v0 (ix2 r k) = m ((c.tc : Thread nD τ).loc main_arg0) (ix3 0 r k) := by
  have e : W1 m ρ c (Proc.devRef .tc main_v0) = shapeCast S2048x1024 (m ((c.tc : Thread nD τ).loc main_arg0) : S1x2048x1024.Idx → EReal)
      shapeCasts_S1x2048x1024_S2048x1024 := by
    show after hostOps0 (W0 m ρ c) _ = _
    simp only [hostOps0]
    after_results_simp
    rfl
  refine (congrFun e (ix2 r k)).trans (shapeCast_apply _ _ _ (ix3 0 r k) ?_)
  rw [Shape.rowMajor_val_two, Shape.rowMajor_val_three]
  show (0 * 2048 + r.val) * 1024 + k.val = r.val * 1024 + k.val
  omega

/-- The projected queries are the reference's. -/
theorem queries_eq : shapeCast S1x2048x16x64 (W2 m ρ c (Proc.devRef .tc main_v1_0) : S2048x1024.Idx → EReal) shapeCasts_S2048x1024_S1x2048x16x64
    = val_main_v1 (F := Ideal) (m ((c.tc : Thread nD τ).loc main_arg0)) (m ((c.tc : Thread nD τ).loc main_arg3)) := by
  funext i
  rw [val_main_v1_apply, val_main_v0_apply]
  have h0 : (i 0).val < 1 := (i 0).isLt
  refine (shapeCast_apply _ _ i (ix2 (idx_main_v1 i 1) (idx_main_v1 i 2)) ?_).trans ?_
  · rw [Shape.rowMajor_val_two, Shape.rowMajor_val_four]
    have h1 : (i 1).val < 2048 := (i 1).isLt
    have h2 : (i 2).val < 16 := (i 2).isLt
    have h3 : (i 3).val < 64 := (i 3).isLt
    show ((((i 0).val * 2048 + (i 1).val) * 16 + (i 2).val) * 64 + (i 3).val) / 1024 % 2048 * 1024
      + ((((i 0).val * 2048 + (i 1).val) * 16 + (i 2).val) * 64 + (i 3).val) % 1024 = (((i 0).val * 2048 + (i 1).val) * 16 + (i 2).val) * 64 + (i 3).val
    omega
  · refine (congrFun (W2_arr m ρ c 4) _).trans ((queries_apply (V1 m ρ) c _).trans ?_)
    unfold projected
    change @Eq EReal _ _
    refine Finset.sum_congr rfl fun k _ => ?_
    refine congrArg₂ (fun a b : EReal => a * b) ((tokens_apply m ρ c _ k).trans (congrArg _ ?_))
      ((congrFun (W1_args m ρ c main_arg3 (by decide)) _).trans (congrArg _ ?_))
    · funext a; apply Fin.ext; fin_cases a <;> rfl
    · funext a; apply Fin.ext; fin_cases a <;> rfl

/-- The projected keys are the reference's. -/
theorem keys_eq : shapeCast S1x2048x1x64 (W2 m ρ c (Proc.devRef .tc main_v1_1) : S2048x64.Idx → EReal) shapeCasts_S2048x64_S1x2048x1x64
    = val_main_v16 (F := Ideal) (m ((c.tc : Thread nD τ).loc main_arg0)) (m ((c.tc : Thread nD τ).loc main_arg4)) := by
  funext i
  rw [val_main_v16_apply, val_main_v15_apply]
  have h0 : (i 0).val < 1 := (i 0).isLt
  refine (shapeCast_apply _ _ i (ix2 (idx_main_v16 i 1) (idx_main_v16 i 2)) ?_).trans ?_
  · rw [Shape.rowMajor_val_two, Shape.rowMajor_val_four]
    have h1 : (i 1).val < 2048 := (i 1).isLt
    have h2 : (i 2).val < 1 := (i 2).isLt
    have h3 : (i 3).val < 64 := (i 3).isLt
    show ((((i 0).val * 2048 + (i 1).val) * 1 + (i 2).val) * 64 + (i 3).val) / 64 % 2048 * 64
      + ((((i 0).val * 2048 + (i 1).val) * 1 + (i 2).val) * 64 + (i 3).val) % 64 = (((i 0).val * 2048 + (i 1).val) * 1 + (i 2).val) * 64 + (i 3).val
    omega
  · refine (congrFun (W2_arr m ρ c 5) _).trans ((keys_apply (V1 m ρ) c _).trans ?_)
    unfold projected
    change @Eq EReal _ _
    refine Finset.sum_congr rfl fun k _ => ?_
    refine congrArg₂ (fun a b : EReal => a * b) ((tokens_apply m ρ c _ k).trans (congrArg _ ?_))
      ((congrFun (W1_args m ρ c main_arg4 (by decide)) _).trans (congrArg _ ?_))
    · funext a; apply Fin.ext; fin_cases a <;> rfl
    · funext a; apply Fin.ext; fin_cases a <;> rfl

/-- The projected head weights are the reference's. -/
theorem weights_eq : shapeCast S1x2048x16 (W2 m ρ c (Proc.devRef .tc main_v1_2) : S2048x16.Idx → EReal) shapeCasts_S2048x16_S1x2048x16
    = val_main_v53 (F := Ideal) (m ((c.tc : Thread nD τ).loc main_arg0)) (m ((c.tc : Thread nD τ).loc main_arg5)) := by
  funext i
  rw [val_main_v53_apply]
  have h0 : (i 0).val < 1 := (i 0).isLt
  refine (shapeCast_apply _ _ i (ix2 (i 1) (i 2)) ?_).trans ?_
  · rw [Shape.rowMajor_val_two, Shape.rowMajor_val_three]
    show (i 1).val * 16 + (i 2).val = ((i 0).val * 2048 + (i 1).val) * 16 + (i 2).val
    omega
  · refine (congrFun (W2_arr m ρ c 6) _).trans ((weights_apply (V1 m ρ) c _).trans ?_)
    unfold projected
    change @Eq EReal _ _
    refine Finset.sum_congr rfl fun k _ => ?_
    refine congrArg₂ (fun a b : EReal => a * b) ((tokens_apply m ρ c _ k).trans (congrArg _ ?_))
      ((congrFun (W1_args m ρ c main_arg5 (by decide)) _).trans (congrArg _ ?_))
    · funext a
      apply Fin.ext
      fin_cases a
      · show 0 = (i 0).val
        omega
      · rfl
      · rfl
    · funext a; apply Fin.ext; fin_cases a <;> rfl

/-- The queries the score launch reads, at an entry. -/
theorem queries_read (r : Fin 2048) (n : Fin 16) (d : Fin 64) :
    V3 m ρ c main_v58 (ix2 r ⟨64 * n.val + d.val, by omega⟩) = val_main_v50 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg6)) (ix4 0 r n d) := by
  have e := host_queries (W2 m ρ c) _ _ (queries_eq m ρ c)
  rw [W2_args m ρ c main_arg1 (by decide), W2_args m ρ c main_arg2 (by decide), W2_args m ρ c main_arg6 (by decide)] at e
  refine (congrFun e _).trans (shapeCast_apply _ _ _ (ix4 0 r n d) ?_)
  rw [Shape.rowMajor_val_two, Shape.rowMajor_val_four]
  show ((0 * 2048 + r.val) * 16 + n.val) * 64 + d.val = r.val * 1024 + (64 * n.val + d.val)
  omega

/-- The keys the score launch reads, at an entry. -/
theorem keys_read (j : Fin 2048) (d : Fin 64) :
    V3 m ρ c main_v60 (ix2 j d) = val_main_v52 (F := Ideal) (m ((c.tc : Thread nD τ).loc main_arg0))
      (m ((c.tc : Thread nD τ).loc main_arg1)) (m ((c.tc : Thread nD τ).loc main_arg2)) (m ((c.tc : Thread nD τ).loc main_arg4))
      (m ((c.tc : Thread nD τ).loc main_arg7)) (ix3 0 j d) := by
  have e := host_keys (W2 m ρ c) _ _ (keys_eq m ρ c)
  rw [W2_args m ρ c main_arg1 (by decide), W2_args m ρ c main_arg2 (by decide), W2_args m ρ c main_arg7 (by decide)] at e
  refine (congrFun e _).trans (shapeCast_apply _ _ _ (ix3 0 j d) ?_)
  rw [Shape.rowMajor_val_two, Shape.rowMajor_val_three]
  show (0 * 2048 + j.val) * 64 + d.val = j.val * 64 + d.val
  omega

/-- The head weights the score launch reads, at an entry. -/
theorem weights_read (r : Fin 2048) (n : Fin 16) :
    V3 m ρ c main_v59 (ix2 r n) = val_main_v58 (F := Ideal) (m ((c.tc : Thread nD τ).loc main_arg0))
      (m ((c.tc : Thread nD τ).loc main_arg5)) (ix4 0 r n 0) := by
  have e := host_weights (W2 m ρ c) _ _ (weights_eq m ρ c)
  refine (congrFun e _).trans ((shapeCast_apply _ _ _ (ix3 0 r n) ?_).trans ?_)
  · rw [Shape.rowMajor_val_two, Shape.rowMajor_val_three]
    show (0 * 2048 + r.val) * 16 + n.val = r.val * 16 + n.val
    omega
  · rw [val_main_v58_apply, val_main_v56_apply, val_main_v57_apply]
    refine congrArg₂ (fun a b : EReal => a * b) (congrArg _ ?_) rfl
    funext a; apply Fin.ext; fin_cases a <;> rfl

end Cert.KernelIdeal.Scores

end
-- ==== Proof.Heads.lean ====
/-
  What the score launch leaves in its array: at or before the diagonal the sum over the sixteen heads, past the diagonal the mask.
-/
module

public import proofs.«01_k».proof.Proof.Gen.KernelIdeal.Frame
public import Idealize.ShloMosaic.Lib.Pointwise
public import Idealize.ShloMosaic.Lib.Pipeline.Value
public import Idealize.ShloMosaic.Lib.Pipeline.ValueKit
public import Idealize.ShloMosaic.Lib.WordCmp

@[expose] public section

set_option maxRecDepth 16384

noncomputable section

namespace Cert.KernelIdeal.Scores

open Idealize.ShloMosaic Idealize.ShloMosaic.Pipeline Cert.KernelIdeal.Gen Cert.KernelIdeal

/-- What one head adds to a block of scores. -/
def head (q : Vec Ideal S256x64 .f32) (w : Vec Ideal S256x1 .f32) (k : FVec Ideal S2048x64 .f32) : FVec Ideal S256x2048 .f32 :=
  mulf (maximumf (matmul dot_S256x64_S2048x64_S256x2048_1_1_0_0_n_n none
      (shapeCast S256x64 q shapeCasts_S256x64_S256x64 : FVec Ideal S256x64 .f32) k (constant S256x2048 .f32 0x00000000#32))
      (broadcast S256x2048 (Scalar.ofBits .f32 0x00000000#32)))
    (broadcastTo S256x2048 (shapeCast S256x1 w shapeCasts_S256x1_S256x1 : FVec Ideal S256x1 .f32) broadcasts_S256x1_S256x2048)

/-- What head `n` adds to the score of a row and a column: the positive part of the row's query times the column's key, weighted. -/
def term {R : Nat} (q : (⟨2, ![R, 1024]⟩ : Shape).Idx → EReal) (w : (⟨2, ![R, 16]⟩ : Shape).Idx → EReal) (k : S2048x64.Idx → EReal)
    (r : Fin R) (j : Fin 2048) (n : Fin 16) : EReal :=
  max (∑ d : Fin 64, q (ix2 r ⟨64 * n.val + d.val, by omega⟩) * k (ix2 j d)) 0 * w (ix2 r n)

/-- The mask's value at a column. -/
def maskAt (j : Nat) : EReal :=
  Ideal.ofBits .f32 0xF149F2CA#32 - (((BitVec.ofNat 32 j).toInt : ℝ) : EReal) * Ideal.ofBits .f32 0x6753C21C#32

/-- One head, read off the blocks of the queries and the weights. -/
theorem head_apply (x0 : Vec Ideal S256x1024 .f32) (x1 : Vec Ideal S256x16 .f32) (k : FVec Ideal S2048x64 .f32) (n : Fin 16) (o p : Nat)
    (ho : o = 64 * n.val) (hp : p = n.val) (inb : ∀ a, (![0, o] : Fin 2 → Nat) a + S256x64.size a ≤ S256x1024.size a)
    (inb' : ∀ a, (![0, p] : Fin 2 → Nat) a + S256x1.size a ≤ S256x16.size a) (y : S256x2048.Idx) :
    head (View.ld x0 (Rect.unit (s := S256x1024) ![0, o] S256x64.size inb)) (View.ld x1 (Rect.unit (s := S256x16) ![0, p] S256x1.size inb')) k y
      = term x0 x1 k (y 0) (y 1) n := by
  subst ho hp
  unfold head
  rw [shapeCast_self, shapeCast_self]
  simp only [pointwise, Ideal.ofBits_zero_f32, zero_add]
  unfold term
  refine congrArg₂ (fun a b : EReal => max a 0 * b) (Finset.sum_congr rfl fun d _ => congrArg (fun a : EReal => a * _) ?_) ?_
  · refine congrArg x0 (funext fun a => Fin.ext ?_)
    fin_cases a
    · show 0 + 1 * (y 0).val = (y 0).val
      omega
    · show 64 * n.val + 1 * d.val = 64 * n.val + d.val
      omega
  · refine congrArg x1 (funext fun a => Fin.ext ?_)
    fin_cases a
    · show 0 + 1 * (y 0).val = (y 0).val
      omega
    · show n.val + 1 * 0 = n.val
      omega

/-- The first three heads. -/
theorem pay3_eq (v0 : Vec Ideal S2048x64 .f32) (a0 : Vec Ideal S256x64 .f32) (b0 : Vec Ideal S256x1 .f32) (a1 : Vec Ideal S256x64 .f32)
    (b1 : Vec Ideal S256x1 .f32) (a2 : Vec Ideal S256x64 .f32) (b2 : Vec Ideal S256x1 .f32) :
    k1_pay3 v0 a0 b0 a1 b1 a2 b2 = addf (addf (addf (broadcast S256x2048 (Scalar.ofBits .f32 0x00000000#32)) (head a0 b0 (k1_pay2 v0)))
      (head a1 b1 (k1_pay2 v0))) (head a2 b2 (k1_pay2 v0)) := rfl

/-- Heads 3 to 6. -/
theorem pay5_eq (k : FVec Ideal S2048x64 .f32) (s : FVec Ideal S256x2048 .f32) (a0 : Vec Ideal S256x64 .f32) (b0 : Vec Ideal S256x1 .f32)
    (a1 : Vec Ideal S256x64 .f32) (b1 : Vec Ideal S256x1 .f32) (a2 : Vec Ideal S256x64 .f32) (b2 : Vec Ideal S256x1 .f32)
    (a3 : Vec Ideal S256x64 .f32) (b3 : Vec Ideal S256x1 .f32) :
    k1_pay5 k s (k1_pay4 a0) (constant S256x2048 .f32 0x00000000#32) b0 a1 b1 a2 b2 a3 b3
      = addf (addf (addf (addf s (head a0 b0 k)) (head a1 b1 k)) (head a2 b2 k)) (head a3 b3 k) := rfl

/-- Heads 7 to 9. -/
theorem pay6_eq (k : FVec Ideal S2048x64 .f32) (s : FVec Ideal S256x2048 .f32) (a0 : Vec Ideal S256x64 .f32) (b0 : Vec Ideal S256x1 .f32)
    (a1 : Vec Ideal S256x64 .f32) (b1 : Vec Ideal S256x1 .f32) (a2 : Vec Ideal S256x64 .f32) (b2 : Vec Ideal S256x1 .f32) :
    k1_pay6 k s a0 b0 a1 b1 a2 b2 = addf (addf (addf s (head a0 b0 k)) (head a1 b1 k)) (head a2 b2 k) := rfl

/-- Heads 10 to 13. -/
theorem pay9_eq (k : FVec Ideal S2048x64 .f32) (s : FVec Ideal S256x2048 .f32) (a0 : Vec Ideal S256x64 .f32) (b0 : Vec Ideal S256x1 .f32)
    (a1 : Vec Ideal S256x64 .f32) (b1 : Vec Ideal S256x1 .f32) (a2 : Vec Ideal S256x64 .f32) (b2 : Vec Ideal S256x1 .f32)
    (a3 : Vec Ideal S256x64 .f32) (b3 : Vec Ideal S256x1 .f32) :
    k1_pay9 k s (k1_pay7 k a0) (k1_pay8 b0) a1 b1 a2 b2 a3 b3
      = addf (addf (addf (addf s (head a0 b0 k)) (head a1 b1 k)) (head a2 b2 k)) (head a3 b3 k) := rfl

/-- The last two heads and the mask, at an entry. -/
theorem pay1_apply (t : Nat) (ht : t < 8) (k : FVec Ideal S2048x64 .f32) (s : FVec Ideal S256x2048 .f32) (a0 : Vec Ideal S256x64 .f32)
    (b0 : Vec Ideal S256x1 .f32) (a1 : Vec Ideal S256x64 .f32) (b1 : Vec Ideal S256x1 .f32) (y : S256x2048.Idx) :
    k1_pay1 (BitVec.ofNat 32 t) k s (k1_pay10 k a0) b0 a1 b1 y
      = if t * 256 + (y 0).val < (y 1).val then maskAt (y 1).val else (s y + head a0 b0 k y) + head a1 b1 k y := by
  have e : k1_pay1 (BitVec.ofNat 32 t) k s (k1_pay10 k a0) b0 a1 b1 y
      = Scalar.select (IntOp.cmpi .sgt (iota .tc S256x2048 32 [1] iota_S256x2048_d1_w32 y)
          (IntOp.addi (Scalar.muli (BitVec.ofNat 32 t) 256#32) (iota .tc S256x2048 32 [0] iota_S256x2048_d0_w32 y)))
          (Ideal.ofBits .f32 0xF149F2CA#32 - (((iota .tc S256x2048 32 [1] iota_S256x2048_d1_w32 y).toInt : ℝ) : EReal) * Ideal.ofBits .f32 0x6753C21C#32)
          ((s y + head a0 b0 k y) + head a1 b1 k y) := rfl
  rw [iota_single_apply, iota_single_apply] at e
  have h0 : (y 0).val < 256 := (y 0).isLt
  have h1 : (y 1).val < 2048 := (y 1).isLt
  have ec : IntOp.cmpi .sgt (BitVec.ofNat 32 (y 1).val) (IntOp.addi (Scalar.muli (BitVec.ofNat 32 t) 256#32) (BitVec.ofNat 32 (y 0).val))
      = BitVec.ofBool (decide (t * 256 + (y 0).val < (y 1).val)) := by
    have ew : IntOp.addi (Scalar.muli (BitVec.ofNat 32 t) 256#32) (BitVec.ofNat 32 (y 0).val) = BitVec.ofNat 32 (t * 256 + (y 0).val) := by
      show BitVec.ofNat 32 t * BitVec.ofNat 32 256 + BitVec.ofNat 32 (y 0).val = _
      rw [BitVec.ofNat_add, BitVec.ofNat_mul]
    rw [ew]
    exact WordCmp.cmpi_sgt_ofNat (w := 32) (by norm_num; omega) (by norm_num; omega)
  rw [e, ec]
  by_cases h : t * 256 + (y 0).val < (y 1).val
  · rw [if_pos h, decide_eq_true h]; rfl
  · rw [if_neg h, decide_eq_false h]; rfl

/-- One block of scores, at an entry. -/
theorem out1_3_apply (i : grid1.Coords) (hi : (i 0).val < 8) (x0 : Vec Ideal S256x1024 .f32) (x1 : Vec Ideal S256x16 .f32)
    (x2 : Vec Ideal S2048x64 .f32) (y : S256x2048.Idx) :
    out1_3 i x0 x1 x2 y = if (i 0).val * 256 + (y 0).val < (y 1).val then maskAt (y 1).val
      else ∑ n : Fin 16, term x0 x1 x2 (y 0) (y 1) n := by
  have e2 : View.ld x2 r1_0 = x2 := View.ld_unit_lit inb_S2048x64_S2048x64_0_0 x2 (by decide)
  have e3 : k1_pay2 x2 = x2 := shapeCast_self _ _
  unfold out1_3 k1_pay11
  rw [e2, e3, pay3_eq, pay5_eq, pay6_eq, pay9_eq, e3]
  refine (congrFun (View.canon_cons_unit_lit inb_S256x2048_S256x2048_0_0 _ _ (by decide)) y).trans ?_
  rw [pay1_apply _ hi]
  congr 1
  have inb : ∀ (n : Fin 16) (a : Fin 2), (![0, 64 * n.val] : Fin 2 → Nat) a + S256x64.size a ≤ S256x1024.size a := by decide
  have inb' : ∀ (n : Fin 16) (a : Fin 2), (![0, n.val] : Fin 2 → Nat) a + S256x1.size a ≤ S256x16.size a := by decide
  have hh : (∑ n : Fin 16, term x0 x1 x2 (y 0) (y 1) n) = ∑ n : Fin 16, (head
      (View.ld x0 (Rect.unit (s := S256x1024) ![0, 64 * n.val] S256x64.size (inb n)))
      (View.ld x1 (Rect.unit (s := S256x16) ![0, n.val] S256x1.size (inb' n))) x2 y : EReal) :=
    Finset.sum_congr rfl fun n _ => (head_apply x0 x1 x2 n _ _ rfl rfl (inb n) (inb' n) y).symm
  have hz : (broadcast S256x2048 (Scalar.ofBits (F := Ideal) .f32 0x00000000#32) y : EReal) = 0 := Ideal.ofBits_zero_f32
  rw [hh]
  simp only [addf_apply, Ideal.addf_def, Fin.sum_univ_castSucc, Finset.univ_eq_empty, Finset.sum_empty]
  rw [hz]
  rfl

variable (V : (c : Dev nD) → (b : Ref sig .tc) → Buf (Elt Ideal) ((c.tc : Thread nD τ).loc b)) (c : Dev nD)

/-- A block of rows of the queries, at an entry. -/
theorem iblk1_0_apply (t : Fin cfg1.N) (y : S256x1024.Idx) (r : Fin 2048) (hr : r.val = (grid1.coords t 0).val * 256 + (y 0).val) :
    iblk1 V c 0 t y = V c main_v58 (ix2 r (y 1)) := by
  have e : ∀ t : Fin cfg1.N, win1_0.index t = ![(grid1.coords t 0).val, 0] := (by decide +kernel : ∀ t : Fin grid1.N, _)
  blk_simp [iblk1]
  congr 1
  funext a
  apply Fin.ext
  fin_cases a
  · blk_simp [e]
    exact hr.symm
  · blk_simp [e]
    rfl

/-- A block of rows of the head weights, at an entry. -/
theorem iblk1_1_apply (t : Fin cfg1.N) (y : S256x16.Idx) (r : Fin 2048) (hr : r.val = (grid1.coords t 0).val * 256 + (y 0).val) :
    iblk1 V c 1 t y = V c main_v59 (ix2 r (y 1)) := by
  have e : ∀ t : Fin cfg1.N, win1_1.index t = ![(grid1.coords t 0).val, 0] := (by decide +kernel : ∀ t : Fin grid1.N, _)
  blk_simp [iblk1]
  congr 1
  funext a
  apply Fin.ext
  fin_cases a
  · blk_simp [e]
    exact hr.symm
  · blk_simp [e]
    rfl

/-- The keys enter whole. -/
theorem iblk1_2_apply (t : Fin cfg1.N) (y : S2048x64.Idx) : iblk1 V c 2 t y = V c main_v60 y := by
  have e : ∀ t : Fin cfg1.N, win1_2.index t = ![0, 0] := (by decide +kernel : ∀ t : Fin grid1.N, _)
  blk_simp [iblk1]
  congr 1
  funext a
  apply Fin.ext
  fin_cases a <;> blk_simp [e]

/-- The array of scores. -/
theorem scores_apply (i : S2048x2048.Idx) :
    (dat1 V c).arrAt 3 cfg1.N i = if (i 0).val < (i 1).val then maskAt (i 1).val
      else ∑ n : Fin 16, term (V c main_v58) (V c main_v59) (V c main_v60) (i 0) (i 1) n := by
  have e : ∀ t : Fin cfg1.N, win1_3.index t = ![(grid1.coords t 0).val, 0] := (by decide +kernel : ∀ t : Fin grid1.N, _)
  refine (dat1 V c).arrAt_forall_of_covers 3
    (fun (i : S2048x2048.Idx) v => v = if (i 0).val < (i 1).val then maskAt (i 1).val
      else ∑ n : Fin 16, term (V c main_v58) (V c main_v59) (V c main_v60) (i 0) (i 1) n)
    (by decide +kernel) (fun t hf y => ?_) i
  have hy : (((cfg1.win 3).blk t).view.emb y : S2048x2048.Idx) 1 = (y 1 : Fin 2048) := by
    apply Fin.ext
    blk_simp [e]
  have hr : ((((cfg1.win 3).blk t).view.emb y : S2048x2048.Idx) 0 : Fin 2048).val = (grid1.coords t 0).val * 256 + (y 0).val := by
    blk_simp [e]
  rw [hy]
  generalize (((cfg1.win 3).blk t).view.emb y : S2048x2048.Idx) 0 = r at hr ⊢
  blk_simp
  rw [after1_3]
  refine (out1_3_apply (grid1.coords t) (grid1.coords t 0).isLt _ _ _ y).trans ?_
  rw [← hr]
  refine ite_congr rfl (fun _ => rfl) fun _ => Finset.sum_congr rfl fun n _ => ?_
  unfold term
  refine congrArg₂ (fun a b : EReal => max a 0 * b) (Finset.sum_congr rfl fun d _ => ?_) (iblk1_1_apply V c t (ix2 (y 0) n) r hr)
  exact congrArg₂ (fun a b : EReal => a * b) (iblk1_0_apply V c t (ix2 (y 0) _) r hr) (iblk1_2_apply V c t _)

end Cert.KernelIdeal.Scores

end
-- ==== Proof.Pre.lean ====
/-
  What the precondition says, entry by entry, of the reference's scores: at or before the diagonal they lie above the mask's first value,
  and no two of a row are equal.
-/
module

public import proofs.«01_k».proof.Defs
public import proofs.«01_k».proof.Proof.Gen.Pre_separated
public import proofs.«01_k».proof.Proof.Gen.ReferenceIdeal.Read
public import Idealize.ShloMosaic.Lib.ReduceAll
public import Idealize.ShloMosaic.Lib.WordCmp
public import Idealize.ShloMosaic.Lib.Pointwise
public import Idealize.ShloMosaic.Lib.Pipeline.Value

@[expose] public section

set_option maxRecDepth 16384

noncomputable section

namespace Cert.Pre_separated.Reading

open Idealize.ShloMosaic Cert.Pre_separated Cert.ReferenceIdeal.Read

variable (x0 : FVec Ideal S1x2048x1024 .f32) (x1 x2 : FVec Ideal S1x2048x64 .f32) (x3 : FVec Ideal S1024x1024 .f32)
  (x4 : FVec Ideal S1024x64 .f32) (x5 : FVec Ideal S1024x16 .f32) (x6 x7 : FVec Ideal S64 .f32) (x8 x9 x10 : IVec S_ 32)

/-- The precondition's first operations are the reference's. -/
theorem fn_eq : fn (F := Ideal) x0 x1 x2 x3 x4 x5 x6 x7 x8 x9 x10
    = fn_part1 (F := Ideal) x0 x1 x2 x5 x7 (val_main_v14 (F := Ideal) x0 x3 x6) (val_main_v16 (F := Ideal) x0 x4) (val_main_v19 (F := Ideal) x0 x4) := rfl

/-- So are those of its second part, -/
theorem part1_eq : fn_part1 (F := Ideal) x0 x1 x2 x5 x7 (val_main_v14 (F := Ideal) x0 x3 x6) (val_main_v16 (F := Ideal) x0 x4)
      (val_main_v19 (F := Ideal) x0 x4)
    = fn_part2 (F := Ideal) x0 x5 (val_main_v31 (F := Ideal) x0 x4 x7) (val_main_v32 (F := Ideal) x1) (val_main_v33 (F := Ideal) x2)
      (val_main_v35 (F := Ideal) x0 x1 x3 x6) (val_main_v41 (F := Ideal) x0 x2 x3 x6) := rfl

/-- and of its third. -/
theorem part2_eq : fn_part2 (F := Ideal) x0 x5 (val_main_v31 (F := Ideal) x0 x4 x7) (val_main_v32 (F := Ideal) x1) (val_main_v33 (F := Ideal) x2)
      (val_main_v35 (F := Ideal) x0 x1 x3 x6) (val_main_v41 (F := Ideal) x0 x2 x3 x6)
    = fn_part3 (F := Ideal) (val_main_v61 (F := Ideal) x0 x1 x2 x3 x4 x6 x7) (val_main_v62 (F := Ideal) x0 x5) := rfl

/-- Whether each entry is past the diagonal or above the mask's first value. -/
def above (s : FVec Ideal S1x2048x2048 .f32) : IVec S2048x2048 1 :=
  ori (cmpi .sgt (iotaInDim S2048x2048 32 1) (iotaInDim S2048x2048 32 0))
    (cmpf .ogt (shapeCast S2048x2048 s Facts.shapeCasts_S1x2048x2048_S2048x2048)
      (broadcastInDim S2048x2048 ![] Facts.bcast_S_S2048x2048 (constant S_ .f32 0xF149F2CA#32)))

/-- Whether each two entries of a row are past the diagonal, out of order, or different. -/
def apart (s : FVec Ideal S1x2048x2048 .f32) : IVec S2048x2048x2048 1 :=
  ori (ori (cmpi .sgt (iotaInDim S2048x2048x2048 32 1) (iotaInDim S2048x2048x2048 32 0))
      (cmpi .sge (iotaInDim S2048x2048x2048 32 2) (iotaInDim S2048x2048x2048 32 1)))
    (cmpf .une
      (broadcastInDim S2048x2048x2048 ![0, 1, 2] Facts.bcast_S2048x2048x1_S2048x2048x2048_0_1_2
        (broadcastInDim S2048x2048x1 ![0, 1] Facts.bcast_S2048x2048_S2048x2048x1_0_1
          (shapeCast S2048x2048 s Facts.shapeCasts_S1x2048x2048_S2048x2048)))
      (broadcastInDim S2048x2048x2048 ![0, 1, 2] Facts.bcast_S2048x1x2048_S2048x2048x2048_0_1_2
        (broadcastInDim S2048x1x2048 ![0, 2] Facts.bcast_S2048x2048_S2048x1x2048_0_2
          (shapeCast S2048x2048 s Facts.shapeCasts_S1x2048x2048_S2048x2048))))

/-- The precondition asks both of every entry of the reference's scores. -/
theorem part3_eq : fn_part3 (F := Ideal) (val_main_v61 (F := Ideal) x0 x1 x2 x3 x4 x6 x7) (val_main_v62 (F := Ideal) x0 x5)
    = fn_part4 (F := Ideal) (above (val_main_v64 (F := Ideal) x0 x1 x2 x3 x4 x5 x6 x7)) (apart (val_main_v64 (F := Ideal) x0 x1 x2 x3 x4 x5 x6 x7))
      (constantI S_ 1 1#1) := rfl

instance : Subsingleton S_.Idx := ⟨fun _ _ => funext fun a => a.elim0⟩

/-- When both reductions come out true, every entry of both is. -/
theorem part4_all (u : IVec S2048x2048 1) (v : IVec S2048x2048x2048 1) (c : IVec S_ 1) (h : fn_part4 (F := Ideal) u v c = fun _ => 1#1) :
    (∀ i, u i = 1#1) ∧ ∀ i, v i = 1#1 := by
  obtain ⟨hu, hv⟩ := IntOp.andi_eq_one.1 (congrFun h fun a => a.elim0)
  exact ⟨Host.reduce_andi_all _ _ _ _ _ hu, Host.reduce_andi_all _ _ _ _ _ hv⟩

section Entries
variable (s : FVec Ideal S1x2048x2048 .f32)

/-- A score as the precondition lays them out. -/
theorem rows_apply (r j : Fin 2048) :
    shapeCast S2048x2048 s Facts.shapeCasts_S1x2048x2048_S2048x2048 (ix2 r j) = s (ix3 0 r j) := by
  refine shapeCast_apply _ _ _ (ix3 0 r j) ?_
  rw [Shape.rowMajor_val_two, Shape.rowMajor_val_three]
  show (0 * 2048 + r.val) * 2048 + j.val = r.val * 2048 + j.val
  omega

/-- An entry the first question holds of, at or before the diagonal, is above the mask's first value. -/
theorem above_apply (r j : Fin 2048) (e : above s (ix2 r j) = 1#1) (hj : ¬ r < j) :
    Ideal.ofBits .f32 0xF149F2CA#32 < s (ix3 0 r j) := by
  have e1 : IntOp.ori (IntOp.cmpi .sgt (BitVec.ofNat 32 j.val) (BitVec.ofNat 32 r.val))
      (Ideal.cmp .ogt (shapeCast S2048x2048 s Facts.shapeCasts_S1x2048x2048_S2048x2048 (ix2 r j)) (Ideal.ofBits .f32 0xF149F2CA#32)) = 1#1 := e
  rw [rows_apply, WordCmp.cmpi_sgt_ofNat (w := 32) (by omega) (by omega)] at e1
  have e2 : IntOp.ori (BitVec.ofBool (decide (r.val < j.val))) (BitVec.ofBool (decide (Ideal.ofBits .f32 0xF149F2CA#32 < s (ix3 0 r j)))) = 1#1 := e1
  rw [WordCmp.ori_ofBool, WordCmp.ofBool_eq_one_iff, Bool.or_eq_true, decide_eq_true_iff, decide_eq_true_iff] at e2
  exact e2.resolve_left hj

/-- Two entries the second question holds of, both at or before the diagonal, are different. -/
theorem apart_apply (r a b : Fin 2048) (e : apart s (ix3 r a b) = 1#1) (ha : ¬ r < a) (hb : b < a) :
    s (ix3 0 r a) ≠ s (ix3 0 r b) := by
  have e1 : IntOp.ori (IntOp.ori (IntOp.cmpi .sgt (BitVec.ofNat 32 a.val) (BitVec.ofNat 32 r.val))
      (IntOp.cmpi .sge (BitVec.ofNat 32 b.val) (BitVec.ofNat 32 a.val)))
      (Ideal.cmp .une (shapeCast S2048x2048 s Facts.shapeCasts_S1x2048x2048_S2048x2048 (ix2 r a))
        (shapeCast S2048x2048 s Facts.shapeCasts_S1x2048x2048_S2048x2048 (ix2 r b))) = 1#1 := e
  rw [rows_apply, rows_apply, WordCmp.cmpi_sgt_ofNat (w := 32) (by omega) (by omega), WordCmp.cmpi_sge_ofNat (w := 32) (by omega) (by omega)] at e1
  have e2 : IntOp.ori (IntOp.ori (BitVec.ofBool (decide (r.val < a.val))) (BitVec.ofBool (decide (a.val ≤ b.val))))
      (BitVec.ofBool (decide (s (ix3 0 r a) ≠ s (ix3 0 r b)))) = 1#1 := e1
  rw [WordCmp.ori_ofBool, WordCmp.ori_ofBool, WordCmp.ofBool_eq_one_iff, Bool.or_eq_true, Bool.or_eq_true, decide_eq_true_iff, decide_eq_true_iff,
    decide_eq_true_iff] at e2
  exact e2.resolve_left fun h => h.elim ha (not_le.2 hb)

/-- A row every entry of which both questions hold of: its scores at or before the diagonal are above the mask's first value and different. -/
theorem row_separated (r : Fin 2048) (hu : ∀ j, above s (ix2 r j) = 1#1) (hv : ∀ a b, apart s (ix3 r a b) = 1#1) :
    (∀ j : Fin 2048, ¬ r < j → Ideal.ofBits .f32 0xF149F2CA#32 < s (ix3 0 r j))
    ∧ ∀ a b : Fin 2048, ¬ r < a → ¬ r < b → a ≠ b → s (ix3 0 r a) ≠ s (ix3 0 r b) := by
  refine ⟨fun j => above_apply s r j (hu j), fun a b ha hb hab => ?_⟩
  rcases lt_or_gt_of_ne hab with h | h
  · exact (apart_apply s r b a (hv b a) hb h).symm
  · exact apart_apply s r a b (hv a b) ha h

end Entries

/-- What the precondition says of the reference's scores. -/
theorem scores_separated (h : fn (F := Ideal) x0 x1 x2 x3 x4 x5 x6 x7 x8 x9 x10 = fun _ => 1#1) (r : Fin 2048) :
    (∀ j : Fin 2048, ¬ r < j → Ideal.ofBits .f32 0xF149F2CA#32 < val_main_v64 (F := Ideal) x0 x1 x2 x3 x4 x5 x6 x7 (ix3 0 r j))
    ∧ ∀ a b : Fin 2048, ¬ r < a → ¬ r < b → a ≠ b →
      val_main_v64 (F := Ideal) x0 x1 x2 x3 x4 x5 x6 x7 (ix3 0 r a) ≠ val_main_v64 (F := Ideal) x0 x1 x2 x3 x4 x5 x6 x7 (ix3 0 r b) := by
  rw [fn_eq, part1_eq, part2_eq, part3_eq] at h
  obtain ⟨hu, hv⟩ := part4_all _ _ _ h
  exact row_separated _ r (fun j => hu _) fun a b => hv _

end Cert.Pre_separated.Reading

end
-- ==== Proof.Mask.lean ====
/-
  What the mask says at an entry that it selects, of the reference's scores in the entry's row: at or before the diagonal they lie above the
  kernel's first mask value, and no two are equal.
-/
module

public import proofs.«01_k».proof.Proof.Pre
public import proofs.«01_k».proof.Proof.Gen.On_separated_rows

@[expose] public section

set_option maxRecDepth 16384

noncomputable section

namespace Cert.On_separated_rows.Reading

open Idealize.ShloMosaic Cert.On_separated_rows Cert.ReferenceIdeal.Read
open Cert.Pre_separated.Reading (above apart row_separated)

variable (x0 : FVec Ideal S1x2048x1024 .f32) (x1 x2 : FVec Ideal S1x2048x64 .f32) (x3 : FVec Ideal S1024x1024 .f32)
  (x4 : FVec Ideal S1024x64 .f32) (x5 : FVec Ideal S1024x16 .f32) (x6 x7 : FVec Ideal S64 .f32) (x8 x9 x10 : IVec S_ 32)

/-- The mask's first operations are the reference's. -/
theorem fn_eq : fn (F := Ideal) x0 x1 x2 x3 x4 x5 x6 x7 x8 x9 x10
    = fn_part1 (F := Ideal) x0 x1 x2 x5 x7 (val_main_v14 (F := Ideal) x0 x3 x6) (val_main_v16 (F := Ideal) x0 x4) (val_main_v19 (F := Ideal) x0 x4) := rfl

/-- So are those of its second part, -/
theorem part1_eq : fn_part1 (F := Ideal) x0 x1 x2 x5 x7 (val_main_v14 (F := Ideal) x0 x3 x6) (val_main_v16 (F := Ideal) x0 x4)
      (val_main_v19 (F := Ideal) x0 x4)
    = fn_part2 (F := Ideal) x0 x5 (val_main_v31 (F := Ideal) x0 x4 x7) (val_main_v32 (F := Ideal) x1) (val_main_v33 (F := Ideal) x2)
      (val_main_v35 (F := Ideal) x0 x1 x3 x6) (val_main_v41 (F := Ideal) x0 x2 x3 x6) := rfl

/-- and of its third. -/
theorem part2_eq : fn_part2 (F := Ideal) x0 x5 (val_main_v31 (F := Ideal) x0 x4 x7) (val_main_v32 (F := Ideal) x1) (val_main_v33 (F := Ideal) x2)
      (val_main_v35 (F := Ideal) x0 x1 x3 x6) (val_main_v41 (F := Ideal) x0 x2 x3 x6)
    = fn_part3 (F := Ideal) (val_main_v61 (F := Ideal) x0 x1 x2 x3 x4 x6 x7) (val_main_v62 (F := Ideal) x0 x5) := rfl

/-- The mask asks of each row what the precondition asks of all. -/
theorem part3_eq : fn_part3 (F := Ideal) (val_main_v61 (F := Ideal) x0 x1 x2 x3 x4 x6 x7) (val_main_v62 (F := Ideal) x0 x5)
    = fn_part4 (F := Ideal) (above (val_main_v64 (F := Ideal) x0 x1 x2 x3 x4 x5 x6 x7)) (apart (val_main_v64 (F := Ideal) x0 x1 x2 x3 x4 x5 x6 x7))
      (constantI S_ 1 1#1) := rfl

/-- Where the mask comes out true, every entry of both questions in the row is. -/
theorem part4_row (u : IVec S2048x2048 1) (v : IVec S2048x2048x2048 1) (k : IVec S_ 1) (r j : Fin 2048)
    (h : fn_part4 (F := Ideal) u v k (ix3 0 r j) = 1#1) : (∀ a, u (ix2 r a) = 1#1) ∧ ∀ a b, v (ix3 r a b) = 1#1 := by
  have e : IntOp.andi (Host.reduce IntOp.andi u k Facts.reducesTo_S2048x2048_S2048_d1 Facts.h_S_ (ix1 r))
      (Host.reduce IntOp.andi v (constantI S_ 1 1#1) Facts.reducesTo_S2048x2048x2048_S2048_d1_2 Facts.h_S_ (ix1 r)) = 1#1 := by
    refine Eq.trans (congrArg₂ IntOp.andi (congrArg _ ?_) (congrArg _ ?_)) h
    all_goals
      funext a
      match a with
      | ⟨0, _⟩ => rfl
  obtain ⟨hu, hv⟩ := IntOp.andi_eq_one.1 e
  refine ⟨fun a => Host.reduce_andi_eq_one _ _ _ _ _ hu _ ?_, fun a b => Host.reduce_andi_eq_one _ _ _ _ _ hv _ ?_⟩
  all_goals
    funext x
    match x with
    | ⟨0, _⟩ => rfl

/-- What the mask says, at an entry it selects, of the reference's scores in the entry's row. -/
theorem selected_separated (r j : Fin 2048) (h : fn (F := Ideal) x0 x1 x2 x3 x4 x5 x6 x7 x8 x9 x10 (ix3 0 r j) = 1#1) :
    (∀ j : Fin 2048, ¬ r < j → Ideal.ofBits .f32 0xF149F2CA#32 < val_main_v64 (F := Ideal) x0 x1 x2 x3 x4 x5 x6 x7 (ix3 0 r j))
    ∧ ∀ a b : Fin 2048, ¬ r < a → ¬ r < b → a ≠ b →
      val_main_v64 (F := Ideal) x0 x1 x2 x3 x4 x5 x6 x7 (ix3 0 r a) ≠ val_main_v64 (F := Ideal) x0 x1 x2 x3 x4 x5 x6 x7 (ix3 0 r b) := by
  rw [fn_eq, part1_eq, part2_eq, part3_eq] at h
  obtain ⟨hu, hv⟩ := part4_row _ _ _ r j h
  exact row_separated _ r hu hv

end Cert.On_separated_rows.Reading

end
-- ==== Proof.Order.lean ====
/-
  The order in which the reference lists a row's columns, and why it puts the kernel's row of scores in strictly decreasing order: the
  reference's sort is stable, its masked columns all compare equal, and the kernel's masks fall from left to right below every score.
-/
module

public import Idealize.ShloMosaic.Lib.SortFacts
public import Idealize.ShloMosaic.Lib.Pointwise
public import Idealize.ShloMosaic.Lib.IdealHost
public import Idealize.ShloMosaic.Lib.WordCmp

@[expose] public section

noncomputable section

namespace Cert.KernelIdeal.Order

open Idealize.ShloMosaic

/-- `a` is listed before `b`: its key is greater, or the keys are equal and it stands to the left. -/
def Before {n : Nat} (key : Fin n → EReal) (a b : Fin n) : Prop := key b < key a ∨ key a = key b ∧ a < b

/-- Inserting, into a list in that order, a position to the left of all of its positions keeps the order. -/
theorem before_insert {n : Nat} (key : Fin n → EReal) (a : Fin n) (l : List (Fin n)) (hl : l.Pairwise (Before key)) (ha : ∀ x ∈ l, a < x) :
    (insertBefore (fun x y => decide (key y < key x)) a l).Pairwise (Before key) := by
  induction l with
  | nil => exact List.pairwise_singleton _ _
  | cons b l ih =>
    rw [List.pairwise_cons] at hl
    unfold insertBefore
    by_cases h : key a < key b
    · rw [if_pos (decide_eq_true h), List.pairwise_cons]
      refine ⟨fun z hz => ?_, ih hl.2 fun x hx => ha x (List.mem_cons_of_mem b hx)⟩
      rcases List.mem_cons.mp ((perm_insertBefore _ a l).mem_iff.mp hz) with rfl | hz
      · exact Or.inl h
      · exact hl.1 z hz
    · rw [if_neg (by rw [decide_eq_true_eq]; exact h), List.pairwise_cons]
      have hab : ∀ z ∈ b :: l, Before key a z := fun z hz => by
        have hz' : key z ≤ key b := by
          rcases List.mem_cons.mp hz with rfl | hz'
          · exact le_rfl
          · rcases hl.1 z hz' with h' | h'
            · exact h'.le
            · exact h'.1.symm.le
        rcases lt_or_eq_of_le (hz'.trans (not_lt.mp h)) with h' | h'
        · exact Or.inl h'
        · exact Or.inr ⟨h'.symm, ha z hz⟩
      exact ⟨hab, List.pairwise_cons.mpr hl⟩

/-- The stable sort of increasing positions lists them in that order. -/
theorem before_stableSort {n : Nat} (key : Fin n → EReal) (l : List (Fin n)) (hl : l.Pairwise (· < ·)) :
    (stableSort (fun x y => decide (key y < key x)) l).Pairwise (Before key) := by
  induction l with
  | nil => exact List.Pairwise.nil
  | cons a l ih =>
    rw [List.pairwise_cons] at hl
    unfold stableSort
    exact before_insert key a _ (ih hl.2) fun x hx => hl.1 x ((perm_stableSort _ l).mem_iff.mp hx)

/-- An earlier place of the stable sort of all positions holds a position listed before a later place's. -/
theorem before_sortedFrom {n : Nat} (key : Fin n → EReal) (i j : Fin n) (hij : i < j) :
    Before key (sortedFrom (fun x y => decide (key y < key x)) i) (sortedFrom (fun x y => decide (key y < key x)) j) := by
  have hp := List.pairwise_iff_get.mp (before_stableSort key (List.finRange n) (List.pairwise_lt_finRange n))
  exact hp (i.cast (length_sortPositions n _).symm) (j.cast (length_sortPositions n _).symm) hij

section Row
variable {n : Nat} (r : Fin n) (S K key M : Fin n → EReal) (c : EReal)
  (hkey : ∀ j, key j = if r < j then ⊥ else S j) (hK : ∀ j, K j = if r < j then M j else S j)
  (hS : ∀ j, ¬ r < j → c < S j) (hM : ∀ j, M j ≤ c) (hMa : StrictAnti M)
  (hne : ∀ a b, ¬ r < a → ¬ r < b → a ≠ b → S a ≠ S b)
include hkey hK hS hM hMa hne

/-- The order by the key with masked columns equal is the order in which the row with decreasing masks decreases strictly. -/
theorem lt_of_before (a b : Fin n) (h : Before key a b) : K b < K a := by
  have hbot : ∀ j, ¬ r < j → (⊥ : EReal) < S j := fun j hj => lt_of_le_of_lt bot_le (hS j hj)
  unfold Before at h
  rw [hkey, hkey] at h
  rw [hK, hK]
  by_cases ha : r < a <;> by_cases hb : r < b
  · rw [if_pos ha, if_pos hb] at h
    rw [if_pos ha, if_pos hb]
    rcases h with h | h
    · exact absurd h (lt_irrefl _)
    · exact hMa h.2
  · rw [if_pos ha, if_neg hb] at h
    rcases h with h | h
    · exact absurd h not_lt_bot
    · exact absurd h.1 (hbot b hb).ne
  · rw [if_neg ha, if_pos hb]
    exact lt_of_le_of_lt (hM b) (hS a ha)
  · rw [if_neg ha, if_neg hb] at h
    rw [if_neg ha, if_neg hb]
    rcases h with h | h
    · exact h
    · exact absurd h.1 (hne a b ha hb h.2.ne)

/-- So the stable sort by the key puts the row in strictly decreasing order. -/
theorem strictAnti_sortedFrom : StrictAnti fun j => K (sortedFrom (fun x y => decide (key y < key x)) j) :=
  fun i j hij => lt_of_before r S K key M c hkey hK hS hM hMa hne _ _ (before_sortedFrom key i j hij)

omit hkey hne in
/-- Each column past the diagonal lies below every column to its left. -/
theorem tail_lt (i j : Fin n) (hj : r < j) (hij : i < j) : K j < K i := by
  rw [hK, hK, if_pos hj]
  by_cases hi : r < i
  · rw [if_pos hi]; exact hMa hij
  · rw [if_neg hi]; exact lt_of_le_of_lt (hM j) (hS i hi)

end Row

/-- The mask's value at a column, read as real numbers: a number, less the column times a positive number. -/
theorem maskAt_real : ∃ x y : ℝ, 0 < y ∧ Ideal.ofBits .f32 0xF149F2CA#32 = (x : EReal) ∧ Ideal.ofBits .f32 0x6753C21C#32 = (y : EReal) := by
  have hx : ∃ x : ℝ, Ideal.ofBits .f32 0xF149F2CA#32 = (x : EReal) := by
    simp only [Ideal.ofBits, Ideal.ieee]
    rw [if_neg (by decide), if_neg (by decide)]
    exact ⟨_, rfl⟩
  have hy : ∃ y : ℝ, 0 < y ∧ Ideal.ofBits .f32 0x6753C21C#32 = (y : EReal) := by
    simp only [Ideal.ofBits, Ideal.ieee]
    rw [if_neg (by decide), if_neg (by decide)]
    refine ⟨_, ?_, rfl⟩
    rw [if_neg (by decide)]
    positivity
  obtain ⟨x, hx⟩ := hx
  obtain ⟨y, hy, hy'⟩ := hy
  exact ⟨x, y, hy, hx, hy'⟩

/-- The bits of minus infinity denote the least element. -/
theorem ofBits_negInf : Ideal.ofBits .f32 0xFF800000#32 = ⊥ := by
  simp only [Ideal.ofBits, Ideal.ieee]
  rw [if_pos (by decide), if_pos (by decide), if_pos (by decide)]

end Cert.KernelIdeal.Order

end
-- ==== Proof.TopK.lean ====
/-
  The reference's result, entry by entry: the positions of a row's keys in decreasing order of the keys, which are the scores at or before
  the diagonal and minus infinity after it.
-/
module

public import proofs.«01_k».proof.Proof.Order
public import proofs.«01_k».proof.Proof.Gen.ReferenceIdeal.Read
public import Idealize.ShloMosaic.Lib.SortFacts
public import Idealize.ShloMosaic.Lib.WordCmp
public import Idealize.ShloMosaic.Lib.Pointwise
public import Idealize.ShloMosaic.Lib.Pipeline.Value

@[expose] public section

set_option maxRecDepth 16384

noncomputable section

namespace Cert.ReferenceIdeal.Sorted

open Idealize.ShloMosaic Cert.ReferenceIdeal Cert.ReferenceIdeal.Gen Cert.ReferenceIdeal.Read

variable (x0 : (⟨S1x2048x1024, .f32⟩ : BufTy).Contents (Elt Ideal)) (x1 x2 : (⟨S1x2048x64, .f32⟩ : BufTy).Contents (Elt Ideal))
  (x3 : (⟨S1024x1024, .f32⟩ : BufTy).Contents (Elt Ideal)) (x4 : (⟨S1024x64, .f32⟩ : BufTy).Contents (Elt Ideal))
  (x5 : (⟨S1024x16, .f32⟩ : BufTy).Contents (Elt Ideal)) (x6 x7 : (⟨S64, .f32⟩ : BufTy).Contents (Elt Ideal))

/-- A row's key: the score at or before the diagonal, minus infinity after it. -/
theorem key_apply (r j : Fin 2048) :
    val_main_v70 (F := Ideal) x0 x1 x2 x3 x4 x5 x6 x7 (ix3 0 r j)
      = if r < j then ⊥ else val_main_v64 (F := Ideal) x0 x1 x2 x3 x4 x5 x6 x7 (ix3 0 r j) := by
  have hm : val_main_v67 (F := Ideal) (ix3 0 r j) = BitVec.ofBool (decide (r.val < j.val)) :=
    WordCmp.cmpi_sgt_ofNat (w := 32) (show j.val < 2 ^ 31 by omega) (show r.val < 2 ^ 31 by omega)
  have hsel : val_main_v69 (F := Ideal) (ix3 0 r j) = if r < j then (⊥ : EReal) else 0 := by
    rw [val_main_v69_apply, val_main_v68_apply, hm, val_main_call0_v0_apply, val_main_call0_v1_apply, val_main_cst_9_apply, val_main_cst_10_apply]
    by_cases h : r < j
    · rw [if_pos h, decide_eq_true (show r.val < j.val from h)]
      exact KernelIdeal.Order.ofBits_negInf
    · rw [if_neg h, decide_eq_false (show ¬ r.val < j.val from h)]
      exact Ideal.ofBits_zero_f32
  rw [val_main_v70_apply, hsel]
  change (val_main_v64 (F := Ideal) x0 x1 x2 x3 x4 x5 x6 x7 (ix3 0 r j) : EReal) + _ = _
  by_cases h : r < j
  · rw [if_pos h, if_pos h, EReal.add_bot]
  · rw [if_neg h, if_neg h, add_zero]

/-- The order the reference puts a row's positions in. -/
def places (r : Fin 2048) : Fin 2048 → Fin 2048 :=
  sortedFrom fun k k' => decide (val_main_v70 (F := Ideal) x0 x1 x2 x3 x4 x5 x6 x7 (ix3 0 r k')
    < val_main_v70 (F := Ideal) x0 x1 x2 x3 x4 x5 x6 x7 (ix3 0 r k))

/-- The positions of a top-k: those of a stable sort of the fiber by the order. -/
theorem topK_positions {α : Type} (s t : Shape) (d : Nat) (hd : d < s.rank) (gt : α → α → BitVec 1) (x : s.Idx → α)
    (h : s.Slices (fun _ => 0) t) (j : t.Idx) (k : s.Idx) (hk : ∀ a : Fin s.rank, (k a).val = (j (a.cast h.1.symm)).val) :
    (Host.topK t d gt x h).2 j = BitVec.ofNat 32
      (sortedFrom (fun a b => gt (x (k.along ⟨d, hd⟩ a)) (x (k.along ⟨d, hd⟩ b)) == 1#1) (k ⟨d, hd⟩)).val := by
  simp only [Host.topK]
  refine (extractStridedSlice_apply (fun _ => 0) _ h j k fun a => (hk a).trans (Nat.zero_add _).symm).trans ?_
  simp only [Host.sort2, dif_pos hd, iotaInDim, Shape.Idx.along, Function.update_self]

/-- A position of a row with its last coordinate replaced. -/
theorem along_row (hd : 2 < S1x2048x2048.rank) (r j k : Fin 2048) : Shape.Idx.along (s := S1x2048x2048) (ix3 0 r j) ⟨2, hd⟩ k = ix3 0 r k := by
  funext a
  unfold Shape.Idx.along
  match a with
  | ⟨0, _⟩ => exact Function.update_of_ne (Fin.ne_of_val_ne (show (0 : Nat) ≠ 2 by decide)) _ _
  | ⟨1, _⟩ => exact Function.update_of_ne (Fin.ne_of_val_ne (show (1 : Nat) ≠ 2 by decide)) _ _
  | ⟨2, _⟩ => exact Function.update_self _ _ _

/-- The positions a top-k of every entry of a row returns. -/
theorem topK_apply (y : S1x2048x2048.Idx → EReal) (h : S1x2048x2048.Slices (fun _ => 0) S1x2048x2048) (r j : Fin 2048) :
    (Host.topK (s := S1x2048x2048) S1x2048x2048 2 (FloatOps.cmpfTotal (F := Ideal) (φ := .f32) .gt) y h).2 (ix3 0 r j)
      = BitVec.ofNat 32 (sortedFrom (fun k k' : Fin 2048 => decide (y (ix3 0 r k') < y (ix3 0 r k))) j).val := by
  have hd : 2 < S1x2048x2048.rank := by decide
  refine (topK_positions S1x2048x2048 S1x2048x2048 2 hd _ y h (ix3 0 r j) (ix3 0 r j) fun a => rfl).trans ?_
  have hb : (fun k k' : Fin 2048 => (FloatOps.cmpfTotal (F := Ideal) (φ := .f32) .gt (y (Shape.Idx.along (s := S1x2048x2048) (ix3 0 r j) ⟨2, hd⟩ k))
      (y (Shape.Idx.along (s := S1x2048x2048) (ix3 0 r j) ⟨2, hd⟩ k')) == 1#1)) = fun k k' => decide (y (ix3 0 r k') < y (ix3 0 r k)) := by
    funext k k'
    rw [along_row, along_row]
    change (BitVec.ofBool (decide (y (ix3 0 r k') < y (ix3 0 r k))) == 1#1) = _
    cases decide (y (ix3 0 r k') < y (ix3 0 r k)) <;> rfl
  exact congrArg (fun f : Fin 2048 → Fin 2048 → Bool => BitVec.ofNat 32 (sortedFrom f j).val) hb

/-- The reference's result at an entry is the position that comes there in that order. -/
theorem indices_apply (r j : Fin 2048) :
    val_main_indices (F := Ideal) x0 x1 x2 x3 x4 x5 x6 x7 (ix3 0 r j) = BitVec.ofNat 32 (places x0 x1 x2 x3 x4 x5 x6 x7 r j).val := by
  unfold val_main_indices places
  generalize val_main_v70 (F := Ideal) x0 x1 x2 x3 x4 x5 x6 x7 = y
  exact topK_apply y _ r j

end Cert.ReferenceIdeal.Sorted

end
-- ==== Proof.Stage.lean ====
/-
  The compare-exchange stages of the sorting bodies, stated once for every width.

  A body sorts each row of a block of keys by Batcher's bitonic network and carries the entries' positions along. A stage at
  distance `2 ^ s` reads every entry's partner (by two rotations and a select, or by swapping neighbouring blocks of the row),
  keeps the own entry where "own key greater than the partner's" differs from the stage's mask, and takes the partner's
  elsewhere. Here: these functions of a block, and the whole network as a recursion over its levels and distances.
-/
module

public import Idealize.ShloMosaic.PureOps
public import Idealize.ShloMosaic.PureOps.Ideal

@[expose] public section

noncomputable section

namespace Cert.KernelIdeal.Sorting

open Idealize.ShloMosaic

variable {F : FTy → Type} [FloatOps F]

/-- A row's partner function, on entries of every type. -/
abbrev Partner (S : Shape) := ∀ α : Type, (S.Idx → α) → (S.Idx → α)

/-- Bit `d` of the position is clear. -/
def clearMask {S : Shape} (pos : IVec S 32) (d : BitVec 32) : IVec S 1 :=
  cmpi .eq (andi pos (broadcast S d)) (broadcast S 0#32)

/-- The partner read by two rotations: the entry `d` further on where bit `d` is clear, the entry `d` before elsewhere. -/
def rollPartner {S : Shape} (a : Fin S.rank) (hr : S.Rotates a none) (pos : IVec S 32) (d nd : BitVec 32) : Partner S :=
  fun _ x => select (clearMask pos d) (dynamicRotate a nd none x hr) (dynamicRotate a d none x hr)

/-- The partner read by swapping neighbouring blocks: piece `n` is block `n ^ 1` of the row. -/
def swapPartner {R w : Nat} (N d : Nat)
    (hs : ∀ n : Fin N, Shape.Slices (⟨2, ![R, w]⟩ : Shape) ![0, (n.val ^^^ 1) * d] ⟨2, ![R, d]⟩)
    (hc : Shape.Concatenates (List.replicate N (⟨2, ![R, d]⟩ : Shape)) ⟨2, ![R, w]⟩ 1) : Partner ⟨2, ![R, w]⟩ :=
  fun α x => concatenate ⟨2, ![R, w]⟩ 1
    (List.ofFn fun n : Fin N => (⟨⟨2, ![R, d]⟩, extractStridedSlice ⟨2, ![R, d]⟩ ![0, (n.val ^^^ 1) * d] x (hs n)⟩ :
      (s : Shape) × (s.Idx → α))) (by
        have e : (List.ofFn fun n : Fin N => (⟨⟨2, ![R, d]⟩, extractStridedSlice ⟨2, ![R, d]⟩ ![0, (n.val ^^^ 1) * d] x (hs n)⟩ :
            (s : Shape) × (s.Idx → α))).map (·.1) = List.replicate N (⟨2, ![R, d]⟩ : Shape) := by
          rw [List.map_ofFn]; exact List.ofFn_const N _
        rw [e]; exact hc)

/-- One stage on a block of keys and a block of positions. -/
def exchange {S : Shape} (P : Partner S) (mask : IVec S 1) (st : FVec F S .f32 × IVec S 32) : FVec F S .f32 × IVec S 32 :=
  (select (xori (cmpf .ogt st.1 (P _ st.1)) mask) st.1 (P _ st.1), select (xori (cmpf .ogt st.1 (P _ st.1)) mask) st.2 (P _ st.2))

/-- The mask of the stage at distance `2 ^ s` in level `l` of `p`: the position's bit `s` clear, exclusive-or the bit of the
    level's block size clear; in the last level the first of them negated. -/
def stageMask {S : Shape} (pos : IVec S 32) (p l s : Nat) : IVec S 1 :=
  if l + 1 < p then xori (clearMask pos (BitVec.ofNat 32 (2 ^ s))) (clearMask pos (BitVec.ofNat 32 (2 ^ (l + 1))))
  else xori (clearMask pos (BitVec.ofNat 32 (2 ^ s))) (constantI S 1 1#1)

/-- Level `l` of `p` from the state `st`: the state after its first `k` stages, which run at the distances `2 ^ l, 2 ^ (l - 1), …`. -/
def runLevel {S : Shape} (P : Nat → Partner S) (pos : IVec S 32) (p l : Nat) (st : FVec F S .f32 × IVec S 32) :
    Nat → FVec F S .f32 × IVec S 32
  | 0 => st
  | k + 1 => exchange (P (l - k)) (stageMask pos p l (l - k)) (runLevel P pos p l st k)

/-- The network on `2 ^ p` positions from the state `st`: the state in level `l` after the level's first `k` stages. -/
def runSort {S : Shape} (P : Nat → Partner S) (pos : IVec S 32) (p : Nat) (st : FVec F S .f32 × IVec S 32) :
    Nat → Nat → FVec F S .f32 × IVec S 32
  | 0 => runLevel P pos p 0 st
  | l + 1 => runLevel P pos p (l + 1) (runSort P pos p st l (l + 1))

end Cert.KernelIdeal.Sorting
-- ==== Proof.Nodes.lean ====
/-
  What each sorting body stores: the positions after the whole network of compare-exchange stages.

  A body is printed in windows of statements that end in the middle of a stage; the values handed from one window to the next are named.
  Each lemma below says what one of these values is: the keys or the positions after some number of stages, or an operand of the stage that
  the window's end cuts. The last lemma of each width says that the stored block is the positions after the last stage.
-/
module

public import proofs.«01_k».proof.Proof.Gen.KernelIdeal.Frame
public import proofs.«01_k».proof.Proof.Stage

@[expose] public section

set_option maxRecDepth 16384

noncomputable section

namespace Cert.KernelIdeal.Sorting

open Idealize.ShloMosaic Cert.KernelIdeal.Gen Cert.KernelIdeal

variable {F : FTy → Type} [FloatOps F]

/-! ### Width 256 -/

/-- The positions along a row of 256. -/
abbrev pos256 : IVec S64x256 32 := iota .tc S64x256 32 [1] iota_S64x256_d1_w32

/-- A row of 256 with neighbouring blocks of 128 swapped. -/
def swap256_128 {α : Type} (x : S64x256.Idx → α) : S64x256.Idx → α :=
  concatenate S64x256 1 [
      ⟨S64x128, extractStridedSlice S64x128 ![0, 128] x slices_S64x256_o0_128_S64x128⟩,
      ⟨S64x128, extractStridedSlice S64x128 ![0, 0] x slices_S64x256_o0_0_S64x128⟩] concatenates_S64x128_S64x128_S64x256_d1

/-- The partner functions at width 256: rotations at the distances below 128, block swaps from there on. -/
def partner256 (s : Nat) : Partner S64x256 :=
  if s < 7 then rollPartner 1 rotates_S64x256_d1 pos256 (BitVec.ofNat 32 (2 ^ s)) (BitVec.ofNat 32 (256 - 2 ^ s))
  else fun _ => swap256_128

/-- Keys and positions of a block in level `l` after the level's first `k` stages. -/
def net256 (x0 : Vec F S64x256 .f32) (l k : Nat) : FVec F S64x256 .f32 × IVec S64x256 32 :=
  runSort partner256 pos256 8 (shapeCast S64x256 (View.ld x0 r2_0) shapeCasts_S64x256_S64x256, pos256) l k

theorem k2_pay179_eq (x0 : Vec F S64x256 .f32) : k2_pay179 x0 = (net256 x0 1 0).1 := by
  rw [k2_pay179]; rfl

theorem k2_pay183_eq (x0 : Vec F S64x256 .f32) : k2_pay183 x0 = dynamicRotate 1 254#32 none (net256 x0 1 0).1 rotates_S64x256_d1 := by
  rw [k2_pay183]; rfl

theorem k2_pay184_eq (x0 : Vec F S64x256 .f32) : k2_pay184 x0 = (net256 x0 2 0).1 := by
  rw [k2_pay184, k2_pay179_eq, k2_pay183_eq]; rfl

theorem k2_pay188_eq (x0 : Vec F S64x256 .f32) : k2_pay188 x0 = dynamicRotate 1 252#32 none (net256 x0 2 0).1 rotates_S64x256_d1 := by
  rw [k2_pay188, k2_pay179_eq, k2_pay183_eq]; rfl

theorem k2_pay189_eq (x0 : Vec F S64x256 .f32) : k2_pay189 x0 = (net256 x0 3 0).1 := by
  rw [k2_pay189, k2_pay184_eq, k2_pay188_eq]; rfl

theorem k2_pay191_eq (x0 : Vec F S64x256 .f32) : k2_pay191 x0 = (net256 x0 3 2).1 := by
  rw [k2_pay191, k2_pay189_eq]; rfl

theorem k2_pay192_eq (x0 : Vec F S64x256 .f32) : k2_pay192 x0 = (net256 x0 4 0).1 := by
  rw [k2_pay192, k2_pay191_eq]; rfl

theorem k2_pay194_eq (x0 : Vec F S64x256 .f32) : k2_pay194 x0 = (net256 x0 4 2).1 := by
  rw [k2_pay194, k2_pay192_eq]; rfl

theorem k2_pay195_eq (x0 : Vec F S64x256 .f32) : k2_pay195 x0 = (net256 x0 4 4).1 := by
  rw [k2_pay195, k2_pay194_eq]; rfl

theorem k2_pay198_eq (x0 : Vec F S64x256 .f32) : k2_pay198 x0 = (net256 x0 5 1).1 := by
  rw [k2_pay198, k2_pay195_eq]; rfl

theorem k2_pay200_eq (x0 : Vec F S64x256 .f32) : k2_pay200 x0 = (net256 x0 5 3).1 := by
  rw [k2_pay200, k2_pay198_eq]; rfl

theorem k2_pay204_eq (x0 : Vec F S64x256 .f32) : k2_pay204 x0 = (net256 x0 5 5).1 := by
  rw [k2_pay204, k2_pay200_eq]; rfl

theorem k2_pay206_eq (x0 : Vec F S64x256 .f32) : k2_pay206 x0 = select (cmpi .eq (andi pos256 (broadcast S64x256 1#32)) (broadcast S64x256 0#32)) (dynamicRotate 1 255#32 none (net256 x0 5 5).1 rotates_S64x256_d1) (dynamicRotate 1 1#32 none (net256 x0 5 5).1 rotates_S64x256_d1) := by
  rw [k2_pay206, k2_pay200_eq]; rfl

theorem k2_pay208_eq (x0 : Vec F S64x256 .f32) : k2_pay208 x0 = (net256 x0 6 1).1 := by
  rw [k2_pay208, k2_pay204_eq, k2_pay206_eq]; rfl

theorem net256_v25 (x0 : Vec F S64x256 .f32) :
    k2_pay6 (View.ld x0 r2_0) = (net256 x0 1 0).2 := by
  rfl

theorem net256_v67 (x0 : Vec F S64x256 .f32) :
    k2_pay18 (k2_pay178 x0) (k2_pay179 x0) (k2_pay6 (View.ld x0 r2_0)) (k2_pay180 x0) (k2_pay181 x0) (k2_pay182 x0) (k2_pay183 x0) = (net256 x0 2 0).2 := by
  rw [net256_v25, k2_pay179_eq, k2_pay183_eq]; rfl

theorem net256_v109 (x0 : Vec F S64x256 .f32) :
    k2_pay30 (k2_pay178 x0) (k2_pay184 x0) (k2_pay18 (k2_pay178 x0) (k2_pay179 x0) (k2_pay6 (View.ld x0 r2_0)) (k2_pay180 x0) (k2_pay181 x0) (k2_pay182 x0) (k2_pay183 x0)) (k2_pay185 x0) (k2_pay186 x0) (k2_pay187 x0) (k2_pay188 x0) = (net256 x0 2 2).2 := by
  rw [net256_v67, k2_pay184_eq, k2_pay188_eq]; rfl

theorem net256_v123 (x0 : Vec F S64x256 .f32) :
    k2_pay33 (k2_pay178 x0) (k2_pay184 x0) (k2_pay185 x0) (k2_pay186 x0) (k2_pay187 x0) (k2_pay188 x0) = xori (cmpf .ogt (net256 x0 2 2).1 (select (cmpi .eq (andi pos256 (broadcast S64x256 1#32)) (broadcast S64x256 0#32)) (dynamicRotate 1 255#32 none (net256 x0 2 2).1 rotates_S64x256_d1) (dynamicRotate 1 1#32 none (net256 x0 2 2).1 rotates_S64x256_d1))) (xori (cmpi .eq (andi pos256 (broadcast S64x256 1#32)) (broadcast S64x256 0#32)) (cmpi .eq (andi pos256 (broadcast S64x256 8#32)) (broadcast S64x256 0#32))) := by
  rw [k2_pay184_eq, k2_pay188_eq]; rfl

theorem net256_v151 (x0 : Vec F S64x256 .f32) :
    k2_pay40 (k2_pay178 x0) (k2_pay30 (k2_pay178 x0) (k2_pay184 x0) (k2_pay18 (k2_pay178 x0) (k2_pay179 x0) (k2_pay6 (View.ld x0 r2_0)) (k2_pay180 x0) (k2_pay181 x0) (k2_pay182 x0) (k2_pay183 x0)) (k2_pay185 x0) (k2_pay186 x0) (k2_pay187 x0) (k2_pay188 x0)) (k2_pay31 (k2_pay178 x0)) (k2_pay33 (k2_pay178 x0) (k2_pay184 x0) (k2_pay185 x0) (k2_pay186 x0) (k2_pay187 x0) (k2_pay188 x0)) (k2_pay189 x0) = (net256 x0 3 1).2 := by
  rw [net256_v109, net256_v123, k2_pay189_eq]; rfl

theorem net256_v165 (x0 : Vec F S64x256 .f32) :
    k2_pay43 (k2_pay178 x0) (k2_pay189 x0) = xori (cmpf .ogt (net256 x0 3 1).1 (select (cmpi .eq (andi pos256 (broadcast S64x256 4#32)) (broadcast S64x256 0#32)) (dynamicRotate 1 252#32 none (net256 x0 3 1).1 rotates_S64x256_d1) (dynamicRotate 1 4#32 none (net256 x0 3 1).1 rotates_S64x256_d1))) (xori (cmpi .eq (andi pos256 (broadcast S64x256 4#32)) (broadcast S64x256 0#32)) (cmpi .eq (andi pos256 (broadcast S64x256 16#32)) (broadcast S64x256 0#32))) := by
  rw [k2_pay189_eq]; rfl

theorem net256_v208 (x0 : Vec F S64x256 .f32) :
    k2_pay53 (k2_pay178 x0) (k2_pay190 x0) (k2_pay40 (k2_pay178 x0) (k2_pay30 (k2_pay178 x0) (k2_pay184 x0) (k2_pay18 (k2_pay178 x0) (k2_pay179 x0) (k2_pay6 (View.ld x0 r2_0)) (k2_pay180 x0) (k2_pay181 x0) (k2_pay182 x0) (k2_pay183 x0)) (k2_pay185 x0) (k2_pay186 x0) (k2_pay187 x0) (k2_pay188 x0)) (k2_pay31 (k2_pay178 x0)) (k2_pay33 (k2_pay178 x0) (k2_pay184 x0) (k2_pay185 x0) (k2_pay186 x0) (k2_pay187 x0) (k2_pay188 x0)) (k2_pay189 x0)) (k2_pay41 (k2_pay178 x0)) (k2_pay43 (k2_pay178 x0) (k2_pay189 x0)) (k2_pay191 x0) = (net256 x0 4 0).2 := by
  rw [net256_v151, net256_v165, k2_pay191_eq]; rfl

theorem net256_v250 (x0 : Vec F S64x256 .f32) :
    k2_pay63 (k2_pay178 x0) (k2_pay192 x0) (k2_pay53 (k2_pay178 x0) (k2_pay190 x0) (k2_pay40 (k2_pay178 x0) (k2_pay30 (k2_pay178 x0) (k2_pay184 x0) (k2_pay18 (k2_pay178 x0) (k2_pay179 x0) (k2_pay6 (View.ld x0 r2_0)) (k2_pay180 x0) (k2_pay181 x0) (k2_pay182 x0) (k2_pay183 x0)) (k2_pay185 x0) (k2_pay186 x0) (k2_pay187 x0) (k2_pay188 x0)) (k2_pay31 (k2_pay178 x0)) (k2_pay33 (k2_pay178 x0) (k2_pay184 x0) (k2_pay185 x0) (k2_pay186 x0) (k2_pay187 x0) (k2_pay188 x0)) (k2_pay189 x0)) (k2_pay41 (k2_pay178 x0)) (k2_pay43 (k2_pay178 x0) (k2_pay189 x0)) (k2_pay191 x0)) = (net256 x0 4 2).2 := by
  rw [net256_v208, k2_pay192_eq]; rfl

theorem net256_v288 (x0 : Vec F S64x256 .f32) :
    k2_pay72 (k2_pay178 x0) (k2_pay193 x0) (k2_pay194 x0) (k2_pay63 (k2_pay178 x0) (k2_pay192 x0) (k2_pay53 (k2_pay178 x0) (k2_pay190 x0) (k2_pay40 (k2_pay178 x0) (k2_pay30 (k2_pay178 x0) (k2_pay184 x0) (k2_pay18 (k2_pay178 x0) (k2_pay179 x0) (k2_pay6 (View.ld x0 r2_0)) (k2_pay180 x0) (k2_pay181 x0) (k2_pay182 x0) (k2_pay183 x0)) (k2_pay185 x0) (k2_pay186 x0) (k2_pay187 x0) (k2_pay188 x0)) (k2_pay31 (k2_pay178 x0)) (k2_pay33 (k2_pay178 x0) (k2_pay184 x0) (k2_pay185 x0) (k2_pay186 x0) (k2_pay187 x0) (k2_pay188 x0)) (k2_pay189 x0)) (k2_pay41 (k2_pay178 x0)) (k2_pay43 (k2_pay178 x0) (k2_pay189 x0)) (k2_pay191 x0))) = (net256 x0 4 4).2 := by
  rw [net256_v250, k2_pay194_eq]; rfl

theorem net256_v330 (x0 : Vec F S64x256 .f32) :
    k2_pay83 (k2_pay178 x0) (k2_pay193 x0) (k2_pay195 x0) (k2_pay72 (k2_pay178 x0) (k2_pay193 x0) (k2_pay194 x0) (k2_pay63 (k2_pay178 x0) (k2_pay192 x0) (k2_pay53 (k2_pay178 x0) (k2_pay190 x0) (k2_pay40 (k2_pay178 x0) (k2_pay30 (k2_pay178 x0) (k2_pay184 x0) (k2_pay18 (k2_pay178 x0) (k2_pay179 x0) (k2_pay6 (View.ld x0 r2_0)) (k2_pay180 x0) (k2_pay181 x0) (k2_pay182 x0) (k2_pay183 x0)) (k2_pay185 x0) (k2_pay186 x0) (k2_pay187 x0) (k2_pay188 x0)) (k2_pay31 (k2_pay178 x0)) (k2_pay33 (k2_pay178 x0) (k2_pay184 x0) (k2_pay185 x0) (k2_pay186 x0) (k2_pay187 x0) (k2_pay188 x0)) (k2_pay189 x0)) (k2_pay41 (k2_pay178 x0)) (k2_pay43 (k2_pay178 x0) (k2_pay189 x0)) (k2_pay191 x0)))) (k2_pay196 x0) = (net256 x0 5 1).2 := by
  rw [net256_v288, k2_pay195_eq]; rfl

theorem net256_v368 (x0 : Vec F S64x256 .f32) :
    k2_pay93 (k2_pay178 x0) (k2_pay197 x0) (k2_pay198 x0) (k2_pay83 (k2_pay178 x0) (k2_pay193 x0) (k2_pay195 x0) (k2_pay72 (k2_pay178 x0) (k2_pay193 x0) (k2_pay194 x0) (k2_pay63 (k2_pay178 x0) (k2_pay192 x0) (k2_pay53 (k2_pay178 x0) (k2_pay190 x0) (k2_pay40 (k2_pay178 x0) (k2_pay30 (k2_pay178 x0) (k2_pay184 x0) (k2_pay18 (k2_pay178 x0) (k2_pay179 x0) (k2_pay6 (View.ld x0 r2_0)) (k2_pay180 x0) (k2_pay181 x0) (k2_pay182 x0) (k2_pay183 x0)) (k2_pay185 x0) (k2_pay186 x0) (k2_pay187 x0) (k2_pay188 x0)) (k2_pay31 (k2_pay178 x0)) (k2_pay33 (k2_pay178 x0) (k2_pay184 x0) (k2_pay185 x0) (k2_pay186 x0) (k2_pay187 x0) (k2_pay188 x0)) (k2_pay189 x0)) (k2_pay41 (k2_pay178 x0)) (k2_pay43 (k2_pay178 x0) (k2_pay189 x0)) (k2_pay191 x0)))) (k2_pay196 x0)) (k2_pay199 x0) = (net256 x0 5 3).2 := by
  rw [net256_v330, k2_pay198_eq]; rfl

theorem net256_v406 (x0 : Vec F S64x256 .f32) :
    k2_pay105 (k2_pay178 x0) (k2_pay197 x0) (k2_pay200 x0) (k2_pay93 (k2_pay178 x0) (k2_pay197 x0) (k2_pay198 x0) (k2_pay83 (k2_pay178 x0) (k2_pay193 x0) (k2_pay195 x0) (k2_pay72 (k2_pay178 x0) (k2_pay193 x0) (k2_pay194 x0) (k2_pay63 (k2_pay178 x0) (k2_pay192 x0) (k2_pay53 (k2_pay178 x0) (k2_pay190 x0) (k2_pay40 (k2_pay178 x0) (k2_pay30 (k2_pay178 x0) (k2_pay184 x0) (k2_pay18 (k2_pay178 x0) (k2_pay179 x0) (k2_pay6 (View.ld x0 r2_0)) (k2_pay180 x0) (k2_pay181 x0) (k2_pay182 x0) (k2_pay183 x0)) (k2_pay185 x0) (k2_pay186 x0) (k2_pay187 x0) (k2_pay188 x0)) (k2_pay31 (k2_pay178 x0)) (k2_pay33 (k2_pay178 x0) (k2_pay184 x0) (k2_pay185 x0) (k2_pay186 x0) (k2_pay187 x0) (k2_pay188 x0)) (k2_pay189 x0)) (k2_pay41 (k2_pay178 x0)) (k2_pay43 (k2_pay178 x0) (k2_pay189 x0)) (k2_pay191 x0)))) (k2_pay196 x0)) (k2_pay199 x0)) (k2_pay201 x0) (k2_pay202 x0) (k2_pay203 x0) = (net256 x0 5 5).2 := by
  rw [net256_v368, k2_pay200_eq]; rfl

theorem k2_pay209_eq (x0 : Vec F S64x256 .f32) : k2_pay209 x0 = (net256 x0 6 1).2 := by
  rw [k2_pay209, net256_v406, k2_pay204_eq, k2_pay206_eq]; rfl

theorem k2_pay212_eq (x0 : Vec F S64x256 .f32) : k2_pay212 x0 = select (cmpi .eq (andi pos256 (broadcast S64x256 32#32)) (broadcast S64x256 0#32)) (dynamicRotate 1 224#32 none (net256 x0 6 1).1 rotates_S64x256_d1) (dynamicRotate 1 32#32 none (net256 x0 6 1).1 rotates_S64x256_d1) := by
  rw [k2_pay212, k2_pay204_eq, k2_pay206_eq]; rfl

theorem k2_pay213_eq (x0 : Vec F S64x256 .f32) : k2_pay213 x0 = (net256 x0 6 4).1 := by
  rw [k2_pay213, k2_pay208_eq, k2_pay212_eq]; rfl

theorem k2_pay214_eq (x0 : Vec F S64x256 .f32) : k2_pay214 x0 = (net256 x0 6 6).1 := by
  rw [k2_pay214, k2_pay213_eq]; rfl

theorem k2_pay216_eq (x0 : Vec F S64x256 .f32) : k2_pay216 x0 = (net256 x0 7 1).1 := by
  rw [k2_pay216, k2_pay214_eq]; rfl

theorem k2_pay219_eq (x0 : Vec F S64x256 .f32) : k2_pay219 x0 = dynamicRotate 1 192#32 none (net256 x0 7 1).1 rotates_S64x256_d1 := by
  rw [k2_pay219, k2_pay214_eq]; rfl

theorem k2_pay220_eq (x0 : Vec F S64x256 .f32) : k2_pay220 x0 = dynamicRotate 1 64#32 none (net256 x0 7 1).1 rotates_S64x256_d1 := by
  rw [k2_pay220, k2_pay214_eq]; rfl

theorem net256_v486 (x0 : Vec F S64x256 .f32) :
    k2_pay126 (k2_pay178 x0) (k2_pay207 x0) (k2_pay208 x0) (k2_pay209 x0) (k2_pay210 x0) (k2_pay211 x0) (k2_pay212 x0) = (net256 x0 6 3).2 := by
  rw [k2_pay208_eq, k2_pay209_eq, k2_pay212_eq]; rfl

theorem net256_v500 (x0 : Vec F S64x256 .f32) :
    k2_pay129 (k2_pay178 x0) (k2_pay207 x0) (k2_pay208 x0) (k2_pay210 x0) (k2_pay212 x0) = xori (cmpf .ogt (net256 x0 6 3).1 (select (cmpi .eq (andi pos256 (broadcast S64x256 8#32)) (broadcast S64x256 0#32)) (dynamicRotate 1 248#32 none (net256 x0 6 3).1 rotates_S64x256_d1) (dynamicRotate 1 8#32 none (net256 x0 6 3).1 rotates_S64x256_d1))) (xori (cmpi .eq (andi pos256 (broadcast S64x256 8#32)) (broadcast S64x256 0#32)) (cmpi .eq (andi pos256 (broadcast S64x256 128#32)) (broadcast S64x256 0#32))) := by
  rw [k2_pay208_eq, k2_pay212_eq]; rfl

theorem net256_v502 (x0 : Vec F S64x256 .f32) :
    k2_pay131 (k2_pay178 x0) (k2_pay207 x0) (k2_pay208 x0) (k2_pay209 x0) (k2_pay210 x0) (k2_pay211 x0) (k2_pay212 x0) = dynamicRotate 1 248#32 none (net256 x0 6 3).2 rotates_S64x256_d1 := by
  rw [k2_pay208_eq, k2_pay209_eq, k2_pay212_eq]; rfl

theorem net256_v543 (x0 : Vec F S64x256 .f32) :
    k2_pay140 (k2_pay178 x0) (k2_pay207 x0) (k2_pay126 (k2_pay178 x0) (k2_pay207 x0) (k2_pay208 x0) (k2_pay209 x0) (k2_pay210 x0) (k2_pay211 x0) (k2_pay212 x0)) (k2_pay127 (k2_pay178 x0)) (k2_pay129 (k2_pay178 x0) (k2_pay207 x0) (k2_pay208 x0) (k2_pay210 x0) (k2_pay212 x0)) (k2_pay213 x0) (k2_pay131 (k2_pay178 x0) (k2_pay207 x0) (k2_pay208 x0) (k2_pay209 x0) (k2_pay210 x0) (k2_pay211 x0) (k2_pay212 x0)) 8#32 = (net256 x0 6 6).2 := by
  rw [net256_v486, net256_v500, net256_v502, k2_pay213_eq]; rfl

theorem net256_v577 (x0 : Vec F S64x256 .f32) :
    k2_pay149 (k2_pay178 x0) (k2_pay207 x0) (k2_pay214 x0) (k2_pay140 (k2_pay178 x0) (k2_pay207 x0) (k2_pay126 (k2_pay178 x0) (k2_pay207 x0) (k2_pay208 x0) (k2_pay209 x0) (k2_pay210 x0) (k2_pay211 x0) (k2_pay212 x0)) (k2_pay127 (k2_pay178 x0)) (k2_pay129 (k2_pay178 x0) (k2_pay207 x0) (k2_pay208 x0) (k2_pay210 x0) (k2_pay212 x0)) (k2_pay213 x0) (k2_pay131 (k2_pay178 x0) (k2_pay207 x0) (k2_pay208 x0) (k2_pay209 x0) (k2_pay210 x0) (k2_pay211 x0) (k2_pay212 x0)) 8#32) (k2_pay215 x0) = (net256 x0 7 1).2 := by
  rw [net256_v543, k2_pay214_eq]; rfl

theorem k2_pay221_eq (x0 : Vec F S64x256 .f32) : k2_pay221 x0 = (net256 x0 7 3).2 := by
  rw [k2_pay221, net256_v577, k2_pay216_eq, k2_pay219_eq, k2_pay220_eq]; rfl

theorem k2_pay223_eq (x0 : Vec F S64x256 .f32) : k2_pay223 x0 = xori (cmpf .ogt (net256 x0 7 3).1 (select (cmpi .eq (andi pos256 (broadcast S64x256 16#32)) (broadcast S64x256 0#32)) (dynamicRotate 1 240#32 none (net256 x0 7 3).1 rotates_S64x256_d1) (dynamicRotate 1 16#32 none (net256 x0 7 3).1 rotates_S64x256_d1))) (xori (cmpi .eq (andi pos256 (broadcast S64x256 16#32)) (broadcast S64x256 0#32)) (constantI S64x256 1 1#1)) := by
  rw [k2_pay223, k2_pay216_eq, k2_pay219_eq, k2_pay220_eq]; rfl

theorem k2_pay224_eq (x0 : Vec F S64x256 .f32) : k2_pay224 x0 = (net256 x0 7 4).1 := by
  rw [k2_pay224, k2_pay216_eq, k2_pay219_eq, k2_pay220_eq]; rfl

theorem net256_v653 (x0 : Vec F S64x256 .f32) :
    k2_pay170 (k2_pay178 x0) (k2_pay221 x0) (k2_pay222 x0) (k2_pay223 x0) (k2_pay224 x0) = (net256 x0 7 5).2 := by
  rw [k2_pay221_eq, k2_pay223_eq, k2_pay224_eq]; rfl

theorem net256_v667 (x0 : Vec F S64x256 .f32) :
    k2_pay173 (k2_pay178 x0) (k2_pay224 x0) = xori (cmpf .ogt (net256 x0 7 5).1 (select (cmpi .eq (andi pos256 (broadcast S64x256 4#32)) (broadcast S64x256 0#32)) (dynamicRotate 1 252#32 none (net256 x0 7 5).1 rotates_S64x256_d1) (dynamicRotate 1 4#32 none (net256 x0 7 5).1 rotates_S64x256_d1))) (xori (cmpi .eq (andi pos256 (broadcast S64x256 4#32)) (broadcast S64x256 0#32)) (constantI S64x256 1 1#1)) := by
  rw [k2_pay224_eq]; rfl

theorem net256_v668 (x0 : Vec F S64x256 .f32) :
    k2_pay174 (k2_pay178 x0) (k2_pay224 x0) = (net256 x0 7 6).1 := by
  rw [k2_pay224_eq]; rfl

theorem net256_v669 (x0 : Vec F S64x256 .f32) :
    k2_pay175 (k2_pay178 x0) (k2_pay221 x0) (k2_pay222 x0) (k2_pay223 x0) (k2_pay224 x0) = dynamicRotate 1 252#32 none (net256 x0 7 5).2 rotates_S64x256_d1 := by
  rw [k2_pay221_eq, k2_pay223_eq, k2_pay224_eq]; rfl

theorem net256_v670 (x0 : Vec F S64x256 .f32) :
    k2_pay176 (k2_pay178 x0) (k2_pay221 x0) (k2_pay222 x0) (k2_pay223 x0) (k2_pay224 x0) = dynamicRotate 1 4#32 none (net256 x0 7 5).2 rotates_S64x256_d1 := by
  rw [k2_pay221_eq, k2_pay223_eq, k2_pay224_eq]; rfl

/-- The stored block: the positions after the last stage. -/
theorem out2_eq (x0 : Vec F S64x256 .f32) : out2_1 x0 = View.canon [⟨r2_0, (net256 x0 8 0).2⟩] := by
  rw [out2_1, net256_v653, net256_v667, net256_v668, net256_v669, net256_v670]; rfl

/-! ### Width 512 -/

/-- The positions along a row of 512. -/
abbrev pos512 : IVec S64x512 32 := iota .tc S64x512 32 [1] iota_S64x512_d1_w32

/-- A row of 512 with neighbouring blocks of 128 swapped. -/
def swap512_128 {α : Type} (x : S64x512.Idx → α) : S64x512.Idx → α :=
  concatenate S64x512 1 [
      ⟨S64x128, extractStridedSlice S64x128 ![0, 128] x slices_S64x512_o0_128_S64x128⟩,
      ⟨S64x128, extractStridedSlice S64x128 ![0, 0] x slices_S64x512_o0_0_S64x128⟩,
      ⟨S64x128, extractStridedSlice S64x128 ![0, 384] x slices_S64x512_o0_384_S64x128⟩,
      ⟨S64x128, extractStridedSlice S64x128 ![0, 256] x slices_S64x512_o0_256_S64x128⟩] concatenates_S64x128_S64x128_S64x128_S64x128_S64x512_d1

/-- A row of 512 with neighbouring blocks of 256 swapped. -/
def swap512_256 {α : Type} (x : S64x512.Idx → α) : S64x512.Idx → α :=
  concatenate S64x512 1 [
      ⟨S64x256, extractStridedSlice S64x256 ![0, 256] x slices_S64x512_o0_256_S64x256⟩,
      ⟨S64x256, extractStridedSlice S64x256 ![0, 0] x slices_S64x512_o0_0_S64x256⟩] concatenates_S64x256_S64x256_S64x512_d1

/-- The partner functions at width 512: rotations at the distances below 128, block swaps from there on. -/
def partner512 (s : Nat) : Partner S64x512 :=
  if s < 7 then rollPartner 1 rotates_S64x512_d1 pos512 (BitVec.ofNat 32 (2 ^ s)) (BitVec.ofNat 32 (512 - 2 ^ s))
  else if s = 7 then fun _ => swap512_128
  else fun _ => swap512_256

/-- Keys and positions of a block in level `l` after the level's first `k` stages. -/
def net512 (x0 : Vec F S64x512 .f32) (l k : Nat) : FVec F S64x512 .f32 × IVec S64x512 32 :=
  runSort partner512 pos512 9 (shapeCast S64x512 (View.ld x0 r3_0) shapeCasts_S64x512_S64x512, pos512) l k

theorem k3_pay227_eq (x0 : Vec F S64x512 .f32) : k3_pay227 x0 = (net512 x0 1 0).1 := by
  rw [k3_pay227]; rfl

theorem k3_pay231_eq (x0 : Vec F S64x512 .f32) : k3_pay231 x0 = dynamicRotate 1 510#32 none (net512 x0 1 0).1 rotates_S64x512_d1 := by
  rw [k3_pay231]; rfl

theorem k3_pay232_eq (x0 : Vec F S64x512 .f32) : k3_pay232 x0 = (net512 x0 2 0).1 := by
  rw [k3_pay232, k3_pay227_eq, k3_pay231_eq]; rfl

theorem k3_pay236_eq (x0 : Vec F S64x512 .f32) : k3_pay236 x0 = dynamicRotate 1 508#32 none (net512 x0 2 0).1 rotates_S64x512_d1 := by
  rw [k3_pay236, k3_pay227_eq, k3_pay231_eq]; rfl

theorem k3_pay237_eq (x0 : Vec F S64x512 .f32) : k3_pay237 x0 = (net512 x0 3 0).1 := by
  rw [k3_pay237, k3_pay232_eq, k3_pay236_eq]; rfl

theorem k3_pay239_eq (x0 : Vec F S64x512 .f32) : k3_pay239 x0 = (net512 x0 3 2).1 := by
  rw [k3_pay239, k3_pay237_eq]; rfl

theorem k3_pay240_eq (x0 : Vec F S64x512 .f32) : k3_pay240 x0 = (net512 x0 4 0).1 := by
  rw [k3_pay240, k3_pay239_eq]; rfl

theorem k3_pay242_eq (x0 : Vec F S64x512 .f32) : k3_pay242 x0 = (net512 x0 4 2).1 := by
  rw [k3_pay242, k3_pay240_eq]; rfl

theorem k3_pay243_eq (x0 : Vec F S64x512 .f32) : k3_pay243 x0 = (net512 x0 4 4).1 := by
  rw [k3_pay243, k3_pay242_eq]; rfl

theorem k3_pay246_eq (x0 : Vec F S64x512 .f32) : k3_pay246 x0 = (net512 x0 5 1).1 := by
  rw [k3_pay246, k3_pay243_eq]; rfl

theorem k3_pay248_eq (x0 : Vec F S64x512 .f32) : k3_pay248 x0 = (net512 x0 5 3).1 := by
  rw [k3_pay248, k3_pay246_eq]; rfl

theorem k3_pay252_eq (x0 : Vec F S64x512 .f32) : k3_pay252 x0 = (net512 x0 5 5).1 := by
  rw [k3_pay252, k3_pay248_eq]; rfl

theorem k3_pay254_eq (x0 : Vec F S64x512 .f32) : k3_pay254 x0 = select (cmpi .eq (andi pos512 (broadcast S64x512 1#32)) (broadcast S64x512 0#32)) (dynamicRotate 1 511#32 none (net512 x0 5 5).1 rotates_S64x512_d1) (dynamicRotate 1 1#32 none (net512 x0 5 5).1 rotates_S64x512_d1) := by
  rw [k3_pay254, k3_pay248_eq]; rfl

theorem k3_pay256_eq (x0 : Vec F S64x512 .f32) : k3_pay256 x0 = (net512 x0 6 1).1 := by
  rw [k3_pay256, k3_pay252_eq, k3_pay254_eq]; rfl

theorem net512_v25 (x0 : Vec F S64x512 .f32) :
    k3_pay7 (View.ld x0 r3_0) = (net512 x0 1 0).2 := by
  rfl

theorem net512_v67 (x0 : Vec F S64x512 .f32) :
    k3_pay19 (k3_pay226 x0) (k3_pay227 x0) (k3_pay7 (View.ld x0 r3_0)) (k3_pay228 x0) (k3_pay229 x0) (k3_pay230 x0) (k3_pay231 x0) = (net512 x0 2 0).2 := by
  rw [net512_v25, k3_pay227_eq, k3_pay231_eq]; rfl

theorem net512_v109 (x0 : Vec F S64x512 .f32) :
    k3_pay31 (k3_pay226 x0) (k3_pay232 x0) (k3_pay19 (k3_pay226 x0) (k3_pay227 x0) (k3_pay7 (View.ld x0 r3_0)) (k3_pay228 x0) (k3_pay229 x0) (k3_pay230 x0) (k3_pay231 x0)) (k3_pay233 x0) (k3_pay234 x0) (k3_pay235 x0) (k3_pay236 x0) = (net512 x0 2 2).2 := by
  rw [net512_v67, k3_pay232_eq, k3_pay236_eq]; rfl

theorem net512_v123 (x0 : Vec F S64x512 .f32) :
    k3_pay34 (k3_pay226 x0) (k3_pay232 x0) (k3_pay233 x0) (k3_pay234 x0) (k3_pay235 x0) (k3_pay236 x0) = xori (cmpf .ogt (net512 x0 2 2).1 (select (cmpi .eq (andi pos512 (broadcast S64x512 1#32)) (broadcast S64x512 0#32)) (dynamicRotate 1 511#32 none (net512 x0 2 2).1 rotates_S64x512_d1) (dynamicRotate 1 1#32 none (net512 x0 2 2).1 rotates_S64x512_d1))) (xori (cmpi .eq (andi pos512 (broadcast S64x512 1#32)) (broadcast S64x512 0#32)) (cmpi .eq (andi pos512 (broadcast S64x512 8#32)) (broadcast S64x512 0#32))) := by
  rw [k3_pay232_eq, k3_pay236_eq]; rfl

theorem net512_v151 (x0 : Vec F S64x512 .f32) :
    k3_pay41 (k3_pay226 x0) (k3_pay31 (k3_pay226 x0) (k3_pay232 x0) (k3_pay19 (k3_pay226 x0) (k3_pay227 x0) (k3_pay7 (View.ld x0 r3_0)) (k3_pay228 x0) (k3_pay229 x0) (k3_pay230 x0) (k3_pay231 x0)) (k3_pay233 x0) (k3_pay234 x0) (k3_pay235 x0) (k3_pay236 x0)) (k3_pay32 (k3_pay226 x0)) (k3_pay34 (k3_pay226 x0) (k3_pay232 x0) (k3_pay233 x0) (k3_pay234 x0) (k3_pay235 x0) (k3_pay236 x0)) (k3_pay237 x0) = (net512 x0 3 1).2 := by
  rw [net512_v109, net512_v123, k3_pay237_eq]; rfl

theorem net512_v165 (x0 : Vec F S64x512 .f32) :
    k3_pay44 (k3_pay226 x0) (k3_pay237 x0) = xori (cmpf .ogt (net512 x0 3 1).1 (select (cmpi .eq (andi pos512 (broadcast S64x512 4#32)) (broadcast S64x512 0#32)) (dynamicRotate 1 508#32 none (net512 x0 3 1).1 rotates_S64x512_d1) (dynamicRotate 1 4#32 none (net512 x0 3 1).1 rotates_S64x512_d1))) (xori (cmpi .eq (andi pos512 (broadcast S64x512 4#32)) (broadcast S64x512 0#32)) (cmpi .eq (andi pos512 (broadcast S64x512 16#32)) (broadcast S64x512 0#32))) := by
  rw [k3_pay237_eq]; rfl

theorem net512_v208 (x0 : Vec F S64x512 .f32) :
    k3_pay54 (k3_pay226 x0) (k3_pay238 x0) (k3_pay41 (k3_pay226 x0) (k3_pay31 (k3_pay226 x0) (k3_pay232 x0) (k3_pay19 (k3_pay226 x0) (k3_pay227 x0) (k3_pay7 (View.ld x0 r3_0)) (k3_pay228 x0) (k3_pay229 x0) (k3_pay230 x0) (k3_pay231 x0)) (k3_pay233 x0) (k3_pay234 x0) (k3_pay235 x0) (k3_pay236 x0)) (k3_pay32 (k3_pay226 x0)) (k3_pay34 (k3_pay226 x0) (k3_pay232 x0) (k3_pay233 x0) (k3_pay234 x0) (k3_pay235 x0) (k3_pay236 x0)) (k3_pay237 x0)) (k3_pay42 (k3_pay226 x0)) (k3_pay44 (k3_pay226 x0) (k3_pay237 x0)) (k3_pay239 x0) = (net512 x0 4 0).2 := by
  rw [net512_v151, net512_v165, k3_pay239_eq]; rfl

theorem net512_v250 (x0 : Vec F S64x512 .f32) :
    k3_pay64 (k3_pay226 x0) (k3_pay240 x0) (k3_pay54 (k3_pay226 x0) (k3_pay238 x0) (k3_pay41 (k3_pay226 x0) (k3_pay31 (k3_pay226 x0) (k3_pay232 x0) (k3_pay19 (k3_pay226 x0) (k3_pay227 x0) (k3_pay7 (View.ld x0 r3_0)) (k3_pay228 x0) (k3_pay229 x0) (k3_pay230 x0) (k3_pay231 x0)) (k3_pay233 x0) (k3_pay234 x0) (k3_pay235 x0) (k3_pay236 x0)) (k3_pay32 (k3_pay226 x0)) (k3_pay34 (k3_pay226 x0) (k3_pay232 x0) (k3_pay233 x0) (k3_pay234 x0) (k3_pay235 x0) (k3_pay236 x0)) (k3_pay237 x0)) (k3_pay42 (k3_pay226 x0)) (k3_pay44 (k3_pay226 x0) (k3_pay237 x0)) (k3_pay239 x0)) = (net512 x0 4 2).2 := by
  rw [net512_v208, k3_pay240_eq]; rfl

theorem net512_v288 (x0 : Vec F S64x512 .f32) :
    k3_pay73 (k3_pay226 x0) (k3_pay241 x0) (k3_pay242 x0) (k3_pay64 (k3_pay226 x0) (k3_pay240 x0) (k3_pay54 (k3_pay226 x0) (k3_pay238 x0) (k3_pay41 (k3_pay226 x0) (k3_pay31 (k3_pay226 x0) (k3_pay232 x0) (k3_pay19 (k3_pay226 x0) (k3_pay227 x0) (k3_pay7 (View.ld x0 r3_0)) (k3_pay228 x0) (k3_pay229 x0) (k3_pay230 x0) (k3_pay231 x0)) (k3_pay233 x0) (k3_pay234 x0) (k3_pay235 x0) (k3_pay236 x0)) (k3_pay32 (k3_pay226 x0)) (k3_pay34 (k3_pay226 x0) (k3_pay232 x0) (k3_pay233 x0) (k3_pay234 x0) (k3_pay235 x0) (k3_pay236 x0)) (k3_pay237 x0)) (k3_pay42 (k3_pay226 x0)) (k3_pay44 (k3_pay226 x0) (k3_pay237 x0)) (k3_pay239 x0))) = (net512 x0 4 4).2 := by
  rw [net512_v250, k3_pay242_eq]; rfl

theorem net512_v330 (x0 : Vec F S64x512 .f32) :
    k3_pay84 (k3_pay226 x0) (k3_pay241 x0) (k3_pay243 x0) (k3_pay73 (k3_pay226 x0) (k3_pay241 x0) (k3_pay242 x0) (k3_pay64 (k3_pay226 x0) (k3_pay240 x0) (k3_pay54 (k3_pay226 x0) (k3_pay238 x0) (k3_pay41 (k3_pay226 x0) (k3_pay31 (k3_pay226 x0) (k3_pay232 x0) (k3_pay19 (k3_pay226 x0) (k3_pay227 x0) (k3_pay7 (View.ld x0 r3_0)) (k3_pay228 x0) (k3_pay229 x0) (k3_pay230 x0) (k3_pay231 x0)) (k3_pay233 x0) (k3_pay234 x0) (k3_pay235 x0) (k3_pay236 x0)) (k3_pay32 (k3_pay226 x0)) (k3_pay34 (k3_pay226 x0) (k3_pay232 x0) (k3_pay233 x0) (k3_pay234 x0) (k3_pay235 x0) (k3_pay236 x0)) (k3_pay237 x0)) (k3_pay42 (k3_pay226 x0)) (k3_pay44 (k3_pay226 x0) (k3_pay237 x0)) (k3_pay239 x0)))) (k3_pay244 x0) = (net512 x0 5 1).2 := by
  rw [net512_v288, k3_pay243_eq]; rfl

theorem net512_v368 (x0 : Vec F S64x512 .f32) :
    k3_pay94 (k3_pay226 x0) (k3_pay245 x0) (k3_pay246 x0) (k3_pay84 (k3_pay226 x0) (k3_pay241 x0) (k3_pay243 x0) (k3_pay73 (k3_pay226 x0) (k3_pay241 x0) (k3_pay242 x0) (k3_pay64 (k3_pay226 x0) (k3_pay240 x0) (k3_pay54 (k3_pay226 x0) (k3_pay238 x0) (k3_pay41 (k3_pay226 x0) (k3_pay31 (k3_pay226 x0) (k3_pay232 x0) (k3_pay19 (k3_pay226 x0) (k3_pay227 x0) (k3_pay7 (View.ld x0 r3_0)) (k3_pay228 x0) (k3_pay229 x0) (k3_pay230 x0) (k3_pay231 x0)) (k3_pay233 x0) (k3_pay234 x0) (k3_pay235 x0) (k3_pay236 x0)) (k3_pay32 (k3_pay226 x0)) (k3_pay34 (k3_pay226 x0) (k3_pay232 x0) (k3_pay233 x0) (k3_pay234 x0) (k3_pay235 x0) (k3_pay236 x0)) (k3_pay237 x0)) (k3_pay42 (k3_pay226 x0)) (k3_pay44 (k3_pay226 x0) (k3_pay237 x0)) (k3_pay239 x0)))) (k3_pay244 x0)) (k3_pay247 x0) = (net512 x0 5 3).2 := by
  rw [net512_v330, k3_pay246_eq]; rfl

theorem net512_v406 (x0 : Vec F S64x512 .f32) :
    k3_pay106 (k3_pay226 x0) (k3_pay245 x0) (k3_pay248 x0) (k3_pay94 (k3_pay226 x0) (k3_pay245 x0) (k3_pay246 x0) (k3_pay84 (k3_pay226 x0) (k3_pay241 x0) (k3_pay243 x0) (k3_pay73 (k3_pay226 x0) (k3_pay241 x0) (k3_pay242 x0) (k3_pay64 (k3_pay226 x0) (k3_pay240 x0) (k3_pay54 (k3_pay226 x0) (k3_pay238 x0) (k3_pay41 (k3_pay226 x0) (k3_pay31 (k3_pay226 x0) (k3_pay232 x0) (k3_pay19 (k3_pay226 x0) (k3_pay227 x0) (k3_pay7 (View.ld x0 r3_0)) (k3_pay228 x0) (k3_pay229 x0) (k3_pay230 x0) (k3_pay231 x0)) (k3_pay233 x0) (k3_pay234 x0) (k3_pay235 x0) (k3_pay236 x0)) (k3_pay32 (k3_pay226 x0)) (k3_pay34 (k3_pay226 x0) (k3_pay232 x0) (k3_pay233 x0) (k3_pay234 x0) (k3_pay235 x0) (k3_pay236 x0)) (k3_pay237 x0)) (k3_pay42 (k3_pay226 x0)) (k3_pay44 (k3_pay226 x0) (k3_pay237 x0)) (k3_pay239 x0)))) (k3_pay244 x0)) (k3_pay247 x0)) (k3_pay249 x0) (k3_pay250 x0) (k3_pay251 x0) = (net512 x0 5 5).2 := by
  rw [net512_v368, k3_pay248_eq]; rfl

theorem k3_pay257_eq (x0 : Vec F S64x512 .f32) : k3_pay257 x0 = (net512 x0 6 1).2 := by
  rw [k3_pay257, net512_v406, k3_pay252_eq, k3_pay254_eq]; rfl

theorem k3_pay260_eq (x0 : Vec F S64x512 .f32) : k3_pay260 x0 = select (cmpi .eq (andi pos512 (broadcast S64x512 32#32)) (broadcast S64x512 0#32)) (dynamicRotate 1 480#32 none (net512 x0 6 1).1 rotates_S64x512_d1) (dynamicRotate 1 32#32 none (net512 x0 6 1).1 rotates_S64x512_d1) := by
  rw [k3_pay260, k3_pay252_eq, k3_pay254_eq]; rfl

theorem k3_pay261_eq (x0 : Vec F S64x512 .f32) : k3_pay261 x0 = (net512 x0 6 4).1 := by
  rw [k3_pay261, k3_pay256_eq, k3_pay260_eq]; rfl

theorem k3_pay262_eq (x0 : Vec F S64x512 .f32) : k3_pay262 x0 = (net512 x0 6 6).1 := by
  rw [k3_pay262, k3_pay261_eq]; rfl

theorem k3_pay265_eq (x0 : Vec F S64x512 .f32) : k3_pay265 x0 = (net512 x0 7 1).1 := by
  rw [k3_pay265, k3_pay262_eq]; rfl

theorem k3_pay268_eq (x0 : Vec F S64x512 .f32) : k3_pay268 x0 = (net512 x0 7 3).1 := by
  rw [k3_pay268, k3_pay265_eq]; rfl

theorem k3_pay271_eq (x0 : Vec F S64x512 .f32) : k3_pay271 x0 = dynamicRotate 1 496#32 none (net512 x0 7 3).1 rotates_S64x512_d1 := by
  rw [k3_pay271, k3_pay265_eq]; rfl

theorem k3_pay272_eq (x0 : Vec F S64x512 .f32) : k3_pay272 x0 = (net512 x0 7 6).1 := by
  rw [k3_pay272, k3_pay268_eq, k3_pay271_eq]; rfl

theorem k3_pay273_eq (x0 : Vec F S64x512 .f32) : k3_pay273 x0 = (net512 x0 8 0).1 := by
  rw [k3_pay273, k3_pay272_eq]; rfl

theorem k3_pay274_eq (x0 : Vec F S64x512 .f32) : k3_pay274 x0 = (net512 x0 8 2).1 := by
  rw [k3_pay274, k3_pay273_eq]; rfl

theorem net512_v486 (x0 : Vec F S64x512 .f32) :
    k3_pay127 (k3_pay226 x0) (k3_pay255 x0) (k3_pay256 x0) (k3_pay257 x0) (k3_pay258 x0) (k3_pay259 x0) (k3_pay260 x0) = (net512 x0 6 3).2 := by
  rw [k3_pay256_eq, k3_pay257_eq, k3_pay260_eq]; rfl

theorem net512_v500 (x0 : Vec F S64x512 .f32) :
    k3_pay130 (k3_pay226 x0) (k3_pay255 x0) (k3_pay256 x0) (k3_pay258 x0) (k3_pay260 x0) = xori (cmpf .ogt (net512 x0 6 3).1 (select (cmpi .eq (andi pos512 (broadcast S64x512 8#32)) (broadcast S64x512 0#32)) (dynamicRotate 1 504#32 none (net512 x0 6 3).1 rotates_S64x512_d1) (dynamicRotate 1 8#32 none (net512 x0 6 3).1 rotates_S64x512_d1))) (xori (cmpi .eq (andi pos512 (broadcast S64x512 8#32)) (broadcast S64x512 0#32)) (cmpi .eq (andi pos512 (broadcast S64x512 128#32)) (broadcast S64x512 0#32))) := by
  rw [k3_pay256_eq, k3_pay260_eq]; rfl

theorem net512_v502 (x0 : Vec F S64x512 .f32) :
    k3_pay132 (k3_pay226 x0) (k3_pay255 x0) (k3_pay256 x0) (k3_pay257 x0) (k3_pay258 x0) (k3_pay259 x0) (k3_pay260 x0) = dynamicRotate 1 504#32 none (net512 x0 6 3).2 rotates_S64x512_d1 := by
  rw [k3_pay256_eq, k3_pay257_eq, k3_pay260_eq]; rfl

theorem net512_v543 (x0 : Vec F S64x512 .f32) :
    k3_pay141 (k3_pay226 x0) (k3_pay255 x0) (k3_pay127 (k3_pay226 x0) (k3_pay255 x0) (k3_pay256 x0) (k3_pay257 x0) (k3_pay258 x0) (k3_pay259 x0) (k3_pay260 x0)) (k3_pay128 (k3_pay226 x0)) (k3_pay130 (k3_pay226 x0) (k3_pay255 x0) (k3_pay256 x0) (k3_pay258 x0) (k3_pay260 x0)) (k3_pay261 x0) (k3_pay132 (k3_pay226 x0) (k3_pay255 x0) (k3_pay256 x0) (k3_pay257 x0) (k3_pay258 x0) (k3_pay259 x0) (k3_pay260 x0)) 8#32 = (net512 x0 6 6).2 := by
  rw [net512_v486, net512_v500, net512_v502, k3_pay261_eq]; rfl

theorem net512_v585 (x0 : Vec F S64x512 .f32) :
    k3_pay151 (k3_pay226 x0) (k3_pay255 x0) (k3_pay262 x0) (k3_pay141 (k3_pay226 x0) (k3_pay255 x0) (k3_pay127 (k3_pay226 x0) (k3_pay255 x0) (k3_pay256 x0) (k3_pay257 x0) (k3_pay258 x0) (k3_pay259 x0) (k3_pay260 x0)) (k3_pay128 (k3_pay226 x0)) (k3_pay130 (k3_pay226 x0) (k3_pay255 x0) (k3_pay256 x0) (k3_pay258 x0) (k3_pay260 x0)) (k3_pay261 x0) (k3_pay132 (k3_pay226 x0) (k3_pay255 x0) (k3_pay256 x0) (k3_pay257 x0) (k3_pay258 x0) (k3_pay259 x0) (k3_pay260 x0)) 8#32) (k3_pay263 x0) = (net512 x0 7 1).2 := by
  rw [net512_v543, k3_pay262_eq]; rfl

theorem net512_v623 (x0 : Vec F S64x512 .f32) :
    k3_pay162 (k3_pay226 x0) (k3_pay264 x0) (k3_pay265 x0) (k3_pay151 (k3_pay226 x0) (k3_pay255 x0) (k3_pay262 x0) (k3_pay141 (k3_pay226 x0) (k3_pay255 x0) (k3_pay127 (k3_pay226 x0) (k3_pay255 x0) (k3_pay256 x0) (k3_pay257 x0) (k3_pay258 x0) (k3_pay259 x0) (k3_pay260 x0)) (k3_pay128 (k3_pay226 x0)) (k3_pay130 (k3_pay226 x0) (k3_pay255 x0) (k3_pay256 x0) (k3_pay258 x0) (k3_pay260 x0)) (k3_pay261 x0) (k3_pay132 (k3_pay226 x0) (k3_pay255 x0) (k3_pay256 x0) (k3_pay257 x0) (k3_pay258 x0) (k3_pay259 x0) (k3_pay260 x0)) 8#32) (k3_pay263 x0)) (k3_pay266 x0) (k3_pay267 x0) = (net512 x0 7 3).2 := by
  rw [net512_v585, k3_pay265_eq]; rfl

theorem net512_v661 (x0 : Vec F S64x512 .f32) :
    k3_pay173 (k3_pay226 x0) (k3_pay264 x0) (k3_pay268 x0) (k3_pay162 (k3_pay226 x0) (k3_pay264 x0) (k3_pay265 x0) (k3_pay151 (k3_pay226 x0) (k3_pay255 x0) (k3_pay262 x0) (k3_pay141 (k3_pay226 x0) (k3_pay255 x0) (k3_pay127 (k3_pay226 x0) (k3_pay255 x0) (k3_pay256 x0) (k3_pay257 x0) (k3_pay258 x0) (k3_pay259 x0) (k3_pay260 x0)) (k3_pay128 (k3_pay226 x0)) (k3_pay130 (k3_pay226 x0) (k3_pay255 x0) (k3_pay256 x0) (k3_pay258 x0) (k3_pay260 x0)) (k3_pay261 x0) (k3_pay132 (k3_pay226 x0) (k3_pay255 x0) (k3_pay256 x0) (k3_pay257 x0) (k3_pay258 x0) (k3_pay259 x0) (k3_pay260 x0)) 8#32) (k3_pay263 x0)) (k3_pay266 x0) (k3_pay267 x0)) (k3_pay269 x0) (k3_pay270 x0) (k3_pay271 x0) = (net512 x0 7 5).2 := by
  rw [net512_v623, k3_pay268_eq, k3_pay271_eq]; rfl

theorem net512_v675 (x0 : Vec F S64x512 .f32) :
    k3_pay176 (k3_pay226 x0) (k3_pay264 x0) (k3_pay268 x0) (k3_pay269 x0) (k3_pay270 x0) (k3_pay271 x0) = xori (cmpf .ogt (net512 x0 7 5).1 (select (cmpi .eq (andi pos512 (broadcast S64x512 4#32)) (broadcast S64x512 0#32)) (dynamicRotate 1 508#32 none (net512 x0 7 5).1 rotates_S64x512_d1) (dynamicRotate 1 4#32 none (net512 x0 7 5).1 rotates_S64x512_d1))) (xori (cmpi .eq (andi pos512 (broadcast S64x512 4#32)) (broadcast S64x512 0#32)) (cmpi .eq (andi pos512 (broadcast S64x512 256#32)) (broadcast S64x512 0#32))) := by
  rw [k3_pay268_eq, k3_pay271_eq]; rfl

theorem net512_v718 (x0 : Vec F S64x512 .f32) :
    k3_pay186 (k3_pay226 x0) (k3_pay264 x0) (k3_pay173 (k3_pay226 x0) (k3_pay264 x0) (k3_pay268 x0) (k3_pay162 (k3_pay226 x0) (k3_pay264 x0) (k3_pay265 x0) (k3_pay151 (k3_pay226 x0) (k3_pay255 x0) (k3_pay262 x0) (k3_pay141 (k3_pay226 x0) (k3_pay255 x0) (k3_pay127 (k3_pay226 x0) (k3_pay255 x0) (k3_pay256 x0) (k3_pay257 x0) (k3_pay258 x0) (k3_pay259 x0) (k3_pay260 x0)) (k3_pay128 (k3_pay226 x0)) (k3_pay130 (k3_pay226 x0) (k3_pay255 x0) (k3_pay256 x0) (k3_pay258 x0) (k3_pay260 x0)) (k3_pay261 x0) (k3_pay132 (k3_pay226 x0) (k3_pay255 x0) (k3_pay256 x0) (k3_pay257 x0) (k3_pay258 x0) (k3_pay259 x0) (k3_pay260 x0)) 8#32) (k3_pay263 x0)) (k3_pay266 x0) (k3_pay267 x0)) (k3_pay269 x0) (k3_pay270 x0) (k3_pay271 x0)) (k3_pay174 (k3_pay226 x0)) (k3_pay176 (k3_pay226 x0) (k3_pay264 x0) (k3_pay268 x0) (k3_pay269 x0) (k3_pay270 x0) (k3_pay271 x0)) (k3_pay272 x0) = (net512 x0 8 0).2 := by
  rw [net512_v661, net512_v675, k3_pay272_eq]; rfl

theorem k3_pay275_eq (x0 : Vec F S64x512 .f32) : k3_pay275 x0 = (net512 x0 8 2).2 := by
  rw [k3_pay275, net512_v718, k3_pay273_eq]; rfl

theorem k3_pay278_eq (x0 : Vec F S64x512 .f32) : k3_pay278 x0 = select (cmpi .eq (andi pos512 (broadcast S64x512 64#32)) (broadcast S64x512 0#32)) (dynamicRotate 1 448#32 none (net512 x0 8 2).1 rotates_S64x512_d1) (dynamicRotate 1 64#32 none (net512 x0 8 2).1 rotates_S64x512_d1) := by
  rw [k3_pay278, k3_pay273_eq]; rfl

theorem k3_pay279_eq (x0 : Vec F S64x512 .f32) : k3_pay279 x0 = cmpf .ogt (net512 x0 8 2).1 (select (cmpi .eq (andi pos512 (broadcast S64x512 64#32)) (broadcast S64x512 0#32)) (dynamicRotate 1 448#32 none (net512 x0 8 2).1 rotates_S64x512_d1) (dynamicRotate 1 64#32 none (net512 x0 8 2).1 rotates_S64x512_d1)) := by
  rw [k3_pay279, k3_pay273_eq]; rfl

theorem k3_pay280_eq (x0 : Vec F S64x512 .f32) : k3_pay280 x0 = (net512 x0 8 5).1 := by
  rw [k3_pay280, k3_pay274_eq, k3_pay278_eq, k3_pay279_eq]; rfl

theorem k3_pay281_eq (x0 : Vec F S64x512 .f32) : k3_pay281 x0 = (net512 x0 8 7).1 := by
  rw [k3_pay281, k3_pay280_eq]; rfl

theorem net512_v862 (x0 : Vec F S64x512 .f32) :
    k3_pay222 (k3_pay226 x0) (k3_pay281 x0) = (net512 x0 8 8).1 := by
  rw [k3_pay281_eq]; rfl

theorem net512_v790 (x0 : Vec F S64x512 .f32) :
    k3_pay204 (k3_pay226 x0) (k3_pay274 x0) (k3_pay275 x0) (k3_pay276 x0) (k3_pay277 x0) (k3_pay278 x0) (k3_pay279 x0) = (net512 x0 8 4).2 := by
  rw [k3_pay274_eq, k3_pay275_eq, k3_pay278_eq, k3_pay279_eq]; rfl

theorem net512_v804 (x0 : Vec F S64x512 .f32) :
    k3_pay207 (k3_pay226 x0) (k3_pay274 x0) (k3_pay276 x0) (k3_pay278 x0) (k3_pay279 x0) = xori (cmpf .ogt (net512 x0 8 4).1 (select (cmpi .eq (andi pos512 (broadcast S64x512 16#32)) (broadcast S64x512 0#32)) (dynamicRotate 1 496#32 none (net512 x0 8 4).1 rotates_S64x512_d1) (dynamicRotate 1 16#32 none (net512 x0 8 4).1 rotates_S64x512_d1))) (xori (cmpi .eq (andi pos512 (broadcast S64x512 16#32)) (broadcast S64x512 0#32)) (constantI S64x512 1 1#1)) := by
  rw [k3_pay274_eq, k3_pay278_eq, k3_pay279_eq]; rfl

theorem net512_v806 (x0 : Vec F S64x512 .f32) :
    k3_pay209 (k3_pay226 x0) (k3_pay274 x0) (k3_pay275 x0) (k3_pay276 x0) (k3_pay277 x0) (k3_pay278 x0) (k3_pay279 x0) = dynamicRotate 1 496#32 none (net512 x0 8 4).2 rotates_S64x512_d1 := by
  rw [k3_pay274_eq, k3_pay275_eq, k3_pay278_eq, k3_pay279_eq]; rfl

theorem net512_v847 (x0 : Vec F S64x512 .f32) :
    k3_pay218 (k3_pay226 x0) (k3_pay204 (k3_pay226 x0) (k3_pay274 x0) (k3_pay275 x0) (k3_pay276 x0) (k3_pay277 x0) (k3_pay278 x0) (k3_pay279 x0)) (k3_pay205 (k3_pay226 x0)) (k3_pay207 (k3_pay226 x0) (k3_pay274 x0) (k3_pay276 x0) (k3_pay278 x0) (k3_pay279 x0)) (k3_pay280 x0) (k3_pay209 (k3_pay226 x0) (k3_pay274 x0) (k3_pay275 x0) (k3_pay276 x0) (k3_pay277 x0) (k3_pay278 x0) (k3_pay279 x0)) = (net512 x0 8 7).2 := by
  rw [net512_v790, net512_v804, net512_v806, k3_pay280_eq]; rfl

theorem net512_v866 (x0 : Vec F S64x512 .f32) :
    k3_pay223 (k3_pay226 x0) (k3_pay281 x0) (k3_pay218 (k3_pay226 x0) (k3_pay204 (k3_pay226 x0) (k3_pay274 x0) (k3_pay275 x0) (k3_pay276 x0) (k3_pay277 x0) (k3_pay278 x0) (k3_pay279 x0)) (k3_pay205 (k3_pay226 x0)) (k3_pay207 (k3_pay226 x0) (k3_pay274 x0) (k3_pay276 x0) (k3_pay278 x0) (k3_pay279 x0)) (k3_pay280 x0) (k3_pay209 (k3_pay226 x0) (k3_pay274 x0) (k3_pay275 x0) (k3_pay276 x0) (k3_pay277 x0) (k3_pay278 x0) (k3_pay279 x0))) = (net512 x0 8 8).2 := by
  rw [net512_v847, k3_pay281_eq]; rfl

/-- The stored block: the positions after the last stage. -/
theorem out3_eq (x0 : Vec F S64x512 .f32) : out3_1 x0 = View.canon [⟨r3_0, (net512 x0 9 0).2⟩] := by
  rw [out3_1, net512_v862, net512_v866]; rfl

/-! ### Width 1024 -/

/-- The positions along a row of 1024. -/
abbrev pos1024 : IVec S32x1024 32 := iota .tc S32x1024 32 [1] iota_S32x1024_d1_w32

/-- A row of 1024 with neighbouring blocks of 128 swapped. -/
def swap1024_128 {α : Type} (x : S32x1024.Idx → α) : S32x1024.Idx → α :=
  concatenate S32x1024 1 [
      ⟨S32x128, extractStridedSlice S32x128 ![0, 128] x slices_S32x1024_o0_128_S32x128⟩,
      ⟨S32x128, extractStridedSlice S32x128 ![0, 0] x slices_S32x1024_o0_0_S32x128⟩,
      ⟨S32x128, extractStridedSlice S32x128 ![0, 384] x slices_S32x1024_o0_384_S32x128⟩,
      ⟨S32x128, extractStridedSlice S32x128 ![0, 256] x slices_S32x1024_o0_256_S32x128⟩,
      ⟨S32x128, extractStridedSlice S32x128 ![0, 640] x slices_S32x1024_o0_640_S32x128⟩,
      ⟨S32x128, extractStridedSlice S32x128 ![0, 512] x slices_S32x1024_o0_512_S32x128⟩,
      ⟨S32x128, extractStridedSlice S32x128 ![0, 896] x slices_S32x1024_o0_896_S32x128⟩,
      ⟨S32x128, extractStridedSlice S32x128 ![0, 768] x slices_S32x1024_o0_768_S32x128⟩] concatenates_S32x128_S32x128_S32x128_S32x128_S32x128_S32x128_S32x128_S32x128_S32x1024_d1

/-- A row of 1024 with neighbouring blocks of 256 swapped. -/
def swap1024_256 {α : Type} (x : S32x1024.Idx → α) : S32x1024.Idx → α :=
  concatenate S32x1024 1 [
      ⟨S32x256, extractStridedSlice S32x256 ![0, 256] x slices_S32x1024_o0_256_S32x256⟩,
      ⟨S32x256, extractStridedSlice S32x256 ![0, 0] x slices_S32x1024_o0_0_S32x256⟩,
      ⟨S32x256, extractStridedSlice S32x256 ![0, 768] x slices_S32x1024_o0_768_S32x256⟩,
      ⟨S32x256, extractStridedSlice S32x256 ![0, 512] x slices_S32x1024_o0_512_S32x256⟩] concatenates_S32x256_S32x256_S32x256_S32x256_S32x1024_d1

/-- A row of 1024 with neighbouring blocks of 512 swapped. -/
def swap1024_512 {α : Type} (x : S32x1024.Idx → α) : S32x1024.Idx → α :=
  concatenate S32x1024 1 [
      ⟨S32x512, extractStridedSlice S32x512 ![0, 512] x slices_S32x1024_o0_512_S32x512⟩,
      ⟨S32x512, extractStridedSlice S32x512 ![0, 0] x slices_S32x1024_o0_0_S32x512⟩] concatenates_S32x512_S32x512_S32x1024_d1

/-- The partner functions at width 1024: rotations at the distances below 128, block swaps from there on. -/
def partner1024 (s : Nat) : Partner S32x1024 :=
  if s < 7 then rollPartner 1 rotates_S32x1024_d1 pos1024 (BitVec.ofNat 32 (2 ^ s)) (BitVec.ofNat 32 (1024 - 2 ^ s))
  else if s = 7 then fun _ => swap1024_128
  else if s = 8 then fun _ => swap1024_256
  else fun _ => swap1024_512

/-- Keys and positions of a block in level `l` after the level's first `k` stages. -/
def net1024 (x0 : Vec F S32x1024 .f32) (l k : Nat) : FVec F S32x1024 .f32 × IVec S32x1024 32 :=
  runSort partner1024 pos1024 10 (shapeCast S32x1024 (View.ld x0 r4_0) shapeCasts_S32x1024_S32x1024, pos1024) l k

theorem k4_pay283_eq (x0 : Vec F S32x1024 .f32) : k4_pay283 x0 = (net1024 x0 1 0).1 := by
  rw [k4_pay283]; rfl

theorem k4_pay287_eq (x0 : Vec F S32x1024 .f32) : k4_pay287 x0 = dynamicRotate 1 1022#32 none (net1024 x0 1 0).1 rotates_S32x1024_d1 := by
  rw [k4_pay287]; rfl

theorem k4_pay288_eq (x0 : Vec F S32x1024 .f32) : k4_pay288 x0 = (net1024 x0 2 0).1 := by
  rw [k4_pay288, k4_pay283_eq, k4_pay287_eq]; rfl

theorem k4_pay292_eq (x0 : Vec F S32x1024 .f32) : k4_pay292 x0 = dynamicRotate 1 1020#32 none (net1024 x0 2 0).1 rotates_S32x1024_d1 := by
  rw [k4_pay292, k4_pay283_eq, k4_pay287_eq]; rfl

theorem k4_pay293_eq (x0 : Vec F S32x1024 .f32) : k4_pay293 x0 = (net1024 x0 3 0).1 := by
  rw [k4_pay293, k4_pay288_eq, k4_pay292_eq]; rfl

theorem k4_pay295_eq (x0 : Vec F S32x1024 .f32) : k4_pay295 x0 = (net1024 x0 3 2).1 := by
  rw [k4_pay295, k4_pay293_eq]; rfl

theorem k4_pay296_eq (x0 : Vec F S32x1024 .f32) : k4_pay296 x0 = (net1024 x0 4 0).1 := by
  rw [k4_pay296, k4_pay295_eq]; rfl

theorem k4_pay298_eq (x0 : Vec F S32x1024 .f32) : k4_pay298 x0 = (net1024 x0 4 2).1 := by
  rw [k4_pay298, k4_pay296_eq]; rfl

theorem k4_pay299_eq (x0 : Vec F S32x1024 .f32) : k4_pay299 x0 = (net1024 x0 4 4).1 := by
  rw [k4_pay299, k4_pay298_eq]; rfl

theorem k4_pay302_eq (x0 : Vec F S32x1024 .f32) : k4_pay302 x0 = (net1024 x0 5 1).1 := by
  rw [k4_pay302, k4_pay299_eq]; rfl

theorem k4_pay304_eq (x0 : Vec F S32x1024 .f32) : k4_pay304 x0 = (net1024 x0 5 3).1 := by
  rw [k4_pay304, k4_pay302_eq]; rfl

theorem k4_pay308_eq (x0 : Vec F S32x1024 .f32) : k4_pay308 x0 = (net1024 x0 5 5).1 := by
  rw [k4_pay308, k4_pay304_eq]; rfl

theorem k4_pay310_eq (x0 : Vec F S32x1024 .f32) : k4_pay310 x0 = select (cmpi .eq (andi pos1024 (broadcast S32x1024 1#32)) (broadcast S32x1024 0#32)) (dynamicRotate 1 1023#32 none (net1024 x0 5 5).1 rotates_S32x1024_d1) (dynamicRotate 1 1#32 none (net1024 x0 5 5).1 rotates_S32x1024_d1) := by
  rw [k4_pay310, k4_pay304_eq]; rfl

theorem k4_pay312_eq (x0 : Vec F S32x1024 .f32) : k4_pay312 x0 = (net1024 x0 6 1).1 := by
  rw [k4_pay312, k4_pay308_eq, k4_pay310_eq]; rfl

theorem net1024_v25 (x0 : Vec F S32x1024 .f32) :
    k4_pay7 (View.ld x0 r4_0) = (net1024 x0 1 0).2 := by
  rfl

theorem net1024_v67 (x0 : Vec F S32x1024 .f32) :
    k4_pay19 (k4_pay282 x0) (k4_pay283 x0) (k4_pay7 (View.ld x0 r4_0)) (k4_pay284 x0) (k4_pay285 x0) (k4_pay286 x0) (k4_pay287 x0) = (net1024 x0 2 0).2 := by
  rw [net1024_v25, k4_pay283_eq, k4_pay287_eq]; rfl

theorem net1024_v109 (x0 : Vec F S32x1024 .f32) :
    k4_pay31 (k4_pay282 x0) (k4_pay288 x0) (k4_pay19 (k4_pay282 x0) (k4_pay283 x0) (k4_pay7 (View.ld x0 r4_0)) (k4_pay284 x0) (k4_pay285 x0) (k4_pay286 x0) (k4_pay287 x0)) (k4_pay289 x0) (k4_pay290 x0) (k4_pay291 x0) (k4_pay292 x0) = (net1024 x0 2 2).2 := by
  rw [net1024_v67, k4_pay288_eq, k4_pay292_eq]; rfl

theorem net1024_v123 (x0 : Vec F S32x1024 .f32) :
    k4_pay34 (k4_pay282 x0) (k4_pay288 x0) (k4_pay289 x0) (k4_pay290 x0) (k4_pay291 x0) (k4_pay292 x0) = xori (cmpf .ogt (net1024 x0 2 2).1 (select (cmpi .eq (andi pos1024 (broadcast S32x1024 1#32)) (broadcast S32x1024 0#32)) (dynamicRotate 1 1023#32 none (net1024 x0 2 2).1 rotates_S32x1024_d1) (dynamicRotate 1 1#32 none (net1024 x0 2 2).1 rotates_S32x1024_d1))) (xori (cmpi .eq (andi pos1024 (broadcast S32x1024 1#32)) (broadcast S32x1024 0#32)) (cmpi .eq (andi pos1024 (broadcast S32x1024 8#32)) (broadcast S32x1024 0#32))) := by
  rw [k4_pay288_eq, k4_pay292_eq]; rfl

theorem net1024_v151 (x0 : Vec F S32x1024 .f32) :
    k4_pay41 (k4_pay282 x0) (k4_pay31 (k4_pay282 x0) (k4_pay288 x0) (k4_pay19 (k4_pay282 x0) (k4_pay283 x0) (k4_pay7 (View.ld x0 r4_0)) (k4_pay284 x0) (k4_pay285 x0) (k4_pay286 x0) (k4_pay287 x0)) (k4_pay289 x0) (k4_pay290 x0) (k4_pay291 x0) (k4_pay292 x0)) (k4_pay32 (k4_pay282 x0)) (k4_pay34 (k4_pay282 x0) (k4_pay288 x0) (k4_pay289 x0) (k4_pay290 x0) (k4_pay291 x0) (k4_pay292 x0)) (k4_pay293 x0) = (net1024 x0 3 1).2 := by
  rw [net1024_v109, net1024_v123, k4_pay293_eq]; rfl

theorem net1024_v165 (x0 : Vec F S32x1024 .f32) :
    k4_pay44 (k4_pay282 x0) (k4_pay293 x0) = xori (cmpf .ogt (net1024 x0 3 1).1 (select (cmpi .eq (andi pos1024 (broadcast S32x1024 4#32)) (broadcast S32x1024 0#32)) (dynamicRotate 1 1020#32 none (net1024 x0 3 1).1 rotates_S32x1024_d1) (dynamicRotate 1 4#32 none (net1024 x0 3 1).1 rotates_S32x1024_d1))) (xori (cmpi .eq (andi pos1024 (broadcast S32x1024 4#32)) (broadcast S32x1024 0#32)) (cmpi .eq (andi pos1024 (broadcast S32x1024 16#32)) (broadcast S32x1024 0#32))) := by
  rw [k4_pay293_eq]; rfl

theorem net1024_v208 (x0 : Vec F S32x1024 .f32) :
    k4_pay54 (k4_pay282 x0) (k4_pay294 x0) (k4_pay41 (k4_pay282 x0) (k4_pay31 (k4_pay282 x0) (k4_pay288 x0) (k4_pay19 (k4_pay282 x0) (k4_pay283 x0) (k4_pay7 (View.ld x0 r4_0)) (k4_pay284 x0) (k4_pay285 x0) (k4_pay286 x0) (k4_pay287 x0)) (k4_pay289 x0) (k4_pay290 x0) (k4_pay291 x0) (k4_pay292 x0)) (k4_pay32 (k4_pay282 x0)) (k4_pay34 (k4_pay282 x0) (k4_pay288 x0) (k4_pay289 x0) (k4_pay290 x0) (k4_pay291 x0) (k4_pay292 x0)) (k4_pay293 x0)) (k4_pay42 (k4_pay282 x0)) (k4_pay44 (k4_pay282 x0) (k4_pay293 x0)) (k4_pay295 x0) = (net1024 x0 4 0).2 := by
  rw [net1024_v151, net1024_v165, k4_pay295_eq]; rfl

theorem net1024_v250 (x0 : Vec F S32x1024 .f32) :
    k4_pay64 (k4_pay282 x0) (k4_pay296 x0) (k4_pay54 (k4_pay282 x0) (k4_pay294 x0) (k4_pay41 (k4_pay282 x0) (k4_pay31 (k4_pay282 x0) (k4_pay288 x0) (k4_pay19 (k4_pay282 x0) (k4_pay283 x0) (k4_pay7 (View.ld x0 r4_0)) (k4_pay284 x0) (k4_pay285 x0) (k4_pay286 x0) (k4_pay287 x0)) (k4_pay289 x0) (k4_pay290 x0) (k4_pay291 x0) (k4_pay292 x0)) (k4_pay32 (k4_pay282 x0)) (k4_pay34 (k4_pay282 x0) (k4_pay288 x0) (k4_pay289 x0) (k4_pay290 x0) (k4_pay291 x0) (k4_pay292 x0)) (k4_pay293 x0)) (k4_pay42 (k4_pay282 x0)) (k4_pay44 (k4_pay282 x0) (k4_pay293 x0)) (k4_pay295 x0)) = (net1024 x0 4 2).2 := by
  rw [net1024_v208, k4_pay296_eq]; rfl

theorem net1024_v288 (x0 : Vec F S32x1024 .f32) :
    k4_pay73 (k4_pay282 x0) (k4_pay297 x0) (k4_pay298 x0) (k4_pay64 (k4_pay282 x0) (k4_pay296 x0) (k4_pay54 (k4_pay282 x0) (k4_pay294 x0) (k4_pay41 (k4_pay282 x0) (k4_pay31 (k4_pay282 x0) (k4_pay288 x0) (k4_pay19 (k4_pay282 x0) (k4_pay283 x0) (k4_pay7 (View.ld x0 r4_0)) (k4_pay284 x0) (k4_pay285 x0) (k4_pay286 x0) (k4_pay287 x0)) (k4_pay289 x0) (k4_pay290 x0) (k4_pay291 x0) (k4_pay292 x0)) (k4_pay32 (k4_pay282 x0)) (k4_pay34 (k4_pay282 x0) (k4_pay288 x0) (k4_pay289 x0) (k4_pay290 x0) (k4_pay291 x0) (k4_pay292 x0)) (k4_pay293 x0)) (k4_pay42 (k4_pay282 x0)) (k4_pay44 (k4_pay282 x0) (k4_pay293 x0)) (k4_pay295 x0))) = (net1024 x0 4 4).2 := by
  rw [net1024_v250, k4_pay298_eq]; rfl

theorem net1024_v330 (x0 : Vec F S32x1024 .f32) :
    k4_pay84 (k4_pay282 x0) (k4_pay297 x0) (k4_pay299 x0) (k4_pay73 (k4_pay282 x0) (k4_pay297 x0) (k4_pay298 x0) (k4_pay64 (k4_pay282 x0) (k4_pay296 x0) (k4_pay54 (k4_pay282 x0) (k4_pay294 x0) (k4_pay41 (k4_pay282 x0) (k4_pay31 (k4_pay282 x0) (k4_pay288 x0) (k4_pay19 (k4_pay282 x0) (k4_pay283 x0) (k4_pay7 (View.ld x0 r4_0)) (k4_pay284 x0) (k4_pay285 x0) (k4_pay286 x0) (k4_pay287 x0)) (k4_pay289 x0) (k4_pay290 x0) (k4_pay291 x0) (k4_pay292 x0)) (k4_pay32 (k4_pay282 x0)) (k4_pay34 (k4_pay282 x0) (k4_pay288 x0) (k4_pay289 x0) (k4_pay290 x0) (k4_pay291 x0) (k4_pay292 x0)) (k4_pay293 x0)) (k4_pay42 (k4_pay282 x0)) (k4_pay44 (k4_pay282 x0) (k4_pay293 x0)) (k4_pay295 x0)))) (k4_pay300 x0) = (net1024 x0 5 1).2 := by
  rw [net1024_v288, k4_pay299_eq]; rfl

theorem net1024_v368 (x0 : Vec F S32x1024 .f32) :
    k4_pay94 (k4_pay282 x0) (k4_pay301 x0) (k4_pay302 x0) (k4_pay84 (k4_pay282 x0) (k4_pay297 x0) (k4_pay299 x0) (k4_pay73 (k4_pay282 x0) (k4_pay297 x0) (k4_pay298 x0) (k4_pay64 (k4_pay282 x0) (k4_pay296 x0) (k4_pay54 (k4_pay282 x0) (k4_pay294 x0) (k4_pay41 (k4_pay282 x0) (k4_pay31 (k4_pay282 x0) (k4_pay288 x0) (k4_pay19 (k4_pay282 x0) (k4_pay283 x0) (k4_pay7 (View.ld x0 r4_0)) (k4_pay284 x0) (k4_pay285 x0) (k4_pay286 x0) (k4_pay287 x0)) (k4_pay289 x0) (k4_pay290 x0) (k4_pay291 x0) (k4_pay292 x0)) (k4_pay32 (k4_pay282 x0)) (k4_pay34 (k4_pay282 x0) (k4_pay288 x0) (k4_pay289 x0) (k4_pay290 x0) (k4_pay291 x0) (k4_pay292 x0)) (k4_pay293 x0)) (k4_pay42 (k4_pay282 x0)) (k4_pay44 (k4_pay282 x0) (k4_pay293 x0)) (k4_pay295 x0)))) (k4_pay300 x0)) (k4_pay303 x0) = (net1024 x0 5 3).2 := by
  rw [net1024_v330, k4_pay302_eq]; rfl

theorem net1024_v406 (x0 : Vec F S32x1024 .f32) :
    k4_pay106 (k4_pay282 x0) (k4_pay301 x0) (k4_pay304 x0) (k4_pay94 (k4_pay282 x0) (k4_pay301 x0) (k4_pay302 x0) (k4_pay84 (k4_pay282 x0) (k4_pay297 x0) (k4_pay299 x0) (k4_pay73 (k4_pay282 x0) (k4_pay297 x0) (k4_pay298 x0) (k4_pay64 (k4_pay282 x0) (k4_pay296 x0) (k4_pay54 (k4_pay282 x0) (k4_pay294 x0) (k4_pay41 (k4_pay282 x0) (k4_pay31 (k4_pay282 x0) (k4_pay288 x0) (k4_pay19 (k4_pay282 x0) (k4_pay283 x0) (k4_pay7 (View.ld x0 r4_0)) (k4_pay284 x0) (k4_pay285 x0) (k4_pay286 x0) (k4_pay287 x0)) (k4_pay289 x0) (k4_pay290 x0) (k4_pay291 x0) (k4_pay292 x0)) (k4_pay32 (k4_pay282 x0)) (k4_pay34 (k4_pay282 x0) (k4_pay288 x0) (k4_pay289 x0) (k4_pay290 x0) (k4_pay291 x0) (k4_pay292 x0)) (k4_pay293 x0)) (k4_pay42 (k4_pay282 x0)) (k4_pay44 (k4_pay282 x0) (k4_pay293 x0)) (k4_pay295 x0)))) (k4_pay300 x0)) (k4_pay303 x0)) (k4_pay305 x0) (k4_pay306 x0) (k4_pay307 x0) = (net1024 x0 5 5).2 := by
  rw [net1024_v368, k4_pay304_eq]; rfl

theorem k4_pay313_eq (x0 : Vec F S32x1024 .f32) : k4_pay313 x0 = (net1024 x0 6 1).2 := by
  rw [k4_pay313, net1024_v406, k4_pay308_eq, k4_pay310_eq]; rfl

theorem k4_pay316_eq (x0 : Vec F S32x1024 .f32) : k4_pay316 x0 = select (cmpi .eq (andi pos1024 (broadcast S32x1024 32#32)) (broadcast S32x1024 0#32)) (dynamicRotate 1 992#32 none (net1024 x0 6 1).1 rotates_S32x1024_d1) (dynamicRotate 1 32#32 none (net1024 x0 6 1).1 rotates_S32x1024_d1) := by
  rw [k4_pay316, k4_pay308_eq, k4_pay310_eq]; rfl

theorem k4_pay317_eq (x0 : Vec F S32x1024 .f32) : k4_pay317 x0 = (net1024 x0 6 4).1 := by
  rw [k4_pay317, k4_pay312_eq, k4_pay316_eq]; rfl

theorem k4_pay318_eq (x0 : Vec F S32x1024 .f32) : k4_pay318 x0 = (net1024 x0 6 6).1 := by
  rw [k4_pay318, k4_pay317_eq]; rfl

theorem k4_pay321_eq (x0 : Vec F S32x1024 .f32) : k4_pay321 x0 = (net1024 x0 7 1).1 := by
  rw [k4_pay321, k4_pay318_eq]; rfl

theorem k4_pay322_eq (x0 : Vec F S32x1024 .f32) : k4_pay322 x0 = (net1024 x0 7 3).1 := by
  rw [k4_pay322, k4_pay321_eq]; rfl

theorem k4_pay324_eq (x0 : Vec F S32x1024 .f32) : k4_pay324 x0 = (net1024 x0 7 5).1 := by
  rw [k4_pay324, k4_pay322_eq]; rfl

theorem k4_pay327_eq (x0 : Vec F S32x1024 .f32) : k4_pay327 x0 = (net1024 x0 7 7).1 := by
  rw [k4_pay327, k4_pay324_eq]; rfl

theorem net1024_v486 (x0 : Vec F S32x1024 .f32) :
    k4_pay127 (k4_pay282 x0) (k4_pay311 x0) (k4_pay312 x0) (k4_pay313 x0) (k4_pay314 x0) (k4_pay315 x0) (k4_pay316 x0) = (net1024 x0 6 3).2 := by
  rw [k4_pay312_eq, k4_pay313_eq, k4_pay316_eq]; rfl

theorem net1024_v500 (x0 : Vec F S32x1024 .f32) :
    k4_pay130 (k4_pay282 x0) (k4_pay311 x0) (k4_pay312 x0) (k4_pay314 x0) (k4_pay316 x0) = xori (cmpf .ogt (net1024 x0 6 3).1 (select (cmpi .eq (andi pos1024 (broadcast S32x1024 8#32)) (broadcast S32x1024 0#32)) (dynamicRotate 1 1016#32 none (net1024 x0 6 3).1 rotates_S32x1024_d1) (dynamicRotate 1 8#32 none (net1024 x0 6 3).1 rotates_S32x1024_d1))) (xori (cmpi .eq (andi pos1024 (broadcast S32x1024 8#32)) (broadcast S32x1024 0#32)) (cmpi .eq (andi pos1024 (broadcast S32x1024 128#32)) (broadcast S32x1024 0#32))) := by
  rw [k4_pay312_eq, k4_pay316_eq]; rfl

theorem net1024_v502 (x0 : Vec F S32x1024 .f32) :
    k4_pay132 (k4_pay282 x0) (k4_pay311 x0) (k4_pay312 x0) (k4_pay313 x0) (k4_pay314 x0) (k4_pay315 x0) (k4_pay316 x0) = dynamicRotate 1 1016#32 none (net1024 x0 6 3).2 rotates_S32x1024_d1 := by
  rw [k4_pay312_eq, k4_pay313_eq, k4_pay316_eq]; rfl

theorem net1024_v543 (x0 : Vec F S32x1024 .f32) :
    k4_pay141 (k4_pay282 x0) (k4_pay311 x0) (k4_pay127 (k4_pay282 x0) (k4_pay311 x0) (k4_pay312 x0) (k4_pay313 x0) (k4_pay314 x0) (k4_pay315 x0) (k4_pay316 x0)) (k4_pay128 (k4_pay282 x0)) (k4_pay130 (k4_pay282 x0) (k4_pay311 x0) (k4_pay312 x0) (k4_pay314 x0) (k4_pay316 x0)) (k4_pay317 x0) (k4_pay132 (k4_pay282 x0) (k4_pay311 x0) (k4_pay312 x0) (k4_pay313 x0) (k4_pay314 x0) (k4_pay315 x0) (k4_pay316 x0)) 8#32 = (net1024 x0 6 6).2 := by
  rw [net1024_v486, net1024_v500, net1024_v502, k4_pay317_eq]; rfl

theorem net1024_v593 (x0 : Vec F S32x1024 .f32) :
    k4_pay151 (k4_pay282 x0) (k4_pay311 x0) (k4_pay318 x0) (k4_pay141 (k4_pay282 x0) (k4_pay311 x0) (k4_pay127 (k4_pay282 x0) (k4_pay311 x0) (k4_pay312 x0) (k4_pay313 x0) (k4_pay314 x0) (k4_pay315 x0) (k4_pay316 x0)) (k4_pay128 (k4_pay282 x0)) (k4_pay130 (k4_pay282 x0) (k4_pay311 x0) (k4_pay312 x0) (k4_pay314 x0) (k4_pay316 x0)) (k4_pay317 x0) (k4_pay132 (k4_pay282 x0) (k4_pay311 x0) (k4_pay312 x0) (k4_pay313 x0) (k4_pay314 x0) (k4_pay315 x0) (k4_pay316 x0)) 8#32) (k4_pay319 x0) = (net1024 x0 7 1).2 := by
  rw [net1024_v543, k4_pay318_eq]; rfl

theorem net1024_v631 (x0 : Vec F S32x1024 .f32) :
    k4_pay160 (k4_pay282 x0) (k4_pay320 x0) (k4_pay321 x0) (k4_pay151 (k4_pay282 x0) (k4_pay311 x0) (k4_pay318 x0) (k4_pay141 (k4_pay282 x0) (k4_pay311 x0) (k4_pay127 (k4_pay282 x0) (k4_pay311 x0) (k4_pay312 x0) (k4_pay313 x0) (k4_pay314 x0) (k4_pay315 x0) (k4_pay316 x0)) (k4_pay128 (k4_pay282 x0)) (k4_pay130 (k4_pay282 x0) (k4_pay311 x0) (k4_pay312 x0) (k4_pay314 x0) (k4_pay316 x0)) (k4_pay317 x0) (k4_pay132 (k4_pay282 x0) (k4_pay311 x0) (k4_pay312 x0) (k4_pay313 x0) (k4_pay314 x0) (k4_pay315 x0) (k4_pay316 x0)) 8#32) (k4_pay319 x0)) 64#32 = (net1024 x0 7 3).2 := by
  rw [net1024_v593, k4_pay321_eq]; rfl

theorem net1024_v669 (x0 : Vec F S32x1024 .f32) :
    k4_pay170 (k4_pay282 x0) (k4_pay320 x0) (k4_pay322 x0) (k4_pay160 (k4_pay282 x0) (k4_pay320 x0) (k4_pay321 x0) (k4_pay151 (k4_pay282 x0) (k4_pay311 x0) (k4_pay318 x0) (k4_pay141 (k4_pay282 x0) (k4_pay311 x0) (k4_pay127 (k4_pay282 x0) (k4_pay311 x0) (k4_pay312 x0) (k4_pay313 x0) (k4_pay314 x0) (k4_pay315 x0) (k4_pay316 x0)) (k4_pay128 (k4_pay282 x0)) (k4_pay130 (k4_pay282 x0) (k4_pay311 x0) (k4_pay312 x0) (k4_pay314 x0) (k4_pay316 x0)) (k4_pay317 x0) (k4_pay132 (k4_pay282 x0) (k4_pay311 x0) (k4_pay312 x0) (k4_pay313 x0) (k4_pay314 x0) (k4_pay315 x0) (k4_pay316 x0)) 8#32) (k4_pay319 x0)) 64#32) (k4_pay323 x0) = (net1024 x0 7 5).2 := by
  rw [net1024_v631, k4_pay322_eq]; rfl

theorem k4_pay328_eq (x0 : Vec F S32x1024 .f32) : k4_pay328 x0 = (net1024 x0 7 7).2 := by
  rw [k4_pay328, net1024_v669, k4_pay324_eq]; rfl

theorem k4_pay331_eq (x0 : Vec F S32x1024 .f32) : k4_pay331 x0 = select (cmpi .eq (andi pos1024 (broadcast S32x1024 1#32)) (broadcast S32x1024 0#32)) (dynamicRotate 1 1023#32 none (net1024 x0 7 7).1 rotates_S32x1024_d1) (dynamicRotate 1 1#32 none (net1024 x0 7 7).1 rotates_S32x1024_d1) := by
  rw [k4_pay331, k4_pay324_eq]; rfl

theorem k4_pay332_eq (x0 : Vec F S32x1024 .f32) : k4_pay332 x0 = cmpf .ogt (net1024 x0 7 7).1 (select (cmpi .eq (andi pos1024 (broadcast S32x1024 1#32)) (broadcast S32x1024 0#32)) (dynamicRotate 1 1023#32 none (net1024 x0 7 7).1 rotates_S32x1024_d1) (dynamicRotate 1 1#32 none (net1024 x0 7 7).1 rotates_S32x1024_d1)) := by
  rw [k4_pay332, k4_pay324_eq]; rfl

set_option maxHeartbeats 4000000 in
theorem k4_pay334_eq (x0 : Vec F S32x1024 .f32) : k4_pay334 x0 = (net1024 x0 8 2).1 := by
  rw [k4_pay334, k4_pay327_eq, k4_pay331_eq, k4_pay332_eq]; rfl

theorem k4_pay335_eq (x0 : Vec F S32x1024 .f32) : k4_pay335 x0 = (net1024 x0 8 4).1 := by
  rw [k4_pay335, k4_pay334_eq]; rfl

theorem k4_pay337_eq (x0 : Vec F S32x1024 .f32) : k4_pay337 x0 = (net1024 x0 8 6).1 := by
  rw [k4_pay337, k4_pay335_eq]; rfl

theorem k4_pay339_eq (x0 : Vec F S32x1024 .f32) : k4_pay339 x0 = (net1024 x0 8 8).1 := by
  rw [k4_pay339, k4_pay337_eq]; rfl

set_option maxHeartbeats 4000000 in
theorem k4_pay343_eq (x0 : Vec F S32x1024 .f32) : k4_pay343 x0 = (net1024 x0 9 2).1 := by
  rw [k4_pay343, k4_pay339_eq]; rfl

theorem k4_pay345_eq (x0 : Vec F S32x1024 .f32) : k4_pay345 x0 = (net1024 x0 9 4).1 := by
  rw [k4_pay345, k4_pay343_eq]; rfl

theorem k4_pay347_eq (x0 : Vec F S32x1024 .f32) : k4_pay347 x0 = (net1024 x0 9 6).1 := by
  rw [k4_pay347, k4_pay345_eq]; rfl

theorem k4_pay351_eq (x0 : Vec F S32x1024 .f32) : k4_pay351 x0 = (net1024 x0 9 8).1 := by
  rw [k4_pay351, k4_pay347_eq]; rfl

theorem net1024_v749 (x0 : Vec F S32x1024 .f32) :
    k4_pay191 (k4_pay282 x0) (k4_pay327 x0) (k4_pay328 x0) (k4_pay329 x0) (k4_pay330 x0) (k4_pay331 x0) (k4_pay332 x0) = (net1024 x0 8 1).2 := by
  rw [k4_pay327_eq, k4_pay328_eq, k4_pay331_eq, k4_pay332_eq]; rfl

theorem net1024_v765 (x0 : Vec F S32x1024 .f32) :
    k4_pay193 (k4_pay282 x0) (k4_pay327 x0) (k4_pay329 x0) (k4_pay331 x0) (k4_pay332 x0) = xori (cmpf .ogt (net1024 x0 8 1).1 (concatenate S32x1024 1 [⟨S32x128, (extractStridedSlice S32x128 ![0, 128] (net1024 x0 8 1).1 slices_S32x1024_o0_128_S32x128)⟩, ⟨S32x128, (extractStridedSlice S32x128 ![0, 0] (net1024 x0 8 1).1 slices_S32x1024_o0_0_S32x128)⟩, ⟨S32x128, (extractStridedSlice S32x128 ![0, 384] (net1024 x0 8 1).1 slices_S32x1024_o0_384_S32x128)⟩, ⟨S32x128, (extractStridedSlice S32x128 ![0, 256] (net1024 x0 8 1).1 slices_S32x1024_o0_256_S32x128)⟩, ⟨S32x128, (extractStridedSlice S32x128 ![0, 640] (net1024 x0 8 1).1 slices_S32x1024_o0_640_S32x128)⟩, ⟨S32x128, (extractStridedSlice S32x128 ![0, 512] (net1024 x0 8 1).1 slices_S32x1024_o0_512_S32x128)⟩, ⟨S32x128, (extractStridedSlice S32x128 ![0, 896] (net1024 x0 8 1).1 slices_S32x1024_o0_896_S32x128)⟩, ⟨S32x128, (extractStridedSlice S32x128 ![0, 768] (net1024 x0 8 1).1 slices_S32x1024_o0_768_S32x128)⟩] concatenates_S32x128_S32x128_S32x128_S32x128_S32x128_S32x128_S32x128_S32x128_S32x1024_d1)) (xori (cmpi .eq (andi pos1024 (broadcast S32x1024 128#32)) (broadcast S32x1024 0#32)) (cmpi .eq (andi pos1024 (broadcast S32x1024 512#32)) (broadcast S32x1024 0#32))) := by
  rw [k4_pay327_eq, k4_pay331_eq, k4_pay332_eq]; rfl

theorem net1024_v767 (x0 : Vec F S32x1024 .f32) :
    k4_pay195 (k4_pay282 x0) (k4_pay327 x0) (k4_pay328 x0) (k4_pay329 x0) (k4_pay330 x0) (k4_pay331 x0) (k4_pay332 x0) = extractStridedSlice S32x128 ![0, 128] (net1024 x0 8 1).2 slices_S32x1024_o0_128_S32x128 := by
  rw [k4_pay327_eq, k4_pay328_eq, k4_pay331_eq, k4_pay332_eq]; rfl

theorem net1024_v768 (x0 : Vec F S32x1024 .f32) :
    k4_pay196 (k4_pay282 x0) (k4_pay327 x0) (k4_pay328 x0) (k4_pay329 x0) (k4_pay330 x0) (k4_pay331 x0) (k4_pay332 x0) = extractStridedSlice S32x128 ![0, 0] (net1024 x0 8 1).2 slices_S32x1024_o0_0_S32x128 := by
  rw [k4_pay327_eq, k4_pay328_eq, k4_pay331_eq, k4_pay332_eq]; rfl

theorem net1024_v769 (x0 : Vec F S32x1024 .f32) :
    k4_pay197 (k4_pay282 x0) (k4_pay327 x0) (k4_pay328 x0) (k4_pay329 x0) (k4_pay330 x0) (k4_pay331 x0) (k4_pay332 x0) = extractStridedSlice S32x128 ![0, 384] (net1024 x0 8 1).2 slices_S32x1024_o0_384_S32x128 := by
  rw [k4_pay327_eq, k4_pay328_eq, k4_pay331_eq, k4_pay332_eq]; rfl

theorem net1024_v770 (x0 : Vec F S32x1024 .f32) :
    k4_pay198 (k4_pay282 x0) (k4_pay327 x0) (k4_pay328 x0) (k4_pay329 x0) (k4_pay330 x0) (k4_pay331 x0) (k4_pay332 x0) = extractStridedSlice S32x128 ![0, 256] (net1024 x0 8 1).2 slices_S32x1024_o0_256_S32x128 := by
  rw [k4_pay327_eq, k4_pay328_eq, k4_pay331_eq, k4_pay332_eq]; rfl

theorem net1024_v771 (x0 : Vec F S32x1024 .f32) :
    k4_pay199 (k4_pay282 x0) (k4_pay327 x0) (k4_pay328 x0) (k4_pay329 x0) (k4_pay330 x0) (k4_pay331 x0) (k4_pay332 x0) = extractStridedSlice S32x128 ![0, 640] (net1024 x0 8 1).2 slices_S32x1024_o0_640_S32x128 := by
  rw [k4_pay327_eq, k4_pay328_eq, k4_pay331_eq, k4_pay332_eq]; rfl

theorem net1024_v772 (x0 : Vec F S32x1024 .f32) :
    k4_pay200 (k4_pay282 x0) (k4_pay327 x0) (k4_pay328 x0) (k4_pay329 x0) (k4_pay330 x0) (k4_pay331 x0) (k4_pay332 x0) = extractStridedSlice S32x128 ![0, 512] (net1024 x0 8 1).2 slices_S32x1024_o0_512_S32x128 := by
  rw [k4_pay327_eq, k4_pay328_eq, k4_pay331_eq, k4_pay332_eq]; rfl

theorem net1024_v814 (x0 : Vec F S32x1024 .f32) :
    k4_pay209 (k4_pay282 x0) (k4_pay333 x0) (k4_pay191 (k4_pay282 x0) (k4_pay327 x0) (k4_pay328 x0) (k4_pay329 x0) (k4_pay330 x0) (k4_pay331 x0) (k4_pay332 x0)) (k4_pay193 (k4_pay282 x0) (k4_pay327 x0) (k4_pay329 x0) (k4_pay331 x0) (k4_pay332 x0)) (k4_pay334 x0) (k4_pay195 (k4_pay282 x0) (k4_pay327 x0) (k4_pay328 x0) (k4_pay329 x0) (k4_pay330 x0) (k4_pay331 x0) (k4_pay332 x0)) (k4_pay196 (k4_pay282 x0) (k4_pay327 x0) (k4_pay328 x0) (k4_pay329 x0) (k4_pay330 x0) (k4_pay331 x0) (k4_pay332 x0)) (k4_pay197 (k4_pay282 x0) (k4_pay327 x0) (k4_pay328 x0) (k4_pay329 x0) (k4_pay330 x0) (k4_pay331 x0) (k4_pay332 x0)) (k4_pay198 (k4_pay282 x0) (k4_pay327 x0) (k4_pay328 x0) (k4_pay329 x0) (k4_pay330 x0) (k4_pay331 x0) (k4_pay332 x0)) (k4_pay199 (k4_pay282 x0) (k4_pay327 x0) (k4_pay328 x0) (k4_pay329 x0) (k4_pay330 x0) (k4_pay331 x0) (k4_pay332 x0)) (k4_pay200 (k4_pay282 x0) (k4_pay327 x0) (k4_pay328 x0) (k4_pay329 x0) (k4_pay330 x0) (k4_pay331 x0) (k4_pay332 x0)) = (net1024 x0 8 4).2 := by
  rw [net1024_v749, net1024_v765, net1024_v767, net1024_v768, net1024_v769, net1024_v770, net1024_v771, net1024_v772, k4_pay334_eq]; rfl

theorem net1024_v852 (x0 : Vec F S32x1024 .f32) :
    k4_pay219 (k4_pay282 x0) (k4_pay333 x0) (k4_pay335 x0) (k4_pay209 (k4_pay282 x0) (k4_pay333 x0) (k4_pay191 (k4_pay282 x0) (k4_pay327 x0) (k4_pay328 x0) (k4_pay329 x0) (k4_pay330 x0) (k4_pay331 x0) (k4_pay332 x0)) (k4_pay193 (k4_pay282 x0) (k4_pay327 x0) (k4_pay329 x0) (k4_pay331 x0) (k4_pay332 x0)) (k4_pay334 x0) (k4_pay195 (k4_pay282 x0) (k4_pay327 x0) (k4_pay328 x0) (k4_pay329 x0) (k4_pay330 x0) (k4_pay331 x0) (k4_pay332 x0)) (k4_pay196 (k4_pay282 x0) (k4_pay327 x0) (k4_pay328 x0) (k4_pay329 x0) (k4_pay330 x0) (k4_pay331 x0) (k4_pay332 x0)) (k4_pay197 (k4_pay282 x0) (k4_pay327 x0) (k4_pay328 x0) (k4_pay329 x0) (k4_pay330 x0) (k4_pay331 x0) (k4_pay332 x0)) (k4_pay198 (k4_pay282 x0) (k4_pay327 x0) (k4_pay328 x0) (k4_pay329 x0) (k4_pay330 x0) (k4_pay331 x0) (k4_pay332 x0)) (k4_pay199 (k4_pay282 x0) (k4_pay327 x0) (k4_pay328 x0) (k4_pay329 x0) (k4_pay330 x0) (k4_pay331 x0) (k4_pay332 x0)) (k4_pay200 (k4_pay282 x0) (k4_pay327 x0) (k4_pay328 x0) (k4_pay329 x0) (k4_pay330 x0) (k4_pay331 x0) (k4_pay332 x0))) (k4_pay336 x0) = (net1024 x0 8 6).2 := by
  rw [net1024_v814, k4_pay335_eq]; rfl

theorem net1024_v890 (x0 : Vec F S32x1024 .f32) :
    k4_pay229 (k4_pay282 x0) (k4_pay333 x0) (k4_pay337 x0) (k4_pay219 (k4_pay282 x0) (k4_pay333 x0) (k4_pay335 x0) (k4_pay209 (k4_pay282 x0) (k4_pay333 x0) (k4_pay191 (k4_pay282 x0) (k4_pay327 x0) (k4_pay328 x0) (k4_pay329 x0) (k4_pay330 x0) (k4_pay331 x0) (k4_pay332 x0)) (k4_pay193 (k4_pay282 x0) (k4_pay327 x0) (k4_pay329 x0) (k4_pay331 x0) (k4_pay332 x0)) (k4_pay334 x0) (k4_pay195 (k4_pay282 x0) (k4_pay327 x0) (k4_pay328 x0) (k4_pay329 x0) (k4_pay330 x0) (k4_pay331 x0) (k4_pay332 x0)) (k4_pay196 (k4_pay282 x0) (k4_pay327 x0) (k4_pay328 x0) (k4_pay329 x0) (k4_pay330 x0) (k4_pay331 x0) (k4_pay332 x0)) (k4_pay197 (k4_pay282 x0) (k4_pay327 x0) (k4_pay328 x0) (k4_pay329 x0) (k4_pay330 x0) (k4_pay331 x0) (k4_pay332 x0)) (k4_pay198 (k4_pay282 x0) (k4_pay327 x0) (k4_pay328 x0) (k4_pay329 x0) (k4_pay330 x0) (k4_pay331 x0) (k4_pay332 x0)) (k4_pay199 (k4_pay282 x0) (k4_pay327 x0) (k4_pay328 x0) (k4_pay329 x0) (k4_pay330 x0) (k4_pay331 x0) (k4_pay332 x0)) (k4_pay200 (k4_pay282 x0) (k4_pay327 x0) (k4_pay328 x0) (k4_pay329 x0) (k4_pay330 x0) (k4_pay331 x0) (k4_pay332 x0))) (k4_pay336 x0)) (k4_pay338 x0) 4#32 = (net1024 x0 8 8).2 := by
  rw [net1024_v852, k4_pay337_eq]; rfl

set_option maxHeartbeats 4000000 in
theorem net1024_v943 (x0 : Vec F S32x1024 .f32) :
    k4_pay241 (k4_pay282 x0) (k4_pay339 x0) (k4_pay229 (k4_pay282 x0) (k4_pay333 x0) (k4_pay337 x0) (k4_pay219 (k4_pay282 x0) (k4_pay333 x0) (k4_pay335 x0) (k4_pay209 (k4_pay282 x0) (k4_pay333 x0) (k4_pay191 (k4_pay282 x0) (k4_pay327 x0) (k4_pay328 x0) (k4_pay329 x0) (k4_pay330 x0) (k4_pay331 x0) (k4_pay332 x0)) (k4_pay193 (k4_pay282 x0) (k4_pay327 x0) (k4_pay329 x0) (k4_pay331 x0) (k4_pay332 x0)) (k4_pay334 x0) (k4_pay195 (k4_pay282 x0) (k4_pay327 x0) (k4_pay328 x0) (k4_pay329 x0) (k4_pay330 x0) (k4_pay331 x0) (k4_pay332 x0)) (k4_pay196 (k4_pay282 x0) (k4_pay327 x0) (k4_pay328 x0) (k4_pay329 x0) (k4_pay330 x0) (k4_pay331 x0) (k4_pay332 x0)) (k4_pay197 (k4_pay282 x0) (k4_pay327 x0) (k4_pay328 x0) (k4_pay329 x0) (k4_pay330 x0) (k4_pay331 x0) (k4_pay332 x0)) (k4_pay198 (k4_pay282 x0) (k4_pay327 x0) (k4_pay328 x0) (k4_pay329 x0) (k4_pay330 x0) (k4_pay331 x0) (k4_pay332 x0)) (k4_pay199 (k4_pay282 x0) (k4_pay327 x0) (k4_pay328 x0) (k4_pay329 x0) (k4_pay330 x0) (k4_pay331 x0) (k4_pay332 x0)) (k4_pay200 (k4_pay282 x0) (k4_pay327 x0) (k4_pay328 x0) (k4_pay329 x0) (k4_pay330 x0) (k4_pay331 x0) (k4_pay332 x0))) (k4_pay336 x0)) (k4_pay338 x0) 4#32) (k4_pay340 x0) (k4_pay341 x0) 1023#32 = (net1024 x0 9 2).2 := by
  rw [net1024_v890, k4_pay339_eq]; rfl

theorem net1024_v989 (x0 : Vec F S32x1024 .f32) :
    k4_pay250 (k4_pay282 x0) (k4_pay343 x0) (k4_pay241 (k4_pay282 x0) (k4_pay339 x0) (k4_pay229 (k4_pay282 x0) (k4_pay333 x0) (k4_pay337 x0) (k4_pay219 (k4_pay282 x0) (k4_pay333 x0) (k4_pay335 x0) (k4_pay209 (k4_pay282 x0) (k4_pay333 x0) (k4_pay191 (k4_pay282 x0) (k4_pay327 x0) (k4_pay328 x0) (k4_pay329 x0) (k4_pay330 x0) (k4_pay331 x0) (k4_pay332 x0)) (k4_pay193 (k4_pay282 x0) (k4_pay327 x0) (k4_pay329 x0) (k4_pay331 x0) (k4_pay332 x0)) (k4_pay334 x0) (k4_pay195 (k4_pay282 x0) (k4_pay327 x0) (k4_pay328 x0) (k4_pay329 x0) (k4_pay330 x0) (k4_pay331 x0) (k4_pay332 x0)) (k4_pay196 (k4_pay282 x0) (k4_pay327 x0) (k4_pay328 x0) (k4_pay329 x0) (k4_pay330 x0) (k4_pay331 x0) (k4_pay332 x0)) (k4_pay197 (k4_pay282 x0) (k4_pay327 x0) (k4_pay328 x0) (k4_pay329 x0) (k4_pay330 x0) (k4_pay331 x0) (k4_pay332 x0)) (k4_pay198 (k4_pay282 x0) (k4_pay327 x0) (k4_pay328 x0) (k4_pay329 x0) (k4_pay330 x0) (k4_pay331 x0) (k4_pay332 x0)) (k4_pay199 (k4_pay282 x0) (k4_pay327 x0) (k4_pay328 x0) (k4_pay329 x0) (k4_pay330 x0) (k4_pay331 x0) (k4_pay332 x0)) (k4_pay200 (k4_pay282 x0) (k4_pay327 x0) (k4_pay328 x0) (k4_pay329 x0) (k4_pay330 x0) (k4_pay331 x0) (k4_pay332 x0))) (k4_pay336 x0)) (k4_pay338 x0) 4#32) (k4_pay340 x0) (k4_pay341 x0) 1023#32) (k4_pay344 x0) (k4_pay342 x0) = (net1024 x0 9 4).2 := by
  rw [net1024_v943, k4_pay343_eq]; rfl

theorem net1024_v1027 (x0 : Vec F S32x1024 .f32) :
    k4_pay260 (k4_pay282 x0) (k4_pay345 x0) (k4_pay250 (k4_pay282 x0) (k4_pay343 x0) (k4_pay241 (k4_pay282 x0) (k4_pay339 x0) (k4_pay229 (k4_pay282 x0) (k4_pay333 x0) (k4_pay337 x0) (k4_pay219 (k4_pay282 x0) (k4_pay333 x0) (k4_pay335 x0) (k4_pay209 (k4_pay282 x0) (k4_pay333 x0) (k4_pay191 (k4_pay282 x0) (k4_pay327 x0) (k4_pay328 x0) (k4_pay329 x0) (k4_pay330 x0) (k4_pay331 x0) (k4_pay332 x0)) (k4_pay193 (k4_pay282 x0) (k4_pay327 x0) (k4_pay329 x0) (k4_pay331 x0) (k4_pay332 x0)) (k4_pay334 x0) (k4_pay195 (k4_pay282 x0) (k4_pay327 x0) (k4_pay328 x0) (k4_pay329 x0) (k4_pay330 x0) (k4_pay331 x0) (k4_pay332 x0)) (k4_pay196 (k4_pay282 x0) (k4_pay327 x0) (k4_pay328 x0) (k4_pay329 x0) (k4_pay330 x0) (k4_pay331 x0) (k4_pay332 x0)) (k4_pay197 (k4_pay282 x0) (k4_pay327 x0) (k4_pay328 x0) (k4_pay329 x0) (k4_pay330 x0) (k4_pay331 x0) (k4_pay332 x0)) (k4_pay198 (k4_pay282 x0) (k4_pay327 x0) (k4_pay328 x0) (k4_pay329 x0) (k4_pay330 x0) (k4_pay331 x0) (k4_pay332 x0)) (k4_pay199 (k4_pay282 x0) (k4_pay327 x0) (k4_pay328 x0) (k4_pay329 x0) (k4_pay330 x0) (k4_pay331 x0) (k4_pay332 x0)) (k4_pay200 (k4_pay282 x0) (k4_pay327 x0) (k4_pay328 x0) (k4_pay329 x0) (k4_pay330 x0) (k4_pay331 x0) (k4_pay332 x0))) (k4_pay336 x0)) (k4_pay338 x0) 4#32) (k4_pay340 x0) (k4_pay341 x0) 1023#32) (k4_pay344 x0) (k4_pay342 x0)) (k4_pay346 x0) 32#32 = (net1024 x0 9 6).2 := by
  rw [net1024_v989, k4_pay345_eq]; rfl

theorem k4_pay352_eq (x0 : Vec F S32x1024 .f32) : k4_pay352 x0 = (net1024 x0 9 8).2 := by
  rw [k4_pay352, net1024_v1027, k4_pay347_eq]; rfl

theorem k4_pay355_eq (x0 : Vec F S32x1024 .f32) : k4_pay355 x0 = dynamicRotate 1 1022#32 none (net1024 x0 9 8).1 rotates_S32x1024_d1 := by
  rw [k4_pay355, k4_pay347_eq]; rfl

theorem net1024_v1084 (x0 : Vec F S32x1024 .f32) :
    k4_pay278 (k4_pay351 x0) (k4_pay352 x0) (k4_pay353 x0) (k4_pay354 x0) (k4_pay355 x0) 2#32 = (net1024 x0 9 9).2 := by
  rw [k4_pay351_eq, k4_pay352_eq, k4_pay355_eq]; rfl

theorem net1024_v1098 (x0 : Vec F S32x1024 .f32) :
    k4_pay280 (k4_pay282 x0) (k4_pay351 x0) (k4_pay353 x0) (k4_pay354 x0) (k4_pay355 x0) 2#32 = xori (cmpf .ogt (net1024 x0 9 9).1 (select (cmpi .eq (andi pos1024 (broadcast S32x1024 1#32)) (broadcast S32x1024 0#32)) (dynamicRotate 1 1023#32 none (net1024 x0 9 9).1 rotates_S32x1024_d1) (dynamicRotate 1 1#32 none (net1024 x0 9 9).1 rotates_S32x1024_d1))) (xori (cmpi .eq (andi pos1024 (broadcast S32x1024 1#32)) (broadcast S32x1024 0#32)) (constantI S32x1024 1 1#1)) := by
  rw [k4_pay351_eq, k4_pay355_eq]; rfl

theorem net1024_v1099 (x0 : Vec F S32x1024 .f32) :
    k4_pay281 (k4_pay351 x0) (k4_pay352 x0) (k4_pay353 x0) (k4_pay354 x0) (k4_pay355 x0) 2#32 = dynamicRotate 1 1023#32 none (net1024 x0 9 9).2 rotates_S32x1024_d1 := by
  rw [k4_pay351_eq, k4_pay352_eq, k4_pay355_eq]; rfl

/-- The stored block: the positions after the last stage. -/
theorem out4_eq (x0 : Vec F S32x1024 .f32) : out4_1 x0 = View.canon [⟨r4_0, (net1024 x0 10 0).2⟩] := by
  rw [out4_1, net1024_v1084, net1024_v1098, net1024_v1099]; rfl

/-! ### Width 2048 -/

/-- The positions along a row of 2048. -/
abbrev pos2048 : IVec S32x2048 32 := iota .tc S32x2048 32 [1] iota_S32x2048_d1_w32

/-- A row of 2048 with neighbouring blocks of 128 swapped. -/
def swap2048_128 {α : Type} (x : S32x2048.Idx → α) : S32x2048.Idx → α :=
  concatenate S32x2048 1 [
      ⟨S32x128, extractStridedSlice S32x128 ![0, 128] x slices_S32x2048_o0_128_S32x128⟩,
      ⟨S32x128, extractStridedSlice S32x128 ![0, 0] x slices_S32x2048_o0_0_S32x128⟩,
      ⟨S32x128, extractStridedSlice S32x128 ![0, 384] x slices_S32x2048_o0_384_S32x128⟩,
      ⟨S32x128, extractStridedSlice S32x128 ![0, 256] x slices_S32x2048_o0_256_S32x128⟩,
      ⟨S32x128, extractStridedSlice S32x128 ![0, 640] x slices_S32x2048_o0_640_S32x128⟩,
      ⟨S32x128, extractStridedSlice S32x128 ![0, 512] x slices_S32x2048_o0_512_S32x128⟩,
      ⟨S32x128, extractStridedSlice S32x128 ![0, 896] x slices_S32x2048_o0_896_S32x128⟩,
      ⟨S32x128, extractStridedSlice S32x128 ![0, 768] x slices_S32x2048_o0_768_S32x128⟩,
      ⟨S32x128, extractStridedSlice S32x128 ![0, 1152] x slices_S32x2048_o0_1152_S32x128⟩,
      ⟨S32x128, extractStridedSlice S32x128 ![0, 1024] x slices_S32x2048_o0_1024_S32x128⟩,
      ⟨S32x128, extractStridedSlice S32x128 ![0, 1408] x slices_S32x2048_o0_1408_S32x128⟩,
      ⟨S32x128, extractStridedSlice S32x128 ![0, 1280] x slices_S32x2048_o0_1280_S32x128⟩,
      ⟨S32x128, extractStridedSlice S32x128 ![0, 1664] x slices_S32x2048_o0_1664_S32x128⟩,
      ⟨S32x128, extractStridedSlice S32x128 ![0, 1536] x slices_S32x2048_o0_1536_S32x128⟩,
      ⟨S32x128, extractStridedSlice S32x128 ![0, 1920] x slices_S32x2048_o0_1920_S32x128⟩,
      ⟨S32x128, extractStridedSlice S32x128 ![0, 1792] x slices_S32x2048_o0_1792_S32x128⟩] concatenates_S32x128_S32x128_S32x128_S32x128_S32x128_S32x128_S32x128_S32x128_S32x128_S32x128_S32x128_S32x128_S32x128_S32x128_S32x128_S32x128_S32x2048_d1

/-- A row of 2048 with neighbouring blocks of 256 swapped. -/
def swap2048_256 {α : Type} (x : S32x2048.Idx → α) : S32x2048.Idx → α :=
  concatenate S32x2048 1 [
      ⟨S32x256, extractStridedSlice S32x256 ![0, 256] x slices_S32x2048_o0_256_S32x256⟩,
      ⟨S32x256, extractStridedSlice S32x256 ![0, 0] x slices_S32x2048_o0_0_S32x256⟩,
      ⟨S32x256, extractStridedSlice S32x256 ![0, 768] x slices_S32x2048_o0_768_S32x256⟩,
      ⟨S32x256, extractStridedSlice S32x256 ![0, 512] x slices_S32x2048_o0_512_S32x256⟩,
      ⟨S32x256, extractStridedSlice S32x256 ![0, 1280] x slices_S32x2048_o0_1280_S32x256⟩,
      ⟨S32x256, extractStridedSlice S32x256 ![0, 1024] x slices_S32x2048_o0_1024_S32x256⟩,
      ⟨S32x256, extractStridedSlice S32x256 ![0, 1792] x slices_S32x2048_o0_1792_S32x256⟩,
      ⟨S32x256, extractStridedSlice S32x256 ![0, 1536] x slices_S32x2048_o0_1536_S32x256⟩] concatenates_S32x256_S32x256_S32x256_S32x256_S32x256_S32x256_S32x256_S32x256_S32x2048_d1

/-- A row of 2048 with neighbouring blocks of 512 swapped. -/
def swap2048_512 {α : Type} (x : S32x2048.Idx → α) : S32x2048.Idx → α :=
  concatenate S32x2048 1 [
      ⟨S32x512, extractStridedSlice S32x512 ![0, 512] x slices_S32x2048_o0_512_S32x512⟩,
      ⟨S32x512, extractStridedSlice S32x512 ![0, 0] x slices_S32x2048_o0_0_S32x512⟩,
      ⟨S32x512, extractStridedSlice S32x512 ![0, 1536] x slices_S32x2048_o0_1536_S32x512⟩,
      ⟨S32x512, extractStridedSlice S32x512 ![0, 1024] x slices_S32x2048_o0_1024_S32x512⟩] concatenates_S32x512_S32x512_S32x512_S32x512_S32x2048_d1

/-- A row of 2048 with neighbouring blocks of 1024 swapped. -/
def swap2048_1024 {α : Type} (x : S32x2048.Idx → α) : S32x2048.Idx → α :=
  concatenate S32x2048 1 [
      ⟨S32x1024, extractStridedSlice S32x1024 ![0, 1024] x slices_S32x2048_o0_1024_S32x1024⟩,
      ⟨S32x1024, extractStridedSlice S32x1024 ![0, 0] x slices_S32x2048_o0_0_S32x1024⟩] concatenates_S32x1024_S32x1024_S32x2048_d1

/-- The partner functions at width 2048: rotations at the distances below 128, block swaps from there on. -/
def partner2048 (s : Nat) : Partner S32x2048 :=
  if s < 7 then rollPartner 1 rotates_S32x2048_d1 pos2048 (BitVec.ofNat 32 (2 ^ s)) (BitVec.ofNat 32 (2048 - 2 ^ s))
  else if s = 7 then fun _ => swap2048_128
  else if s = 8 then fun _ => swap2048_256
  else if s = 9 then fun _ => swap2048_512
  else fun _ => swap2048_1024

/-- Keys and positions of a block in level `l` after the level's first `k` stages. -/
def net2048 (x0 : Vec F S32x2048 .f32) (l k : Nat) : FVec F S32x2048 .f32 × IVec S32x2048 32 :=
  runSort partner2048 pos2048 11 (shapeCast S32x2048 (View.ld x0 r5_0) shapeCasts_S32x2048_S32x2048, pos2048) l k

theorem k5_pay330_eq (x0 : Vec F S32x2048 .f32) : k5_pay330 x0 = (net2048 x0 1 0).1 := by
  rw [k5_pay330]; rfl

theorem k5_pay334_eq (x0 : Vec F S32x2048 .f32) : k5_pay334 x0 = dynamicRotate 1 2046#32 none (net2048 x0 1 0).1 rotates_S32x2048_d1 := by
  rw [k5_pay334]; rfl

theorem k5_pay335_eq (x0 : Vec F S32x2048 .f32) : k5_pay335 x0 = (net2048 x0 2 0).1 := by
  rw [k5_pay335, k5_pay330_eq, k5_pay334_eq]; rfl

theorem k5_pay339_eq (x0 : Vec F S32x2048 .f32) : k5_pay339 x0 = dynamicRotate 1 2044#32 none (net2048 x0 2 0).1 rotates_S32x2048_d1 := by
  rw [k5_pay339, k5_pay330_eq, k5_pay334_eq]; rfl

theorem k5_pay340_eq (x0 : Vec F S32x2048 .f32) : k5_pay340 x0 = (net2048 x0 3 0).1 := by
  rw [k5_pay340, k5_pay335_eq, k5_pay339_eq]; rfl

theorem k5_pay342_eq (x0 : Vec F S32x2048 .f32) : k5_pay342 x0 = (net2048 x0 3 2).1 := by
  rw [k5_pay342, k5_pay340_eq]; rfl

theorem k5_pay343_eq (x0 : Vec F S32x2048 .f32) : k5_pay343 x0 = (net2048 x0 4 0).1 := by
  rw [k5_pay343, k5_pay342_eq]; rfl

theorem k5_pay345_eq (x0 : Vec F S32x2048 .f32) : k5_pay345 x0 = (net2048 x0 4 2).1 := by
  rw [k5_pay345, k5_pay343_eq]; rfl

theorem k5_pay346_eq (x0 : Vec F S32x2048 .f32) : k5_pay346 x0 = (net2048 x0 4 4).1 := by
  rw [k5_pay346, k5_pay345_eq]; rfl

theorem k5_pay349_eq (x0 : Vec F S32x2048 .f32) : k5_pay349 x0 = (net2048 x0 5 1).1 := by
  rw [k5_pay349, k5_pay346_eq]; rfl

theorem k5_pay351_eq (x0 : Vec F S32x2048 .f32) : k5_pay351 x0 = (net2048 x0 5 3).1 := by
  rw [k5_pay351, k5_pay349_eq]; rfl

theorem k5_pay355_eq (x0 : Vec F S32x2048 .f32) : k5_pay355 x0 = (net2048 x0 5 5).1 := by
  rw [k5_pay355, k5_pay351_eq]; rfl

theorem k5_pay357_eq (x0 : Vec F S32x2048 .f32) : k5_pay357 x0 = select (cmpi .eq (andi pos2048 (broadcast S32x2048 1#32)) (broadcast S32x2048 0#32)) (dynamicRotate 1 2047#32 none (net2048 x0 5 5).1 rotates_S32x2048_d1) (dynamicRotate 1 1#32 none (net2048 x0 5 5).1 rotates_S32x2048_d1) := by
  rw [k5_pay357, k5_pay351_eq]; rfl

theorem k5_pay359_eq (x0 : Vec F S32x2048 .f32) : k5_pay359 x0 = (net2048 x0 6 1).1 := by
  rw [k5_pay359, k5_pay355_eq, k5_pay357_eq]; rfl

theorem net2048_v25 (x0 : Vec F S32x2048 .f32) :
    k5_pay7 (View.ld x0 r5_0) = (net2048 x0 1 0).2 := by
  rfl

theorem net2048_v67 (x0 : Vec F S32x2048 .f32) :
    k5_pay19 (k5_pay329 x0) (k5_pay330 x0) (k5_pay7 (View.ld x0 r5_0)) (k5_pay331 x0) (k5_pay332 x0) (k5_pay333 x0) (k5_pay334 x0) = (net2048 x0 2 0).2 := by
  rw [net2048_v25, k5_pay330_eq, k5_pay334_eq]; rfl

theorem net2048_v109 (x0 : Vec F S32x2048 .f32) :
    k5_pay31 (k5_pay329 x0) (k5_pay335 x0) (k5_pay19 (k5_pay329 x0) (k5_pay330 x0) (k5_pay7 (View.ld x0 r5_0)) (k5_pay331 x0) (k5_pay332 x0) (k5_pay333 x0) (k5_pay334 x0)) (k5_pay336 x0) (k5_pay337 x0) (k5_pay338 x0) (k5_pay339 x0) = (net2048 x0 2 2).2 := by
  rw [net2048_v67, k5_pay335_eq, k5_pay339_eq]; rfl

theorem net2048_v123 (x0 : Vec F S32x2048 .f32) :
    k5_pay34 (k5_pay329 x0) (k5_pay335 x0) (k5_pay336 x0) (k5_pay337 x0) (k5_pay338 x0) (k5_pay339 x0) = xori (cmpf .ogt (net2048 x0 2 2).1 (select (cmpi .eq (andi pos2048 (broadcast S32x2048 1#32)) (broadcast S32x2048 0#32)) (dynamicRotate 1 2047#32 none (net2048 x0 2 2).1 rotates_S32x2048_d1) (dynamicRotate 1 1#32 none (net2048 x0 2 2).1 rotates_S32x2048_d1))) (xori (cmpi .eq (andi pos2048 (broadcast S32x2048 1#32)) (broadcast S32x2048 0#32)) (cmpi .eq (andi pos2048 (broadcast S32x2048 8#32)) (broadcast S32x2048 0#32))) := by
  rw [k5_pay335_eq, k5_pay339_eq]; rfl

theorem net2048_v151 (x0 : Vec F S32x2048 .f32) :
    k5_pay41 (k5_pay329 x0) (k5_pay31 (k5_pay329 x0) (k5_pay335 x0) (k5_pay19 (k5_pay329 x0) (k5_pay330 x0) (k5_pay7 (View.ld x0 r5_0)) (k5_pay331 x0) (k5_pay332 x0) (k5_pay333 x0) (k5_pay334 x0)) (k5_pay336 x0) (k5_pay337 x0) (k5_pay338 x0) (k5_pay339 x0)) (k5_pay32 (k5_pay329 x0)) (k5_pay34 (k5_pay329 x0) (k5_pay335 x0) (k5_pay336 x0) (k5_pay337 x0) (k5_pay338 x0) (k5_pay339 x0)) (k5_pay340 x0) = (net2048 x0 3 1).2 := by
  rw [net2048_v109, net2048_v123, k5_pay340_eq]; rfl

theorem net2048_v165 (x0 : Vec F S32x2048 .f32) :
    k5_pay44 (k5_pay329 x0) (k5_pay340 x0) = xori (cmpf .ogt (net2048 x0 3 1).1 (select (cmpi .eq (andi pos2048 (broadcast S32x2048 4#32)) (broadcast S32x2048 0#32)) (dynamicRotate 1 2044#32 none (net2048 x0 3 1).1 rotates_S32x2048_d1) (dynamicRotate 1 4#32 none (net2048 x0 3 1).1 rotates_S32x2048_d1))) (xori (cmpi .eq (andi pos2048 (broadcast S32x2048 4#32)) (broadcast S32x2048 0#32)) (cmpi .eq (andi pos2048 (broadcast S32x2048 16#32)) (broadcast S32x2048 0#32))) := by
  rw [k5_pay340_eq]; rfl

theorem net2048_v208 (x0 : Vec F S32x2048 .f32) :
    k5_pay54 (k5_pay329 x0) (k5_pay341 x0) (k5_pay41 (k5_pay329 x0) (k5_pay31 (k5_pay329 x0) (k5_pay335 x0) (k5_pay19 (k5_pay329 x0) (k5_pay330 x0) (k5_pay7 (View.ld x0 r5_0)) (k5_pay331 x0) (k5_pay332 x0) (k5_pay333 x0) (k5_pay334 x0)) (k5_pay336 x0) (k5_pay337 x0) (k5_pay338 x0) (k5_pay339 x0)) (k5_pay32 (k5_pay329 x0)) (k5_pay34 (k5_pay329 x0) (k5_pay335 x0) (k5_pay336 x0) (k5_pay337 x0) (k5_pay338 x0) (k5_pay339 x0)) (k5_pay340 x0)) (k5_pay42 (k5_pay329 x0)) (k5_pay44 (k5_pay329 x0) (k5_pay340 x0)) (k5_pay342 x0) = (net2048 x0 4 0).2 := by
  rw [net2048_v151, net2048_v165, k5_pay342_eq]; rfl

theorem net2048_v250 (x0 : Vec F S32x2048 .f32) :
    k5_pay64 (k5_pay329 x0) (k5_pay343 x0) (k5_pay54 (k5_pay329 x0) (k5_pay341 x0) (k5_pay41 (k5_pay329 x0) (k5_pay31 (k5_pay329 x0) (k5_pay335 x0) (k5_pay19 (k5_pay329 x0) (k5_pay330 x0) (k5_pay7 (View.ld x0 r5_0)) (k5_pay331 x0) (k5_pay332 x0) (k5_pay333 x0) (k5_pay334 x0)) (k5_pay336 x0) (k5_pay337 x0) (k5_pay338 x0) (k5_pay339 x0)) (k5_pay32 (k5_pay329 x0)) (k5_pay34 (k5_pay329 x0) (k5_pay335 x0) (k5_pay336 x0) (k5_pay337 x0) (k5_pay338 x0) (k5_pay339 x0)) (k5_pay340 x0)) (k5_pay42 (k5_pay329 x0)) (k5_pay44 (k5_pay329 x0) (k5_pay340 x0)) (k5_pay342 x0)) = (net2048 x0 4 2).2 := by
  rw [net2048_v208, k5_pay343_eq]; rfl

theorem net2048_v288 (x0 : Vec F S32x2048 .f32) :
    k5_pay73 (k5_pay329 x0) (k5_pay344 x0) (k5_pay345 x0) (k5_pay64 (k5_pay329 x0) (k5_pay343 x0) (k5_pay54 (k5_pay329 x0) (k5_pay341 x0) (k5_pay41 (k5_pay329 x0) (k5_pay31 (k5_pay329 x0) (k5_pay335 x0) (k5_pay19 (k5_pay329 x0) (k5_pay330 x0) (k5_pay7 (View.ld x0 r5_0)) (k5_pay331 x0) (k5_pay332 x0) (k5_pay333 x0) (k5_pay334 x0)) (k5_pay336 x0) (k5_pay337 x0) (k5_pay338 x0) (k5_pay339 x0)) (k5_pay32 (k5_pay329 x0)) (k5_pay34 (k5_pay329 x0) (k5_pay335 x0) (k5_pay336 x0) (k5_pay337 x0) (k5_pay338 x0) (k5_pay339 x0)) (k5_pay340 x0)) (k5_pay42 (k5_pay329 x0)) (k5_pay44 (k5_pay329 x0) (k5_pay340 x0)) (k5_pay342 x0))) = (net2048 x0 4 4).2 := by
  rw [net2048_v250, k5_pay345_eq]; rfl

theorem net2048_v330 (x0 : Vec F S32x2048 .f32) :
    k5_pay84 (k5_pay329 x0) (k5_pay344 x0) (k5_pay346 x0) (k5_pay73 (k5_pay329 x0) (k5_pay344 x0) (k5_pay345 x0) (k5_pay64 (k5_pay329 x0) (k5_pay343 x0) (k5_pay54 (k5_pay329 x0) (k5_pay341 x0) (k5_pay41 (k5_pay329 x0) (k5_pay31 (k5_pay329 x0) (k5_pay335 x0) (k5_pay19 (k5_pay329 x0) (k5_pay330 x0) (k5_pay7 (View.ld x0 r5_0)) (k5_pay331 x0) (k5_pay332 x0) (k5_pay333 x0) (k5_pay334 x0)) (k5_pay336 x0) (k5_pay337 x0) (k5_pay338 x0) (k5_pay339 x0)) (k5_pay32 (k5_pay329 x0)) (k5_pay34 (k5_pay329 x0) (k5_pay335 x0) (k5_pay336 x0) (k5_pay337 x0) (k5_pay338 x0) (k5_pay339 x0)) (k5_pay340 x0)) (k5_pay42 (k5_pay329 x0)) (k5_pay44 (k5_pay329 x0) (k5_pay340 x0)) (k5_pay342 x0)))) (k5_pay347 x0) = (net2048 x0 5 1).2 := by
  rw [net2048_v288, k5_pay346_eq]; rfl

theorem net2048_v368 (x0 : Vec F S32x2048 .f32) :
    k5_pay94 (k5_pay329 x0) (k5_pay348 x0) (k5_pay349 x0) (k5_pay84 (k5_pay329 x0) (k5_pay344 x0) (k5_pay346 x0) (k5_pay73 (k5_pay329 x0) (k5_pay344 x0) (k5_pay345 x0) (k5_pay64 (k5_pay329 x0) (k5_pay343 x0) (k5_pay54 (k5_pay329 x0) (k5_pay341 x0) (k5_pay41 (k5_pay329 x0) (k5_pay31 (k5_pay329 x0) (k5_pay335 x0) (k5_pay19 (k5_pay329 x0) (k5_pay330 x0) (k5_pay7 (View.ld x0 r5_0)) (k5_pay331 x0) (k5_pay332 x0) (k5_pay333 x0) (k5_pay334 x0)) (k5_pay336 x0) (k5_pay337 x0) (k5_pay338 x0) (k5_pay339 x0)) (k5_pay32 (k5_pay329 x0)) (k5_pay34 (k5_pay329 x0) (k5_pay335 x0) (k5_pay336 x0) (k5_pay337 x0) (k5_pay338 x0) (k5_pay339 x0)) (k5_pay340 x0)) (k5_pay42 (k5_pay329 x0)) (k5_pay44 (k5_pay329 x0) (k5_pay340 x0)) (k5_pay342 x0)))) (k5_pay347 x0)) (k5_pay350 x0) = (net2048 x0 5 3).2 := by
  rw [net2048_v330, k5_pay349_eq]; rfl

theorem net2048_v406 (x0 : Vec F S32x2048 .f32) :
    k5_pay106 (k5_pay329 x0) (k5_pay348 x0) (k5_pay351 x0) (k5_pay94 (k5_pay329 x0) (k5_pay348 x0) (k5_pay349 x0) (k5_pay84 (k5_pay329 x0) (k5_pay344 x0) (k5_pay346 x0) (k5_pay73 (k5_pay329 x0) (k5_pay344 x0) (k5_pay345 x0) (k5_pay64 (k5_pay329 x0) (k5_pay343 x0) (k5_pay54 (k5_pay329 x0) (k5_pay341 x0) (k5_pay41 (k5_pay329 x0) (k5_pay31 (k5_pay329 x0) (k5_pay335 x0) (k5_pay19 (k5_pay329 x0) (k5_pay330 x0) (k5_pay7 (View.ld x0 r5_0)) (k5_pay331 x0) (k5_pay332 x0) (k5_pay333 x0) (k5_pay334 x0)) (k5_pay336 x0) (k5_pay337 x0) (k5_pay338 x0) (k5_pay339 x0)) (k5_pay32 (k5_pay329 x0)) (k5_pay34 (k5_pay329 x0) (k5_pay335 x0) (k5_pay336 x0) (k5_pay337 x0) (k5_pay338 x0) (k5_pay339 x0)) (k5_pay340 x0)) (k5_pay42 (k5_pay329 x0)) (k5_pay44 (k5_pay329 x0) (k5_pay340 x0)) (k5_pay342 x0)))) (k5_pay347 x0)) (k5_pay350 x0)) (k5_pay352 x0) (k5_pay353 x0) (k5_pay354 x0) = (net2048 x0 5 5).2 := by
  rw [net2048_v368, k5_pay351_eq]; rfl

theorem k5_pay360_eq (x0 : Vec F S32x2048 .f32) : k5_pay360 x0 = (net2048 x0 6 1).2 := by
  rw [k5_pay360, net2048_v406, k5_pay355_eq, k5_pay357_eq]; rfl

theorem k5_pay363_eq (x0 : Vec F S32x2048 .f32) : k5_pay363 x0 = select (cmpi .eq (andi pos2048 (broadcast S32x2048 32#32)) (broadcast S32x2048 0#32)) (dynamicRotate 1 2016#32 none (net2048 x0 6 1).1 rotates_S32x2048_d1) (dynamicRotate 1 32#32 none (net2048 x0 6 1).1 rotates_S32x2048_d1) := by
  rw [k5_pay363, k5_pay355_eq, k5_pay357_eq]; rfl

theorem k5_pay364_eq (x0 : Vec F S32x2048 .f32) : k5_pay364 x0 = (net2048 x0 6 4).1 := by
  rw [k5_pay364, k5_pay359_eq, k5_pay363_eq]; rfl

theorem k5_pay365_eq (x0 : Vec F S32x2048 .f32) : k5_pay365 x0 = (net2048 x0 6 6).1 := by
  rw [k5_pay365, k5_pay364_eq]; rfl

theorem net2048_v486 (x0 : Vec F S32x2048 .f32) :
    k5_pay127 (k5_pay329 x0) (k5_pay358 x0) (k5_pay359 x0) (k5_pay360 x0) (k5_pay361 x0) (k5_pay362 x0) (k5_pay363 x0) = (net2048 x0 6 3).2 := by
  rw [k5_pay359_eq, k5_pay360_eq, k5_pay363_eq]; rfl

theorem net2048_v500 (x0 : Vec F S32x2048 .f32) :
    k5_pay130 (k5_pay329 x0) (k5_pay358 x0) (k5_pay359 x0) (k5_pay361 x0) (k5_pay363 x0) = xori (cmpf .ogt (net2048 x0 6 3).1 (select (cmpi .eq (andi pos2048 (broadcast S32x2048 8#32)) (broadcast S32x2048 0#32)) (dynamicRotate 1 2040#32 none (net2048 x0 6 3).1 rotates_S32x2048_d1) (dynamicRotate 1 8#32 none (net2048 x0 6 3).1 rotates_S32x2048_d1))) (xori (cmpi .eq (andi pos2048 (broadcast S32x2048 8#32)) (broadcast S32x2048 0#32)) (cmpi .eq (andi pos2048 (broadcast S32x2048 128#32)) (broadcast S32x2048 0#32))) := by
  rw [k5_pay359_eq, k5_pay363_eq]; rfl

theorem net2048_v502 (x0 : Vec F S32x2048 .f32) :
    k5_pay132 (k5_pay329 x0) (k5_pay358 x0) (k5_pay359 x0) (k5_pay360 x0) (k5_pay361 x0) (k5_pay362 x0) (k5_pay363 x0) = dynamicRotate 1 2040#32 none (net2048 x0 6 3).2 rotates_S32x2048_d1 := by
  rw [k5_pay359_eq, k5_pay360_eq, k5_pay363_eq]; rfl

theorem k5_pay366_eq (x0 : Vec F S32x2048 .f32) : k5_pay366 x0 = (net2048 x0 6 6).2 := by
  rw [k5_pay366, net2048_v486, net2048_v500, net2048_v502, k5_pay364_eq]; rfl

theorem k5_pay369_eq (x0 : Vec F S32x2048 .f32) : k5_pay369 x0 = (net2048 x0 7 1).1 := by
  rw [k5_pay369, k5_pay365_eq]; rfl

theorem k5_pay370_eq (x0 : Vec F S32x2048 .f32) : k5_pay370 x0 = (net2048 x0 7 2).1 := by
  rw [k5_pay370, k5_pay369_eq]; rfl

theorem net2048_v562 (x0 : Vec F S32x2048 .f32) :
    k5_pay147 (k5_pay329 x0) (k5_pay358 x0) (k5_pay365 x0) (k5_pay366 x0) (k5_pay367 x0) = (net2048 x0 7 0).2 := by
  rw [k5_pay365_eq, k5_pay366_eq]; rfl

theorem net2048_v590 (x0 : Vec F S32x2048 .f32) :
    k5_pay150 (k5_pay329 x0) (k5_pay358 x0) (k5_pay365 x0) (k5_pay367 x0) = xori (cmpf .ogt (net2048 x0 7 0).1 (concatenate S32x2048 1 [⟨S32x128, (extractStridedSlice S32x128 ![0, 128] (net2048 x0 7 0).1 slices_S32x2048_o0_128_S32x128)⟩, ⟨S32x128, (extractStridedSlice S32x128 ![0, 0] (net2048 x0 7 0).1 slices_S32x2048_o0_0_S32x128)⟩, ⟨S32x128, (extractStridedSlice S32x128 ![0, 384] (net2048 x0 7 0).1 slices_S32x2048_o0_384_S32x128)⟩, ⟨S32x128, (extractStridedSlice S32x128 ![0, 256] (net2048 x0 7 0).1 slices_S32x2048_o0_256_S32x128)⟩, ⟨S32x128, (extractStridedSlice S32x128 ![0, 640] (net2048 x0 7 0).1 slices_S32x2048_o0_640_S32x128)⟩, ⟨S32x128, (extractStridedSlice S32x128 ![0, 512] (net2048 x0 7 0).1 slices_S32x2048_o0_512_S32x128)⟩, ⟨S32x128, (extractStridedSlice S32x128 ![0, 896] (net2048 x0 7 0).1 slices_S32x2048_o0_896_S32x128)⟩, ⟨S32x128, (extractStridedSlice S32x128 ![0, 768] (net2048 x0 7 0).1 slices_S32x2048_o0_768_S32x128)⟩, ⟨S32x128, (extractStridedSlice S32x128 ![0, 1152] (net2048 x0 7 0).1 slices_S32x2048_o0_1152_S32x128)⟩, ⟨S32x128, (extractStridedSlice S32x128 ![0, 1024] (net2048 x0 7 0).1 slices_S32x2048_o0_1024_S32x128)⟩, ⟨S32x128, (extractStridedSlice S32x128 ![0, 1408] (net2048 x0 7 0).1 slices_S32x2048_o0_1408_S32x128)⟩, ⟨S32x128, (extractStridedSlice S32x128 ![0, 1280] (net2048 x0 7 0).1 slices_S32x2048_o0_1280_S32x128)⟩, ⟨S32x128, (extractStridedSlice S32x128 ![0, 1664] (net2048 x0 7 0).1 slices_S32x2048_o0_1664_S32x128)⟩, ⟨S32x128, (extractStridedSlice S32x128 ![0, 1536] (net2048 x0 7 0).1 slices_S32x2048_o0_1536_S32x128)⟩, ⟨S32x128, (extractStridedSlice S32x128 ![0, 1920] (net2048 x0 7 0).1 slices_S32x2048_o0_1920_S32x128)⟩, ⟨S32x128, (extractStridedSlice S32x128 ![0, 1792] (net2048 x0 7 0).1 slices_S32x2048_o0_1792_S32x128)⟩] concatenates_S32x128_S32x128_S32x128_S32x128_S32x128_S32x128_S32x128_S32x128_S32x128_S32x128_S32x128_S32x128_S32x128_S32x128_S32x128_S32x128_S32x2048_d1)) (xori (cmpi .eq (andi pos2048 (broadcast S32x2048 128#32)) (broadcast S32x2048 0#32)) (cmpi .eq (andi pos2048 (broadcast S32x2048 256#32)) (broadcast S32x2048 0#32))) := by
  rw [k5_pay365_eq]; rfl

theorem net2048_v592 (x0 : Vec F S32x2048 .f32) :
    k5_pay152 (k5_pay329 x0) (k5_pay358 x0) (k5_pay365 x0) (k5_pay366 x0) (k5_pay367 x0) = extractStridedSlice S32x128 ![0, 128] (net2048 x0 7 0).2 slices_S32x2048_o0_128_S32x128 := by
  rw [k5_pay365_eq, k5_pay366_eq]; rfl

theorem net2048_v593 (x0 : Vec F S32x2048 .f32) :
    k5_pay153 (k5_pay329 x0) (k5_pay358 x0) (k5_pay365 x0) (k5_pay366 x0) (k5_pay367 x0) = extractStridedSlice S32x128 ![0, 0] (net2048 x0 7 0).2 slices_S32x2048_o0_0_S32x128 := by
  rw [k5_pay365_eq, k5_pay366_eq]; rfl

theorem net2048_v594 (x0 : Vec F S32x2048 .f32) :
    k5_pay154 (k5_pay329 x0) (k5_pay358 x0) (k5_pay365 x0) (k5_pay366 x0) (k5_pay367 x0) = extractStridedSlice S32x128 ![0, 384] (net2048 x0 7 0).2 slices_S32x2048_o0_384_S32x128 := by
  rw [k5_pay365_eq, k5_pay366_eq]; rfl

theorem k5_pay371_eq (x0 : Vec F S32x2048 .f32) : k5_pay371 x0 = (net2048 x0 7 2).2 := by
  rw [k5_pay371, net2048_v562, net2048_v590, net2048_v592, net2048_v593, net2048_v594, k5_pay369_eq]; rfl

theorem k5_pay374_eq (x0 : Vec F S32x2048 .f32) : k5_pay374 x0 = select (cmpi .eq (andi pos2048 (broadcast S32x2048 32#32)) (broadcast S32x2048 0#32)) (dynamicRotate 1 2016#32 none (net2048 x0 7 2).1 rotates_S32x2048_d1) (dynamicRotate 1 32#32 none (net2048 x0 7 2).1 rotates_S32x2048_d1) := by
  rw [k5_pay374, k5_pay369_eq]; rfl

theorem k5_pay375_eq (x0 : Vec F S32x2048 .f32) : k5_pay375 x0 = (net2048 x0 7 5).1 := by
  rw [k5_pay375, k5_pay370_eq, k5_pay374_eq]; rfl

theorem k5_pay376_eq (x0 : Vec F S32x2048 .f32) : k5_pay376 x0 = (net2048 x0 7 7).1 := by
  rw [k5_pay376, k5_pay375_eq]; rfl

theorem k5_pay379_eq (x0 : Vec F S32x2048 .f32) : k5_pay379 x0 = (net2048 x0 8 1).1 := by
  rw [k5_pay379, k5_pay376_eq]; rfl

theorem k5_pay380_eq (x0 : Vec F S32x2048 .f32) : k5_pay380 x0 = (net2048 x0 8 2).1 := by
  rw [k5_pay380, k5_pay379_eq]; rfl

theorem k5_pay383_eq (x0 : Vec F S32x2048 .f32) : k5_pay383 x0 = dynamicRotate 1 1984#32 none (net2048 x0 8 2).1 rotates_S32x2048_d1 := by
  rw [k5_pay383, k5_pay379_eq]; rfl

theorem k5_pay384_eq (x0 : Vec F S32x2048 .f32) : k5_pay384 x0 = (net2048 x0 8 5).1 := by
  rw [k5_pay384, k5_pay380_eq, k5_pay383_eq]; rfl

theorem k5_pay385_eq (x0 : Vec F S32x2048 .f32) : k5_pay385 x0 = (net2048 x0 8 7).1 := by
  rw [k5_pay385, k5_pay384_eq]; rfl

theorem k5_pay386_eq (x0 : Vec F S32x2048 .f32) : k5_pay386 x0 = (net2048 x0 9 0).1 := by
  rw [k5_pay386, k5_pay385_eq]; rfl

theorem k5_pay388_eq (x0 : Vec F S32x2048 .f32) : k5_pay388 x0 = (net2048 x0 9 2).1 := by
  rw [k5_pay388, k5_pay386_eq]; rfl

theorem net2048_v666 (x0 : Vec F S32x2048 .f32) :
    k5_pay169 (k5_pay329 x0) (k5_pay368 x0) (k5_pay370 x0) (k5_pay371 x0) (k5_pay372 x0) (k5_pay373 x0) (k5_pay374 x0) = (net2048 x0 7 4).2 := by
  rw [k5_pay370_eq, k5_pay371_eq, k5_pay374_eq]; rfl

theorem net2048_v680 (x0 : Vec F S32x2048 .f32) :
    k5_pay172 (k5_pay329 x0) (k5_pay368 x0) (k5_pay370 x0) (k5_pay372 x0) (k5_pay374 x0) = xori (cmpf .ogt (net2048 x0 7 4).1 (select (cmpi .eq (andi pos2048 (broadcast S32x2048 8#32)) (broadcast S32x2048 0#32)) (dynamicRotate 1 2040#32 none (net2048 x0 7 4).1 rotates_S32x2048_d1) (dynamicRotate 1 8#32 none (net2048 x0 7 4).1 rotates_S32x2048_d1))) (xori (cmpi .eq (andi pos2048 (broadcast S32x2048 8#32)) (broadcast S32x2048 0#32)) (cmpi .eq (andi pos2048 (broadcast S32x2048 256#32)) (broadcast S32x2048 0#32))) := by
  rw [k5_pay370_eq, k5_pay374_eq]; rfl

theorem net2048_v682 (x0 : Vec F S32x2048 .f32) :
    k5_pay174 (k5_pay329 x0) (k5_pay368 x0) (k5_pay370 x0) (k5_pay371 x0) (k5_pay372 x0) (k5_pay373 x0) (k5_pay374 x0) = dynamicRotate 1 2040#32 none (net2048 x0 7 4).2 rotates_S32x2048_d1 := by
  rw [k5_pay370_eq, k5_pay371_eq, k5_pay374_eq]; rfl

theorem net2048_v723 (x0 : Vec F S32x2048 .f32) :
    k5_pay183 (k5_pay329 x0) (k5_pay368 x0) (k5_pay169 (k5_pay329 x0) (k5_pay368 x0) (k5_pay370 x0) (k5_pay371 x0) (k5_pay372 x0) (k5_pay373 x0) (k5_pay374 x0)) (k5_pay170 (k5_pay329 x0)) (k5_pay172 (k5_pay329 x0) (k5_pay368 x0) (k5_pay370 x0) (k5_pay372 x0) (k5_pay374 x0)) (k5_pay375 x0) (k5_pay174 (k5_pay329 x0) (k5_pay368 x0) (k5_pay370 x0) (k5_pay371 x0) (k5_pay372 x0) (k5_pay373 x0) (k5_pay374 x0)) 8#32 = (net2048 x0 7 7).2 := by
  rw [net2048_v666, net2048_v680, net2048_v682, k5_pay375_eq]; rfl

theorem net2048_v773 (x0 : Vec F S32x2048 .f32) :
    k5_pay193 (k5_pay329 x0) (k5_pay368 x0) (k5_pay376 x0) (k5_pay183 (k5_pay329 x0) (k5_pay368 x0) (k5_pay169 (k5_pay329 x0) (k5_pay368 x0) (k5_pay370 x0) (k5_pay371 x0) (k5_pay372 x0) (k5_pay373 x0) (k5_pay374 x0)) (k5_pay170 (k5_pay329 x0)) (k5_pay172 (k5_pay329 x0) (k5_pay368 x0) (k5_pay370 x0) (k5_pay372 x0) (k5_pay374 x0)) (k5_pay375 x0) (k5_pay174 (k5_pay329 x0) (k5_pay368 x0) (k5_pay370 x0) (k5_pay371 x0) (k5_pay372 x0) (k5_pay373 x0) (k5_pay374 x0)) 8#32) (k5_pay377 x0) = (net2048 x0 8 1).2 := by
  rw [net2048_v723, k5_pay376_eq]; rfl

theorem net2048_v816 (x0 : Vec F S32x2048 .f32) :
    k5_pay197 (k5_pay329 x0) (k5_pay378 x0) (k5_pay379 x0) (k5_pay193 (k5_pay329 x0) (k5_pay368 x0) (k5_pay376 x0) (k5_pay183 (k5_pay329 x0) (k5_pay368 x0) (k5_pay169 (k5_pay329 x0) (k5_pay368 x0) (k5_pay370 x0) (k5_pay371 x0) (k5_pay372 x0) (k5_pay373 x0) (k5_pay374 x0)) (k5_pay170 (k5_pay329 x0)) (k5_pay172 (k5_pay329 x0) (k5_pay368 x0) (k5_pay370 x0) (k5_pay372 x0) (k5_pay374 x0)) (k5_pay375 x0) (k5_pay174 (k5_pay329 x0) (k5_pay368 x0) (k5_pay370 x0) (k5_pay371 x0) (k5_pay372 x0) (k5_pay373 x0) (k5_pay374 x0)) 8#32) (k5_pay377 x0)) 128#32 = (net2048 x0 8 2).2 := by
  rw [net2048_v773, k5_pay379_eq]; rfl

theorem net2048_v854 (x0 : Vec F S32x2048 .f32) :
    k5_pay208 (k5_pay329 x0) (k5_pay378 x0) (k5_pay380 x0) (k5_pay197 (k5_pay329 x0) (k5_pay378 x0) (k5_pay379 x0) (k5_pay193 (k5_pay329 x0) (k5_pay368 x0) (k5_pay376 x0) (k5_pay183 (k5_pay329 x0) (k5_pay368 x0) (k5_pay169 (k5_pay329 x0) (k5_pay368 x0) (k5_pay370 x0) (k5_pay371 x0) (k5_pay372 x0) (k5_pay373 x0) (k5_pay374 x0)) (k5_pay170 (k5_pay329 x0)) (k5_pay172 (k5_pay329 x0) (k5_pay368 x0) (k5_pay370 x0) (k5_pay372 x0) (k5_pay374 x0)) (k5_pay375 x0) (k5_pay174 (k5_pay329 x0) (k5_pay368 x0) (k5_pay370 x0) (k5_pay371 x0) (k5_pay372 x0) (k5_pay373 x0) (k5_pay374 x0)) 8#32) (k5_pay377 x0)) 128#32) (k5_pay381 x0) (k5_pay382 x0) (k5_pay383 x0) 64#32 = (net2048 x0 8 4).2 := by
  rw [net2048_v816, k5_pay380_eq, k5_pay383_eq]; rfl

theorem net2048_v868 (x0 : Vec F S32x2048 .f32) :
    k5_pay211 (k5_pay329 x0) (k5_pay378 x0) (k5_pay380 x0) (k5_pay381 x0) (k5_pay382 x0) (k5_pay383 x0) 64#32 = xori (cmpf .ogt (net2048 x0 8 4).1 (select (cmpi .eq (andi pos2048 (broadcast S32x2048 16#32)) (broadcast S32x2048 0#32)) (dynamicRotate 1 2032#32 none (net2048 x0 8 4).1 rotates_S32x2048_d1) (dynamicRotate 1 16#32 none (net2048 x0 8 4).1 rotates_S32x2048_d1))) (xori (cmpi .eq (andi pos2048 (broadcast S32x2048 16#32)) (broadcast S32x2048 0#32)) (cmpi .eq (andi pos2048 (broadcast S32x2048 512#32)) (broadcast S32x2048 0#32))) := by
  rw [k5_pay380_eq, k5_pay383_eq]; rfl

theorem net2048_v911 (x0 : Vec F S32x2048 .f32) :
    k5_pay221 (k5_pay329 x0) (k5_pay378 x0) (k5_pay208 (k5_pay329 x0) (k5_pay378 x0) (k5_pay380 x0) (k5_pay197 (k5_pay329 x0) (k5_pay378 x0) (k5_pay379 x0) (k5_pay193 (k5_pay329 x0) (k5_pay368 x0) (k5_pay376 x0) (k5_pay183 (k5_pay329 x0) (k5_pay368 x0) (k5_pay169 (k5_pay329 x0) (k5_pay368 x0) (k5_pay370 x0) (k5_pay371 x0) (k5_pay372 x0) (k5_pay373 x0) (k5_pay374 x0)) (k5_pay170 (k5_pay329 x0)) (k5_pay172 (k5_pay329 x0) (k5_pay368 x0) (k5_pay370 x0) (k5_pay372 x0) (k5_pay374 x0)) (k5_pay375 x0) (k5_pay174 (k5_pay329 x0) (k5_pay368 x0) (k5_pay370 x0) (k5_pay371 x0) (k5_pay372 x0) (k5_pay373 x0) (k5_pay374 x0)) 8#32) (k5_pay377 x0)) 128#32) (k5_pay381 x0) (k5_pay382 x0) (k5_pay383 x0) 64#32) (k5_pay209 (k5_pay329 x0)) (k5_pay211 (k5_pay329 x0) (k5_pay378 x0) (k5_pay380 x0) (k5_pay381 x0) (k5_pay382 x0) (k5_pay383 x0) 64#32) (k5_pay384 x0) 2032#32 = (net2048 x0 8 7).2 := by
  rw [net2048_v854, net2048_v868, k5_pay384_eq]; rfl

theorem net2048_v949 (x0 : Vec F S32x2048 .f32) :
    k5_pay230 (k5_pay329 x0) (k5_pay378 x0) (k5_pay385 x0) (k5_pay221 (k5_pay329 x0) (k5_pay378 x0) (k5_pay208 (k5_pay329 x0) (k5_pay378 x0) (k5_pay380 x0) (k5_pay197 (k5_pay329 x0) (k5_pay378 x0) (k5_pay379 x0) (k5_pay193 (k5_pay329 x0) (k5_pay368 x0) (k5_pay376 x0) (k5_pay183 (k5_pay329 x0) (k5_pay368 x0) (k5_pay169 (k5_pay329 x0) (k5_pay368 x0) (k5_pay370 x0) (k5_pay371 x0) (k5_pay372 x0) (k5_pay373 x0) (k5_pay374 x0)) (k5_pay170 (k5_pay329 x0)) (k5_pay172 (k5_pay329 x0) (k5_pay368 x0) (k5_pay370 x0) (k5_pay372 x0) (k5_pay374 x0)) (k5_pay375 x0) (k5_pay174 (k5_pay329 x0) (k5_pay368 x0) (k5_pay370 x0) (k5_pay371 x0) (k5_pay372 x0) (k5_pay373 x0) (k5_pay374 x0)) 8#32) (k5_pay377 x0)) 128#32) (k5_pay381 x0) (k5_pay382 x0) (k5_pay383 x0) 64#32) (k5_pay209 (k5_pay329 x0)) (k5_pay211 (k5_pay329 x0) (k5_pay378 x0) (k5_pay380 x0) (k5_pay381 x0) (k5_pay382 x0) (k5_pay383 x0) 64#32) (k5_pay384 x0) 2032#32) 2#32 = (net2048 x0 9 0).2 := by
  rw [net2048_v911, k5_pay385_eq]; rfl

theorem k5_pay389_eq (x0 : Vec F S32x2048 .f32) : k5_pay389 x0 = (net2048 x0 9 2).2 := by
  rw [k5_pay389, net2048_v949, k5_pay386_eq]; rfl

theorem k5_pay391_eq (x0 : Vec F S32x2048 .f32) : k5_pay391 x0 = extractStridedSlice S32x128 ![0, 128] (net2048 x0 9 2).1 slices_S32x2048_o0_128_S32x128 := by
  rw [k5_pay391, k5_pay386_eq]; rfl

theorem k5_pay392_eq (x0 : Vec F S32x2048 .f32) : k5_pay392 x0 = extractStridedSlice S32x128 ![0, 0] (net2048 x0 9 2).1 slices_S32x2048_o0_0_S32x128 := by
  rw [k5_pay392, k5_pay386_eq]; rfl

theorem k5_pay393_eq (x0 : Vec F S32x2048 .f32) : k5_pay393 x0 = extractStridedSlice S32x128 ![0, 384] (net2048 x0 9 2).1 slices_S32x2048_o0_384_S32x128 := by
  rw [k5_pay393, k5_pay386_eq]; rfl

theorem k5_pay394_eq (x0 : Vec F S32x2048 .f32) : k5_pay394 x0 = extractStridedSlice S32x128 ![0, 256] (net2048 x0 9 2).1 slices_S32x2048_o0_256_S32x128 := by
  rw [k5_pay394, k5_pay386_eq]; rfl

theorem k5_pay395_eq (x0 : Vec F S32x2048 .f32) : k5_pay395 x0 = (net2048 x0 9 4).1 := by
  rw [k5_pay395, k5_pay388_eq, k5_pay391_eq, k5_pay392_eq, k5_pay393_eq, k5_pay394_eq]; rfl

theorem k5_pay396_eq (x0 : Vec F S32x2048 .f32) : k5_pay396 x0 = (net2048 x0 9 6).1 := by
  rw [k5_pay396, k5_pay395_eq]; rfl

theorem k5_pay399_eq (x0 : Vec F S32x2048 .f32) : k5_pay399 x0 = (net2048 x0 9 8).1 := by
  rw [k5_pay399, k5_pay396_eq]; rfl

theorem net2048_v1042 (x0 : Vec F S32x2048 .f32) :
    k5_pay247 (k5_pay388 x0) (k5_pay389 x0) (k5_pay390 x0) (k5_pay391 x0) (k5_pay392 x0) (k5_pay393 x0) (k5_pay394 x0) = (net2048 x0 9 3).2 := by
  rw [k5_pay388_eq, k5_pay389_eq, k5_pay391_eq, k5_pay392_eq, k5_pay393_eq, k5_pay394_eq]; rfl

theorem net2048_v1056 (x0 : Vec F S32x2048 .f32) :
    k5_pay250 (k5_pay329 x0) (k5_pay387 x0) (k5_pay388 x0) (k5_pay390 x0) (k5_pay391 x0) (k5_pay392 x0) (k5_pay393 x0) (k5_pay394 x0) = xori (cmpf .ogt (net2048 x0 9 3).1 (select (cmpi .eq (andi pos2048 (broadcast S32x2048 64#32)) (broadcast S32x2048 0#32)) (dynamicRotate 1 1984#32 none (net2048 x0 9 3).1 rotates_S32x2048_d1) (dynamicRotate 1 64#32 none (net2048 x0 9 3).1 rotates_S32x2048_d1))) (xori (cmpi .eq (andi pos2048 (broadcast S32x2048 64#32)) (broadcast S32x2048 0#32)) (cmpi .eq (andi pos2048 (broadcast S32x2048 1024#32)) (broadcast S32x2048 0#32))) := by
  rw [k5_pay388_eq, k5_pay391_eq, k5_pay392_eq, k5_pay393_eq, k5_pay394_eq]; rfl

theorem net2048_v1060 (x0 : Vec F S32x2048 .f32) :
    k5_pay252 (k5_pay329 x0) (k5_pay388 x0) (k5_pay389 x0) (k5_pay390 x0) (k5_pay391 x0) (k5_pay392 x0) (k5_pay393 x0) (k5_pay394 x0) = select (cmpi .eq (andi pos2048 (broadcast S32x2048 64#32)) (broadcast S32x2048 0#32)) (dynamicRotate 1 1984#32 none (net2048 x0 9 3).2 rotates_S32x2048_d1) (dynamicRotate 1 64#32 none (net2048 x0 9 3).2 rotates_S32x2048_d1) := by
  rw [k5_pay388_eq, k5_pay389_eq, k5_pay391_eq, k5_pay392_eq, k5_pay393_eq, k5_pay394_eq]; rfl

theorem net2048_v1099 (x0 : Vec F S32x2048 .f32) :
    k5_pay261 (k5_pay329 x0) (k5_pay387 x0) (k5_pay247 (k5_pay388 x0) (k5_pay389 x0) (k5_pay390 x0) (k5_pay391 x0) (k5_pay392 x0) (k5_pay393 x0) (k5_pay394 x0)) (k5_pay250 (k5_pay329 x0) (k5_pay387 x0) (k5_pay388 x0) (k5_pay390 x0) (k5_pay391 x0) (k5_pay392 x0) (k5_pay393 x0) (k5_pay394 x0)) (k5_pay395 x0) (k5_pay252 (k5_pay329 x0) (k5_pay388 x0) (k5_pay389 x0) (k5_pay390 x0) (k5_pay391 x0) (k5_pay392 x0) (k5_pay393 x0) (k5_pay394 x0)) = (net2048 x0 9 6).2 := by
  rw [net2048_v1042, net2048_v1056, net2048_v1060, k5_pay395_eq]; rfl

theorem k5_pay400_eq (x0 : Vec F S32x2048 .f32) : k5_pay400 x0 = (net2048 x0 9 8).2 := by
  rw [k5_pay400, net2048_v1099, k5_pay396_eq]; rfl

theorem k5_pay403_eq (x0 : Vec F S32x2048 .f32) : k5_pay403 x0 = (net2048 x0 10 1).1 := by
  rw [k5_pay403, k5_pay399_eq]; rfl

theorem k5_pay405_eq (x0 : Vec F S32x2048 .f32) : k5_pay405 x0 = (net2048 x0 10 3).1 := by
  rw [k5_pay405, k5_pay403_eq]; rfl

theorem k5_pay407_eq (x0 : Vec F S32x2048 .f32) : k5_pay407 x0 = (net2048 x0 10 4).1 := by
  rw [k5_pay407, k5_pay405_eq]; rfl

theorem net2048_v1175 (x0 : Vec F S32x2048 .f32) :
    k5_pay283 (k5_pay329 x0) (k5_pay387 x0) (k5_pay399 x0) (k5_pay400 x0) (k5_pay401 x0) (k5_pay402 x0) 0#32 = (net2048 x0 10 0).2 := by
  rw [k5_pay399_eq, k5_pay400_eq]; rfl

theorem net2048_v1185 (x0 : Vec F S32x2048 .f32) :
    k5_pay285 (k5_pay329 x0) (k5_pay387 x0) (k5_pay399 x0) (k5_pay401 x0) (k5_pay402 x0) 0#32 = xori (cmpf .ogt (net2048 x0 10 0).1 (concatenate S32x2048 1 [⟨S32x1024, (extractStridedSlice S32x1024 ![0, 1024] (net2048 x0 10 0).1 slices_S32x2048_o0_1024_S32x1024)⟩, ⟨S32x1024, (extractStridedSlice S32x1024 ![0, 0] (net2048 x0 10 0).1 slices_S32x2048_o0_0_S32x1024)⟩] concatenates_S32x1024_S32x1024_S32x2048_d1)) (xori (cmpi .eq (andi pos2048 (broadcast S32x2048 1024#32)) (broadcast S32x2048 0#32)) (constantI S32x2048 1 1#1)) := by
  rw [k5_pay399_eq]; rfl

theorem net2048_v1189 (x0 : Vec F S32x2048 .f32) :
    k5_pay287 (k5_pay329 x0) (k5_pay387 x0) (k5_pay399 x0) (k5_pay400 x0) (k5_pay401 x0) (k5_pay402 x0) 0#32 = concatenate S32x2048 1 [⟨S32x1024, (extractStridedSlice S32x1024 ![0, 1024] (net2048 x0 10 0).2 slices_S32x2048_o0_1024_S32x1024)⟩, ⟨S32x1024, (extractStridedSlice S32x1024 ![0, 0] (net2048 x0 10 0).2 slices_S32x2048_o0_0_S32x1024)⟩] concatenates_S32x1024_S32x1024_S32x2048_d1 := by
  rw [k5_pay399_eq, k5_pay400_eq]; rfl

set_option maxHeartbeats 4000000 in
theorem net2048_v1236 (x0 : Vec F S32x2048 .f32) :
    k5_pay294 (k5_pay329 x0) (k5_pay283 (k5_pay329 x0) (k5_pay387 x0) (k5_pay399 x0) (k5_pay400 x0) (k5_pay401 x0) (k5_pay402 x0) 0#32) (k5_pay285 (k5_pay329 x0) (k5_pay387 x0) (k5_pay399 x0) (k5_pay401 x0) (k5_pay402 x0) 0#32) (k5_pay403 x0) (k5_pay287 (k5_pay329 x0) (k5_pay387 x0) (k5_pay399 x0) (k5_pay400 x0) (k5_pay401 x0) (k5_pay402 x0) 0#32) = (net2048 x0 10 3).2 := by
  rw [net2048_v1175, net2048_v1185, net2048_v1189, k5_pay403_eq]; rfl

theorem k5_pay408_eq (x0 : Vec F S32x2048 .f32) : k5_pay408 x0 = (net2048 x0 10 4).2 := by
  rw [k5_pay408, net2048_v1236, k5_pay405_eq]; rfl

theorem k5_pay410_eq (x0 : Vec F S32x2048 .f32) : k5_pay410 x0 = select (cmpi .eq (andi pos2048 (broadcast S32x2048 64#32)) (broadcast S32x2048 0#32)) (dynamicRotate 1 1984#32 none (net2048 x0 10 4).1 rotates_S32x2048_d1) (dynamicRotate 1 64#32 none (net2048 x0 10 4).1 rotates_S32x2048_d1) := by
  rw [k5_pay410, k5_pay405_eq]; rfl

theorem k5_pay411_eq (x0 : Vec F S32x2048 .f32) : k5_pay411 x0 = xori (cmpf .ogt (net2048 x0 10 4).1 (select (cmpi .eq (andi pos2048 (broadcast S32x2048 64#32)) (broadcast S32x2048 0#32)) (dynamicRotate 1 1984#32 none (net2048 x0 10 4).1 rotates_S32x2048_d1) (dynamicRotate 1 64#32 none (net2048 x0 10 4).1 rotates_S32x2048_d1))) (xori (cmpi .eq (andi pos2048 (broadcast S32x2048 64#32)) (broadcast S32x2048 0#32)) (constantI S32x2048 1 1#1)) := by
  rw [k5_pay411, k5_pay405_eq]; rfl

theorem k5_pay412_eq (x0 : Vec F S32x2048 .f32) : k5_pay412 x0 = (net2048 x0 10 7).1 := by
  rw [k5_pay412, k5_pay407_eq, k5_pay410_eq, k5_pay411_eq]; rfl

theorem k5_pay413_eq (x0 : Vec F S32x2048 .f32) : k5_pay413 x0 = (net2048 x0 10 9).1 := by
  rw [k5_pay413, k5_pay412_eq]; rfl

theorem net2048_v1389 (x0 : Vec F S32x2048 .f32) :
    k5_pay326 (k5_pay329 x0) (k5_pay413 x0) 2#32 = (net2048 x0 10 10).1 := by
  rw [k5_pay413_eq]; rfl

theorem net2048_v1317 (x0 : Vec F S32x2048 .f32) :
    k5_pay308 (k5_pay329 x0) (k5_pay407 x0) (k5_pay408 x0) (k5_pay409 x0) (k5_pay410 x0) (k5_pay411 x0) = (net2048 x0 10 6).2 := by
  rw [k5_pay407_eq, k5_pay408_eq, k5_pay410_eq, k5_pay411_eq]; rfl

theorem net2048_v1331 (x0 : Vec F S32x2048 .f32) :
    k5_pay311 (k5_pay329 x0) (k5_pay407 x0) (k5_pay410 x0) (k5_pay411 x0) = xori (cmpf .ogt (net2048 x0 10 6).1 (select (cmpi .eq (andi pos2048 (broadcast S32x2048 16#32)) (broadcast S32x2048 0#32)) (dynamicRotate 1 2032#32 none (net2048 x0 10 6).1 rotates_S32x2048_d1) (dynamicRotate 1 16#32 none (net2048 x0 10 6).1 rotates_S32x2048_d1))) (xori (cmpi .eq (andi pos2048 (broadcast S32x2048 16#32)) (broadcast S32x2048 0#32)) (constantI S32x2048 1 1#1)) := by
  rw [k5_pay407_eq, k5_pay410_eq, k5_pay411_eq]; rfl

theorem net2048_v1333 (x0 : Vec F S32x2048 .f32) :
    k5_pay313 (k5_pay329 x0) (k5_pay407 x0) (k5_pay408 x0) (k5_pay409 x0) (k5_pay410 x0) (k5_pay411 x0) = dynamicRotate 1 2032#32 none (net2048 x0 10 6).2 rotates_S32x2048_d1 := by
  rw [k5_pay407_eq, k5_pay408_eq, k5_pay410_eq, k5_pay411_eq]; rfl

theorem net2048_v1374 (x0 : Vec F S32x2048 .f32) :
    k5_pay322 (k5_pay329 x0) (k5_pay308 (k5_pay329 x0) (k5_pay407 x0) (k5_pay408 x0) (k5_pay409 x0) (k5_pay410 x0) (k5_pay411 x0)) (k5_pay309 (k5_pay329 x0)) (k5_pay311 (k5_pay329 x0) (k5_pay407 x0) (k5_pay410 x0) (k5_pay411 x0)) (k5_pay412 x0) (k5_pay313 (k5_pay329 x0) (k5_pay407 x0) (k5_pay408 x0) (k5_pay409 x0) (k5_pay410 x0) (k5_pay411 x0)) 16#32 = (net2048 x0 10 9).2 := by
  rw [net2048_v1317, net2048_v1331, net2048_v1333, k5_pay412_eq]; rfl

theorem net2048_v1393 (x0 : Vec F S32x2048 .f32) :
    k5_pay327 (k5_pay329 x0) (k5_pay413 x0) (k5_pay322 (k5_pay329 x0) (k5_pay308 (k5_pay329 x0) (k5_pay407 x0) (k5_pay408 x0) (k5_pay409 x0) (k5_pay410 x0) (k5_pay411 x0)) (k5_pay309 (k5_pay329 x0)) (k5_pay311 (k5_pay329 x0) (k5_pay407 x0) (k5_pay410 x0) (k5_pay411 x0)) (k5_pay412 x0) (k5_pay313 (k5_pay329 x0) (k5_pay407 x0) (k5_pay408 x0) (k5_pay409 x0) (k5_pay410 x0) (k5_pay411 x0)) 16#32) 2#32 = (net2048 x0 10 10).2 := by
  rw [net2048_v1374, k5_pay413_eq]; rfl

/-- The stored block: the positions after the last stage. -/
theorem out5_eq (x0 : Vec F S32x2048 .f32) : out5_1 x0 = View.canon [⟨r5_0, (net2048 x0 11 0).2⟩] := by
  rw [out5_1, net2048_v1389, net2048_v1393]; rfl

end Cert.KernelIdeal.Sorting
-- ==== Proof.Network.lean ====
/-
  What the network of compare-exchange stages leaves along one row: the row's keys in decreasing order and, beside each key, the
  position it came from.
-/
module

public import Idealize.ShloMosaic.PureOps.Ideal.Laws
public import Idealize.ShloMosaic.Lib.SortNet.Printed
public import Idealize.ShloMosaic.Lib.SortNet.Sorts
public import Idealize.ShloMosaic.Lib.Pipeline.Value
public import proofs.«01_k».proof.Proof.Stage

@[expose] public section

noncomputable section

namespace Cert.KernelIdeal.Sorting

open Idealize.ShloMosaic Idealize.ShloMosaic.SortNet

variable {S : Shape} {a : Fin S.rank} {p : Nat}

/-- A partner function reads, along a column, the entry whose position differs in bit `s`. -/
def ReadsPartner (C : Column S a p) (P : Partner S) (s : Nat) : Prop :=
  ∀ (α : Type) (x : S.Idx → α) (i : Fin (2 ^ p)), P α x (C.col i) = x (C.col (partner p s i))

/-- "Bit `s` of the position is clear", read on a column. -/
theorem clearMask_apply (C : Column S a p) (hp : p ≤ 31) (pos : IVec S 32) (hpos : ∀ i, pos (C.col i) = BitVec.ofNat 32 i.val)
    (s : Nat) (hs : s ≤ 31) (i : Fin (2 ^ p)) :
    clearMask pos (BitVec.ofNat 32 (2 ^ s)) (C.col i) = BitVec.ofBool (decide (i.val &&& 2 ^ s = 0)) := by
  have hi : i.val < 2 ^ 32 := Nat.lt_of_lt_of_le i.isLt (Nat.pow_le_pow_right (by decide) (by omega))
  have hd : (BitVec.ofNat 32 (2 ^ s)).toNat = 2 ^ s := by
    rw [BitVec.toNat_ofNat]; exact Nat.mod_eq_of_lt (Nat.pow_lt_pow_right (by decide) (by omega))
  show BitVec.ofBool (IntOp.andi (pos (C.col i)) (BitVec.ofNat 32 (2 ^ s)) == 0#32) = _
  rw [hpos]
  congr 1
  rw [Bool.eq_iff_iff, beq_iff_eq, decide_eq_true_eq, and_distance_eq_zero_iff hi _ hd]

/-- The two rotations and the select read the partner. -/
theorem rollPartner_reads (C : Column S a p) (hp : p ≤ 31) (hr : S.Rotates a none) (pos : IVec S 32)
    (hpos : ∀ i, pos (C.col i) = BitVec.ofNat 32 i.val) (s : Nat) (hs : s < p) :
    ReadsPartner C (rollPartner a hr pos (BitVec.ofNat 32 (2 ^ s)) (BitVec.ofNat 32 (2 ^ p - 2 ^ s))) s := by
  intro α x i
  have hlt : 2 ^ s < 2 ^ p := Nat.pow_lt_pow_right (by decide) hs
  have hle : 2 ^ p ≤ 2 ^ 31 := Nat.pow_le_pow_right (by decide) hp
  have hd : (BitVec.ofNat 32 (2 ^ s)).toNat = 2 ^ s := by
    rw [BitVec.toNat_ofNat]; exact Nat.mod_eq_of_lt (by omega)
  have hnd : (BitVec.ofNat 32 (2 ^ p - 2 ^ s)).toNat = 2 ^ p - 2 ^ s := by
    rw [BitVec.toNat_ofNat]; exact Nat.mod_eq_of_lt (by omega)
  show Scalar.select (clearMask pos (BitVec.ofNat 32 (2 ^ s)) (C.col i)) _ _ = _
  rw [clearMask_apply C hp pos hpos s (by omega), select_ofBool]
  by_cases h : i.val &&& 2 ^ s = 0
  · rw [decide_eq_true h, if_pos rfl]; exact C.rotate_of_clear hs _ hnd x hr i h
  · rw [decide_eq_false h, if_neg Bool.false_ne_true]; exact C.rotate_of_set hs _ hd x hr i h

/-- The direction of level `l`: blocks of `2 ^ (l + 1)` positions are sorted downwards where their number is even. -/
def direction (p l : Nat) (i : Fin (2 ^ p)) : Bool := decide (i.val &&& 2 ^ (l + 1) = 0) == true

/-- A stage's mask, read on a column: the negation of "the position has bit `s` set, exclusive-or the level's direction". -/
theorem stageMask_apply (C : Column S a p) (hp : p ≤ 31) (pos : IVec S 32) (hpos : ∀ i, pos (C.col i) = BitVec.ofNat 32 i.val)
    (l s : Nat) (hl : l < p) (hs : s ≤ l) (i : Fin (2 ^ p)) :
    stageMask pos p l s (C.col i) = BitVec.ofBool (!upperXor s (direction p l) i) := by
  unfold stageMask
  by_cases h : l + 1 < p
  · rw [if_pos h, xori_apply_ofBool _ _ _ _ _ (clearMask_apply C hp pos hpos s (by omega) i)
      (clearMask_apply C hp pos hpos (l + 1) (by omega) i)]
    unfold upperXor direction
    by_cases h1 : i.val &&& 2 ^ s = 0 <;> by_cases h2 : i.val &&& 2 ^ (l + 1) = 0 <;> simp [h1, h2]
  · rw [if_neg h, xori_one_apply _ _ _ (clearMask_apply C hp pos hpos s (by omega) i)]
    have h2 : i.val &&& 2 ^ (l + 1) = 0 := by
      have hlp : l + 1 = p := by omega
      rw [hlp, and_two_pow_eq_zero_iff_testBit]
      exact Nat.testBit_lt_two_pow i.isLt
    unfold upperXor direction
    by_cases h1 : i.val &&& 2 ^ s = 0 <;> simp [h1, h2]

/-- Along the column: the keys are the network's result on `k0`, and each position word names an entry of `k0` with that key. -/
def Tracks (C : Column S a p) (N : Network (2 ^ p)) (k0 : Fin (2 ^ p) → EReal) (st : FVec Ideal S .f32 × IVec S 32) : Prop :=
  ∃ src : Fin (2 ^ p) → Fin (2 ^ p), ∀ i,
    st.1 (C.col i) = Network.apply N k0 i ∧ st.1 (C.col i) = k0 (src i) ∧ st.2 (C.col i) = BitVec.ofNat 32 (src i).val

/-- One stage appends the network's stage. -/
theorem exchange_tracks (C : Column S a p) (l s : Nat) (hl : l < p) (hs : s ≤ l) (P : Partner S) (hP : ReadsPartner C P s)
    (mask : IVec S 1) (hmask : ∀ i, mask (C.col i) = BitVec.ofBool (!upperXor s (direction p l) i))
    (N : Network (2 ^ p)) (k0 : Fin (2 ^ p) → EReal) (st : FVec Ideal S .f32 × IVec S 32) (h : Tracks C N k0 st) :
    Tracks C (N ++ stage p s (direction p l)) k0 (exchange P mask st) := by
  obtain ⟨src, h⟩ := h
  let keep := upperXor s (direction p l)
  have hkeep : ∀ j, keep (partner p s j) = !keep j := fun j =>
    upperXor_partner (by omega) _ j (sizeClear_partner (by omega) hs true j)
  have hsel : ∀ (α : Type) (x : S.Idx → α) i, select (xori (cmpf .ogt st.1 (P _ st.1)) mask) x (P _ x) (C.col i)
      = x (C.col (stageSrc p s keep (fun j => (st.1 (C.col j) : EReal)) i)) := by
    intro α x i
    rw [select_apply, hP α x i]
    show Scalar.select (IntOp.xori (BitVec.ofBool (decide ((P (Ideal .f32) st.1 (C.col i) : EReal) < st.1 (C.col i)))) (mask (C.col i))) _ _ = _
    rw [hmask, ofBool_xor, select_ofBool, hP]
    unfold stageSrc
    dsimp only
    generalize decide ((st.1 (C.col (partner p s i)) : EReal) < st.1 (C.col i)) = b
    show (if (b ^^ !keep i) = true then _ else _) = x (C.col (if b = keep i then i else partner p s i))
    generalize keep i = b'
    cases b <;> cases b' <;> rfl
  refine ⟨src ∘ stageSrc p s keep (fun j => (st.1 (C.col j) : EReal)), fun i => ?_⟩
  have e1 := hsel _ st.1 i
  have e2 := hsel _ st.2 i
  refine ⟨?_, ?_, ?_⟩
  · show select _ _ _ _ = _
    rw [e1, Network.apply_append, ← stage_upperXor,
      show Network.apply N k0 = fun j => (st.1 (C.col j) : EReal) from funext fun j => ((h j).1).symm]
    exact (apply_stage_src (by omega) keep hkeep (fun j => (st.1 (C.col j) : EReal)) i).symm
  · show select _ _ _ _ = _
    rw [e1]; exact (h _).2.1
  · show select _ _ _ _ = _
    rw [e2]; exact (h _).2.2

/-- The stages of level `l` after its first `k`. -/
def levelNet (p l : Nat) : Nat → Network (2 ^ p)
  | 0 => []
  | k + 1 => levelNet p l k ++ stage p (l - k) (direction p l)

/-- The stages of levels `0 … l - 1` and of the first `k` stages of level `l`. -/
def partNet (p : Nat) : Nat → Nat → Network (2 ^ p)
  | 0, k => levelNet p 0 k
  | l + 1, k => partNet p l (l + 1) ++ levelNet p (l + 1) k

theorem levelNet_eq (p l k : Nat) : levelNet p l k = (List.range k).flatMap fun j => stage p (l - j) (direction p l) := by
  induction k with
  | zero => rfl
  | succ k ih => rw [levelNet, ih, List.range_succ, List.flatMap_append, List.flatMap_singleton]

theorem levelNet_full (p l : Nat) :
    levelNet p l (l + 1) = (List.range (l + 1)).reverse.flatMap fun s => stage p s (direction p l) := by
  rw [levelNet_eq]
  have : (List.range (l + 1)).reverse = (List.range (l + 1)).map (l - ·) := by
    apply List.ext_getElem
    · simp
    · intro n h1 h2
      simp
  rw [this, List.flatMap_map]

theorem partNet_range (p l : Nat) : partNet p l (l + 1)
    = (List.range (l + 1)).flatMap fun l => (List.range (l + 1)).reverse.flatMap fun s => stage p s (direction p l) := by
  induction l with
  | zero => rw [partNet, levelNet_full]; simp
  | succ l ih =>
    rw [partNet, ih, levelNet_full]
    conv_rhs => rw [List.range_succ, List.flatMap_append, List.flatMap_singleton]

/-- All levels together are the library's descending bitonic sort. -/
theorem partNet_all (p : Nat) (hp : 0 < p) : partNet p p 0 = sortNet p true := by
  obtain ⟨q, rfl⟩ : ∃ q, p = q + 1 := ⟨p - 1, by omega⟩
  rw [partNet, partNet_range, levelNet, List.append_nil]; rfl

theorem runLevel_tracks (C : Column S a p) (hp : p ≤ 31) (P : Nat → Partner S) (hP : ∀ s < p, ReadsPartner C (P s) s) (pos : IVec S 32)
    (hpos : ∀ i, pos (C.col i) = BitVec.ofNat 32 i.val) (k0 : Fin (2 ^ p) → EReal) (l : Nat) (hl : l < p) (N : Network (2 ^ p))
    (st : FVec Ideal S .f32 × IVec S 32) (h : Tracks C N k0 st) (k : Nat) :
    Tracks C (N ++ levelNet p l k) k0 (runLevel P pos p l st k) := by
  induction k with
  | zero => rw [levelNet, List.append_nil]; exact h
  | succ k ih =>
    rw [levelNet, ← List.append_assoc, runLevel]
    exact exchange_tracks C l (l - k) hl (Nat.sub_le _ _) _ (hP _ (by omega)) _
      (stageMask_apply C hp pos hpos l (l - k) hl (Nat.sub_le _ _)) _ _ _ ih

theorem runSort_tracks (C : Column S a p) (hp : p ≤ 31) (P : Nat → Partner S) (hP : ∀ s < p, ReadsPartner C (P s) s) (pos : IVec S 32)
    (hpos : ∀ i, pos (C.col i) = BitVec.ofNat 32 i.val) (key : FVec Ideal S .f32) (l : Nat) (k : Nat) (hl : l < p ∨ k = 0 ∧ l ≤ p)
    (hp0 : 0 < p) :
    Tracks C (partNet p l k) (fun i => key (C.col i)) (runSort P pos p (key, pos) l k) := by
  have h0 : Tracks C [] (fun i => key (C.col i)) (key, pos) := ⟨id, fun i => ⟨rfl, rfl, hpos i⟩⟩
  induction l generalizing k with
  | zero =>
    have := runLevel_tracks C hp P hP pos hpos _ 0 hp0 [] _ h0 k
    rwa [List.nil_append] at this
  | succ l ih =>
    rw [partNet, runSort]
    have h1 := ih (l + 1) (by omega)
    rcases hl with hl | ⟨rfl, -⟩
    · exact runLevel_tracks C hp P hP pos hpos _ (l + 1) hl _ _ h1 k
    · rw [levelNet, List.append_nil]; exact h1

/-- The whole network on keys that differ along the column: the position words name a rearrangement of the column in which the keys
    strictly decrease. -/
theorem runSort_positions (C : Column S a p) (hp : p ≤ 31) (hp0 : 0 < p) (P : Nat → Partner S) (hP : ∀ s < p, ReadsPartner C (P s) s)
    (pos : IVec S 32) (hpos : ∀ i, pos (C.col i) = BitVec.ofNat 32 i.val) (key : FVec Ideal S .f32)
    (hinj : Function.Injective fun i => (key (C.col i) : EReal)) :
    ∃ σ : Equiv.Perm (Fin (2 ^ p)), StrictAnti (fun i => (key (C.col (σ i)) : EReal)) ∧
      ∀ i, (runSort P pos p (key, pos) p 0).2 (C.col i) = BitVec.ofNat 32 (σ i).val := by
  obtain ⟨src, h⟩ := runSort_tracks C hp P hP pos hpos key p 0 (.inr ⟨rfl, le_rfl⟩) hp0
  rw [partNet_all p hp0] at h
  obtain ⟨σ, hσ⟩ := Network.exists_perm (sortNet p true) (fun i => (key (C.col i) : EReal))
  have hanti := sortNet_apply_antitone p (fun i => (key (C.col i) : EReal))
  have hsrc : ∀ i, src i = σ i := fun i => hinj (by
    have h1 := (h i).1.symm.trans (h i).2.1
    rw [hσ] at h1
    exact h1.symm)
  rw [hσ] at hanti
  refine ⟨σ, hanti.strictAnti_of_injective (hinj.comp σ.injective), fun i => ?_⟩
  rw [(h i).2.2, hsrc]

/-- Two arrangements of the same keys in strictly decreasing order are the same. -/
theorem arrangement_unique {n : Nat} (K : Fin n → EReal) (g h : Fin n → Fin n) (hg : StrictAnti fun j => K (g j))
    (hh : StrictAnti fun j => K (h j)) : g = h := by
  have ig : Function.Injective g := fun a b e => hg.injective (congrArg K e)
  have ih : Function.Injective h := fun a b e => hh.injective (congrArg K e)
  have sg : Function.Surjective g := Finite.injective_iff_surjective.mp ig
  have sh : Function.Surjective h := Finite.injective_iff_surjective.mp ih
  have iK : Function.Injective K := fun a b e => by
    obtain ⟨a', rfl⟩ := sg a
    obtain ⟨b', rfl⟩ := sg b
    exact congrArg g (hg.injective e)
  have e : (fun j => OrderDual.toDual (K (g j))) = fun j => OrderDual.toDual (K (h j)) := by
    have mg : StrictMono fun j => OrderDual.toDual (K (g j)) := fun a b hab => hg hab
    have mh : StrictMono fun j => OrderDual.toDual (K (h j)) := fun a b hab => hh hab
    refine (StrictMono.range_inj mg mh).mp ?_
    ext x
    constructor
    · rintro ⟨j, rfl⟩
      obtain ⟨j', e⟩ := sh (g j)
      exact ⟨j', by dsimp only; rw [e]⟩
    · rintro ⟨j, rfl⟩
      obtain ⟨j', e⟩ := sg (h j)
      exact ⟨j', by dsimp only; rw [e]⟩
  funext j
  exact iK (congrFun e j)

/-- The whole network on keys that some arrangement `g` puts in strictly decreasing order: the position words are `g`. -/
theorem runSort_arranges (C : Column S a p) (hp : p ≤ 31) (hp0 : 0 < p) (P : Nat → Partner S) (hP : ∀ s < p, ReadsPartner C (P s) s)
    (pos : IVec S 32) (hpos : ∀ i, pos (C.col i) = BitVec.ofNat 32 i.val) (key : FVec Ideal S .f32)
    (g : Fin (2 ^ p) → Fin (2 ^ p)) (hg : StrictAnti fun i => (key (C.col (g i)) : EReal)) (i : Fin (2 ^ p)) :
    (runSort P pos p (key, pos) p 0).2 (C.col i) = BitVec.ofNat 32 (g i).val := by
  have ig : Function.Injective g := fun a b e => hg.injective (show key (C.col (g a)) = key (C.col (g b)) by rw [e])
  have sg : Function.Surjective g := Finite.injective_iff_surjective.mp ig
  have hinj : Function.Injective fun i => (key (C.col i) : EReal) := fun a b e => by
    obtain ⟨a', rfl⟩ := sg a
    obtain ⟨b', rfl⟩ := sg b
    exact congrArg g (hg.injective e)
  obtain ⟨σ, h1, h2⟩ := runSort_positions C hp hp0 P hP pos hpos key hinj
  rw [h2, arrangement_unique (fun i => (key (C.col i) : EReal)) g σ hg h1]

/-! ### Rows of a block -/

/-- Row `r` of an `R × 2 ^ p` block, as a column of positions. -/
def row (R p : Nat) (r : Fin R) : Column (⟨2, ![R, 2 ^ p]⟩ : Shape) 1 p where
  col i := fun b => match b with
    | ⟨0, _⟩ => r
    | ⟨1, _⟩ => i
  size_eq := rfl
  coord _ := rfl
  other _ _ b hb := by
    match b, hb with
    | ⟨0, _⟩, _ => rfl
    | ⟨1, _⟩, hb => exact absurd rfl hb

/-- A concatenation of the blocks of `2 ^ s` columns in which block `n` is block `n ^ 1` of the operand reads the partner. -/
theorem swap_reads (R p s : Nat) (r : Fin R) (hs : s < p) (α : Type) (x : (⟨2, ![R, 2 ^ p]⟩ : Shape).Idx → α)
    (xs : List ((t : Shape) × (t.Idx → α))) (h : Shape.Concatenates (xs.map (·.1)) (⟨2, ![R, 2 ^ p]⟩ : Shape) 1)
    (hlen : xs.length = 2 ^ (p - s))
    (hxs : ∀ n (hn : n < xs.length), ∃ hsl : Shape.Slices (⟨2, ![R, 2 ^ p]⟩ : Shape) ![0, (n ^^^ 1) * 2 ^ s] ⟨2, ![R, 2 ^ s]⟩,
      xs[n] = ⟨⟨2, ![R, 2 ^ s]⟩, extractStridedSlice ⟨2, ![R, 2 ^ s]⟩ ![0, (n ^^^ 1) * 2 ^ s] x hsl⟩) (i : Fin (2 ^ p)) :
    concatenate ⟨2, ![R, 2 ^ p]⟩ 1 xs h ((row R p r).col i) = x ((row R p r).col (partner p s i)) := by
  have hpos : 0 < 2 ^ s := Nat.two_pow_pos s
  have hn : i.val / 2 ^ s < xs.length := by
    rw [hlen, Nat.div_lt_iff_lt_mul hpos, ← Nat.pow_add, Nat.sub_add_cancel (by omega)]; exact i.isLt
  obtain ⟨hsl, e⟩ := hxs (i.val / 2 ^ s) hn
  have hmod : i.val % 2 ^ s < 2 ^ s := Nat.mod_lt _ hpos
  let y : (⟨2, ![R, 2 ^ s]⟩ : Shape).Idx := fun b => match b with
    | ⟨0, _⟩ => r
    | ⟨1, _⟩ => ⟨i.val % 2 ^ s, hmod⟩
  rw [concatenate_apply_piece 1 xs h ((row R p r).col i) (i.val / 2 ^ s) hn _ _ e rfl (i.val / 2 ^ s * 2 ^ s) ?_ y ?_ ?_]
  · show x _ = x _
    congr 1
    funext b
    match b with
    | ⟨0, _⟩ => exact Fin.ext (Nat.zero_add _)
    | ⟨1, _⟩ =>
      apply Fin.ext
      show (i.val / 2 ^ s ^^^ 1) * 2 ^ s + i.val % 2 ^ s = (partner p s i).val
      rw [partner_val hs]
      apply Nat.eq_of_testBit_eq
      intro u
      rw [Nat.mul_comm, Nat.testBit_two_pow_mul_add _ hmod, Nat.testBit_xor, Nat.testBit_xor, Nat.testBit_two_pow, Nat.testBit_mod_two_pow]
      by_cases hu : u < s
      · rw [if_pos hu]; have : ¬ s = u := by omega
        simp [hu, this]
      · rw [if_neg hu, Nat.testBit_div_two_pow, Nat.sub_add_cancel (by omega)]
        congr 1
        rw [show (1 : Nat) = 2 ^ 0 from rfl, Nat.testBit_two_pow]
        by_cases hus : s = u
        · subst hus; simp
        · have h1 : ¬ 0 = u - s := by omega
          rw [decide_eq_false hus, decide_eq_false h1]
  · have hall : ∀ k (hk : k ≤ xs.length), (((xs.take k).map (·.1)).map fun t : Shape =>
        if h : t.rank = (⟨2, ![R, 2 ^ p]⟩ : Shape).rank then t.size ((1 : Fin (⟨2, ![R, 2 ^ p]⟩ : Shape).rank).cast h.symm) else 0).sum
        = k * 2 ^ s := by
      intro k
      induction k with
      | zero => intro _; simp
      | succ k ih =>
        intro hk
        obtain ⟨_, ek⟩ := hxs k (by omega)
        rw [List.take_succ_eq_append_getElem (by omega), List.map_append, List.map_append, List.sum_append, ih (by omega), ek, Nat.succ_mul]
        rfl
    exact hall _ hn.le
  · intro b hb
    match b, hb with
    | ⟨0, _⟩, _ => rfl
    | ⟨1, _⟩, hb => exact absurd rfl hb
  · show i.val / 2 ^ s * 2 ^ s + i.val % 2 ^ s = i.val
    exact Nat.div_add_mod' _ _

end Cert.KernelIdeal.Sorting
-- ==== Proof.Rows.lean ====
/-
  What each sorting body stores, row by row: where some arrangement puts a row's keys in strictly decreasing order, the row stored is
  that arrangement.
-/
module

public import proofs.«01_k».proof.Proof.Nodes
public import proofs.«01_k».proof.Proof.Network
public import Idealize.ShloMosaic.Lib.Pipeline.ValueKit

@[expose] public section

set_option maxRecDepth 16384

noncomputable section

namespace Cert.KernelIdeal.Sorting

open Idealize.ShloMosaic Idealize.ShloMosaic.SortNet Cert.KernelIdeal.Gen Cert.KernelIdeal

/-! ### Width 256 -/

theorem swap256_128_reads (r : Fin 64) : ReadsPartner (row 64 8 r) (fun _ x => swap256_128 x) 7 := fun α x i => by
  show swap256_128 x _ = _
  unfold swap256_128
  refine swap_reads 64 8 7 r (by decide) α x _ _ rfl (fun n hn => ?_) i
  have hn' : n < 2 := hn
  interval_cases n <;> exact ⟨_, rfl⟩

/-- Every partner function of this width reads the partner. -/
theorem partner256_reads (r : Fin 64) (s : Nat) (hs : s < 8) : ReadsPartner (row 64 8 r) (partner256 s) s := by
  unfold partner256
  by_cases h : s < 7
  · rw [if_pos h]
    exact rollPartner_reads (row 64 8 r) (by decide) rotates_S64x256_d1 pos256 (fun i => (row 64 8 r).iota_apply .tc iota_S64x256_d1_w32 i) s hs
  · rw [if_neg h]
    interval_cases s
    · exact swap256_128_reads r

/-- The stored row is the arrangement that puts the row's keys in strictly decreasing order. -/
theorem out2_arranges (x0 : Vec Ideal S64x256 .f32) (r : Fin 64) (g : Fin 256 → Fin 256)
    (hg : StrictAnti fun j => (x0 ((row 64 8 r).col (g j)) : EReal)) (j : Fin 256) :
    out2_1 x0 ((row 64 8 r).col j) = BitVec.ofNat 32 (g j).val := by
  rw [out2_eq]
  have e1 : View.canon [(⟨r2_0, (net256 x0 8 0).2⟩ : View.Piece (Elt Ideal) S64x256 .i32)] = (net256 x0 8 0).2 :=
    View.canon_cons_unit_lit inb_S64x256_S64x256_0_0 _ _ (by decide)
  have e2 : View.ld x0 r2_0 = x0 := View.ld_unit_lit inb_S64x256_S64x256_0_0 x0 (by decide)
  rw [e1]
  have e3 : shapeCast S64x256 x0 shapeCasts_S64x256_S64x256 = x0 := shapeCast_self _ _
  unfold net256
  rw [e2, e3]
  exact runSort_arranges (row 64 8 r) (by decide) (by decide) partner256 (partner256_reads r) pos256
    (fun i => (row 64 8 r).iota_apply .tc iota_S64x256_d1_w32 i) x0 g hg j

/-! ### Width 512 -/

theorem swap512_128_reads (r : Fin 64) : ReadsPartner (row 64 9 r) (fun _ x => swap512_128 x) 7 := fun α x i => by
  show swap512_128 x _ = _
  unfold swap512_128
  refine swap_reads 64 9 7 r (by decide) α x _ _ rfl (fun n hn => ?_) i
  have hn' : n < 4 := hn
  interval_cases n <;> exact ⟨_, rfl⟩

theorem swap512_256_reads (r : Fin 64) : ReadsPartner (row 64 9 r) (fun _ x => swap512_256 x) 8 := fun α x i => by
  show swap512_256 x _ = _
  unfold swap512_256
  refine swap_reads 64 9 8 r (by decide) α x _ _ rfl (fun n hn => ?_) i
  have hn' : n < 2 := hn
  interval_cases n <;> exact ⟨_, rfl⟩

/-- Every partner function of this width reads the partner. -/
theorem partner512_reads (r : Fin 64) (s : Nat) (hs : s < 9) : ReadsPartner (row 64 9 r) (partner512 s) s := by
  unfold partner512
  by_cases h : s < 7
  · rw [if_pos h]
    exact rollPartner_reads (row 64 9 r) (by decide) rotates_S64x512_d1 pos512 (fun i => (row 64 9 r).iota_apply .tc iota_S64x512_d1_w32 i) s hs
  · rw [if_neg h]
    interval_cases s
    · exact swap512_128_reads r
    · exact swap512_256_reads r

/-- The stored row is the arrangement that puts the row's keys in strictly decreasing order. -/
theorem out3_arranges (x0 : Vec Ideal S64x512 .f32) (r : Fin 64) (g : Fin 512 → Fin 512)
    (hg : StrictAnti fun j => (x0 ((row 64 9 r).col (g j)) : EReal)) (j : Fin 512) :
    out3_1 x0 ((row 64 9 r).col j) = BitVec.ofNat 32 (g j).val := by
  rw [out3_eq]
  have e1 : View.canon [(⟨r3_0, (net512 x0 9 0).2⟩ : View.Piece (Elt Ideal) S64x512 .i32)] = (net512 x0 9 0).2 :=
    View.canon_cons_unit_lit inb_S64x512_S64x512_0_0 _ _ (by decide)
  have e2 : View.ld x0 r3_0 = x0 := View.ld_unit_lit inb_S64x512_S64x512_0_0 x0 (by decide)
  rw [e1]
  have e3 : shapeCast S64x512 x0 shapeCasts_S64x512_S64x512 = x0 := shapeCast_self _ _
  unfold net512
  rw [e2, e3]
  exact runSort_arranges (row 64 9 r) (by decide) (by decide) partner512 (partner512_reads r) pos512
    (fun i => (row 64 9 r).iota_apply .tc iota_S64x512_d1_w32 i) x0 g hg j

/-! ### Width 1024 -/

theorem swap1024_128_reads (r : Fin 32) : ReadsPartner (row 32 10 r) (fun _ x => swap1024_128 x) 7 := fun α x i => by
  show swap1024_128 x _ = _
  unfold swap1024_128
  refine swap_reads 32 10 7 r (by decide) α x _ _ rfl (fun n hn => ?_) i
  have hn' : n < 8 := hn
  interval_cases n <;> exact ⟨_, rfl⟩

theorem swap1024_256_reads (r : Fin 32) : ReadsPartner (row 32 10 r) (fun _ x => swap1024_256 x) 8 := fun α x i => by
  show swap1024_256 x _ = _
  unfold swap1024_256
  refine swap_reads 32 10 8 r (by decide) α x _ _ rfl (fun n hn => ?_) i
  have hn' : n < 4 := hn
  interval_cases n <;> exact ⟨_, rfl⟩

theorem swap1024_512_reads (r : Fin 32) : ReadsPartner (row 32 10 r) (fun _ x => swap1024_512 x) 9 := fun α x i => by
  show swap1024_512 x _ = _
  unfold swap1024_512
  refine swap_reads 32 10 9 r (by decide) α x _ _ rfl (fun n hn => ?_) i
  have hn' : n < 2 := hn
  interval_cases n <;> exact ⟨_, rfl⟩

/-- Every partner function of this width reads the partner. -/
theorem partner1024_reads (r : Fin 32) (s : Nat) (hs : s < 10) : ReadsPartner (row 32 10 r) (partner1024 s) s := by
  unfold partner1024
  by_cases h : s < 7
  · rw [if_pos h]
    exact rollPartner_reads (row 32 10 r) (by decide) rotates_S32x1024_d1 pos1024 (fun i => (row 32 10 r).iota_apply .tc iota_S32x1024_d1_w32 i) s hs
  · rw [if_neg h]
    interval_cases s
    · exact swap1024_128_reads r
    · exact swap1024_256_reads r
    · exact swap1024_512_reads r

/-- The stored row is the arrangement that puts the row's keys in strictly decreasing order. -/
theorem out4_arranges (x0 : Vec Ideal S32x1024 .f32) (r : Fin 32) (g : Fin 1024 → Fin 1024)
    (hg : StrictAnti fun j => (x0 ((row 32 10 r).col (g j)) : EReal)) (j : Fin 1024) :
    out4_1 x0 ((row 32 10 r).col j) = BitVec.ofNat 32 (g j).val := by
  rw [out4_eq]
  have e1 : View.canon [(⟨r4_0, (net1024 x0 10 0).2⟩ : View.Piece (Elt Ideal) S32x1024 .i32)] = (net1024 x0 10 0).2 :=
    View.canon_cons_unit_lit inb_S32x1024_S32x1024_0_0 _ _ (by decide)
  have e2 : View.ld x0 r4_0 = x0 := View.ld_unit_lit inb_S32x1024_S32x1024_0_0 x0 (by decide)
  rw [e1]
  have e3 : shapeCast S32x1024 x0 shapeCasts_S32x1024_S32x1024 = x0 := shapeCast_self _ _
  unfold net1024
  rw [e2, e3]
  exact runSort_arranges (row 32 10 r) (by decide) (by decide) partner1024 (partner1024_reads r) pos1024
    (fun i => (row 32 10 r).iota_apply .tc iota_S32x1024_d1_w32 i) x0 g hg j

/-! ### Width 2048 -/

theorem swap2048_128_reads (r : Fin 32) : ReadsPartner (row 32 11 r) (fun _ x => swap2048_128 x) 7 := fun α x i => by
  show swap2048_128 x _ = _
  unfold swap2048_128
  refine swap_reads 32 11 7 r (by decide) α x _ _ rfl (fun n hn => ?_) i
  have hn' : n < 16 := hn
  interval_cases n <;> exact ⟨_, rfl⟩

theorem swap2048_256_reads (r : Fin 32) : ReadsPartner (row 32 11 r) (fun _ x => swap2048_256 x) 8 := fun α x i => by
  show swap2048_256 x _ = _
  unfold swap2048_256
  refine swap_reads 32 11 8 r (by decide) α x _ _ rfl (fun n hn => ?_) i
  have hn' : n < 8 := hn
  interval_cases n <;> exact ⟨_, rfl⟩

theorem swap2048_512_reads (r : Fin 32) : ReadsPartner (row 32 11 r) (fun _ x => swap2048_512 x) 9 := fun α x i => by
  show swap2048_512 x _ = _
  unfold swap2048_512
  refine swap_reads 32 11 9 r (by decide) α x _ _ rfl (fun n hn => ?_) i
  have hn' : n < 4 := hn
  interval_cases n <;> exact ⟨_, rfl⟩

theorem swap2048_1024_reads (r : Fin 32) : ReadsPartner (row 32 11 r) (fun _ x => swap2048_1024 x) 10 := fun α x i => by
  show swap2048_1024 x _ = _
  unfold swap2048_1024
  refine swap_reads 32 11 10 r (by decide) α x _ _ rfl (fun n hn => ?_) i
  have hn' : n < 2 := hn
  interval_cases n <;> exact ⟨_, rfl⟩

/-- Every partner function of this width reads the partner. -/
theorem partner2048_reads (r : Fin 32) (s : Nat) (hs : s < 11) : ReadsPartner (row 32 11 r) (partner2048 s) s := by
  unfold partner2048
  by_cases h : s < 7
  · rw [if_pos h]
    exact rollPartner_reads (row 32 11 r) (by decide) rotates_S32x2048_d1 pos2048 (fun i => (row 32 11 r).iota_apply .tc iota_S32x2048_d1_w32 i) s hs
  · rw [if_neg h]
    interval_cases s
    · exact swap2048_128_reads r
    · exact swap2048_256_reads r
    · exact swap2048_512_reads r
    · exact swap2048_1024_reads r

/-- The stored row is the arrangement that puts the row's keys in strictly decreasing order. -/
theorem out5_arranges (x0 : Vec Ideal S32x2048 .f32) (r : Fin 32) (g : Fin 2048 → Fin 2048)
    (hg : StrictAnti fun j => (x0 ((row 32 11 r).col (g j)) : EReal)) (j : Fin 2048) :
    out5_1 x0 ((row 32 11 r).col j) = BitVec.ofNat 32 (g j).val := by
  rw [out5_eq]
  have e1 : View.canon [(⟨r5_0, (net2048 x0 11 0).2⟩ : View.Piece (Elt Ideal) S32x2048 .i32)] = (net2048 x0 11 0).2 :=
    View.canon_cons_unit_lit inb_S32x2048_S32x2048_0_0 _ _ (by decide)
  have e2 : View.ld x0 r5_0 = x0 := View.ld_unit_lit inb_S32x2048_S32x2048_0_0 x0 (by decide)
  rw [e1]
  have e3 : shapeCast S32x2048 x0 shapeCasts_S32x2048_S32x2048 = x0 := shapeCast_self _ _
  unfold net2048
  rw [e2, e3]
  exact runSort_arranges (row 32 11 r) (by decide) (by decide) partner2048 (partner2048_reads r) pos2048
    (fun i => (row 32 11 r).iota_apply .tc iota_S32x2048_d1_w32 i) x0 g hg j

end Cert.KernelIdeal.Sorting
-- ==== Proof.Arrays.lean ====
/-
  What each sorting launch leaves in its array: where some arrangement puts the scores of a row of its class in strictly decreasing
  order, that row of the array is that arrangement.
-/
module

public import proofs.«01_k».proof.Proof.Rows
public import proofs.«01_k».proof.Proof.Gen.KernelIdeal.Frame
public import Idealize.ShloMosaic.Lib.Pointwise

@[expose] public section

set_option maxRecDepth 16384

noncomputable section

namespace Cert.KernelIdeal.Sorting

open Idealize.ShloMosaic Idealize.ShloMosaic.Pipeline Idealize.ShloMosaic.SortNet Cert.KernelIdeal.Gen Cert.KernelIdeal

variable (V : (c : Dev nD) → (b : Ref sig .tc) → Buf (Elt Ideal) ((c.tc : Thread nD τ).loc b)) (c : Dev nD)

/-- The launch over the rows from 0: a row whose 256 scores some arrangement puts in strictly decreasing order ends as that arrangement. -/
theorem sorted2 (i : S256x256.Idx) : ∀ (g : Fin 256 → Fin 256) (r : Fin 2048), r.val = 0 + (i 0).val →
    StrictAnti (β := EReal) (fun j : Fin 256 => (V c main_v61 (ix2 r ((g j).castLE (by decide))) : EReal)) →
    (dat2 V c).arrAt 1 cfg2.N i = BitVec.ofNat 32 (g (i 1)).val := by
  have e0 : ∀ t : Fin cfg2.N, win2_0.index t = ![(grid2.coords t 0).val, 0] := (by decide +kernel : ∀ t : Fin grid2.N, _)
  have e1 : ∀ t : Fin cfg2.N, win2_1.index t = ![(grid2.coords t 0).val, 0] := (by decide +kernel : ∀ t : Fin grid2.N, _)
  refine (dat2 V c).arrAt_forall_of_covers 1
    (fun (i : S256x256.Idx) v => ∀ (g : Fin 256 → Fin 256) (r : Fin 2048), r.val = 0 + (i 0).val →
      StrictAnti (β := EReal) (fun j : Fin 256 => (V c main_v61 (ix2 r ((g j).castLE (by decide))) : EReal)) →
      v = BitVec.ofNat 32 (g (i 1)).val) (by decide +kernel) (fun t hf y => ?_) i
  intro g r hr hg
  have hy : (((cfg2.win 1).blk t).view.emb y : S256x256.Idx) 1 = (y 1 : Fin 256) := by
    apply Fin.ext
    blk_simp [e1]
  rw [hy]
  have hr' : r.val = 0 + ((grid2.coords t 0).val * 64 + (y 0).val) := by
    rw [hr]
    blk_simp [e1]
  blk_simp
  rw [after2_1]
  have ey : (y : S64x256.Idx) = (row 64 8 (y 0)).col (y 1) := by
    funext a; fin_cases a <;> rfl
  have hg' : StrictAnti (β := EReal) (fun j : Fin 256 => (iblk2 V c 0 t ((row 64 8 (y 0)).col (g j)) : EReal)) := by
    convert hg using 2 with j
    blk_simp [iblk2]
    congr 1
    funext a
    apply Fin.ext
    fin_cases a
    · blk_simp [e0]
      show _ = r.val
      rw [hr']
      show _ + (y 0).val = _
      omega
    · blk_simp [e0]
      rfl
  exact (congrArg (out2_1 (iblk2 V c 0 t)) ey).trans (out2_arranges (iblk2 V c 0 t) (y 0) g hg' (y 1))

/-- The launch over the rows from 256: a row whose 512 scores some arrangement puts in strictly decreasing order ends as that arrangement. -/
theorem sorted3 (i : S256x512.Idx) : ∀ (g : Fin 512 → Fin 512) (r : Fin 2048), r.val = 256 + (i 0).val →
    StrictAnti (β := EReal) (fun j : Fin 512 => (V c main_v61 (ix2 r ((g j).castLE (by decide))) : EReal)) →
    (dat3 V c).arrAt 1 cfg3.N i = BitVec.ofNat 32 (g (i 1)).val := by
  have e0 : ∀ t : Fin cfg3.N, win3_0.index t = ![4 + (grid3.coords t 0).val, 0] := (by decide +kernel : ∀ t : Fin grid3.N, _)
  have e1 : ∀ t : Fin cfg3.N, win3_1.index t = ![(grid3.coords t 0).val, 0] := (by decide +kernel : ∀ t : Fin grid3.N, _)
  refine (dat3 V c).arrAt_forall_of_covers 1
    (fun (i : S256x512.Idx) v => ∀ (g : Fin 512 → Fin 512) (r : Fin 2048), r.val = 256 + (i 0).val →
      StrictAnti (β := EReal) (fun j : Fin 512 => (V c main_v61 (ix2 r ((g j).castLE (by decide))) : EReal)) →
      v = BitVec.ofNat 32 (g (i 1)).val) (by decide +kernel) (fun t hf y => ?_) i
  intro g r hr hg
  have hy : (((cfg3.win 1).blk t).view.emb y : S256x512.Idx) 1 = (y 1 : Fin 512) := by
    apply Fin.ext
    blk_simp [e1]
  rw [hy]
  have hr' : r.val = 256 + ((grid3.coords t 0).val * 64 + (y 0).val) := by
    rw [hr]
    blk_simp [e1]
  blk_simp
  rw [after3_1]
  have ey : (y : S64x512.Idx) = (row 64 9 (y 0)).col (y 1) := by
    funext a; fin_cases a <;> rfl
  have hg' : StrictAnti (β := EReal) (fun j : Fin 512 => (iblk3 V c 0 t ((row 64 9 (y 0)).col (g j)) : EReal)) := by
    convert hg using 2 with j
    blk_simp [iblk3]
    congr 1
    funext a
    apply Fin.ext
    fin_cases a
    · blk_simp [e0]
      show _ = r.val
      rw [hr']
      show _ + (y 0).val = _
      omega
    · blk_simp [e0]
      rfl
  exact (congrArg (out3_1 (iblk3 V c 0 t)) ey).trans (out3_arranges (iblk3 V c 0 t) (y 0) g hg' (y 1))

/-- The launch over the rows from 512: a row whose 1024 scores some arrangement puts in strictly decreasing order ends as that arrangement. -/
theorem sorted4 (i : S512x1024.Idx) : ∀ (g : Fin 1024 → Fin 1024) (r : Fin 2048), r.val = 512 + (i 0).val →
    StrictAnti (β := EReal) (fun j : Fin 1024 => (V c main_v61 (ix2 r ((g j).castLE (by decide))) : EReal)) →
    (dat4 V c).arrAt 1 cfg4.N i = BitVec.ofNat 32 (g (i 1)).val := by
  have e0 : ∀ t : Fin cfg4.N, win4_0.index t = ![16 + (grid4.coords t 0).val, 0] := (by decide +kernel : ∀ t : Fin grid4.N, _)
  have e1 : ∀ t : Fin cfg4.N, win4_1.index t = ![(grid4.coords t 0).val, 0] := (by decide +kernel : ∀ t : Fin grid4.N, _)
  refine (dat4 V c).arrAt_forall_of_covers 1
    (fun (i : S512x1024.Idx) v => ∀ (g : Fin 1024 → Fin 1024) (r : Fin 2048), r.val = 512 + (i 0).val →
      StrictAnti (β := EReal) (fun j : Fin 1024 => (V c main_v61 (ix2 r ((g j).castLE (by decide))) : EReal)) →
      v = BitVec.ofNat 32 (g (i 1)).val) (by decide +kernel) (fun t hf y => ?_) i
  intro g r hr hg
  have hy : (((cfg4.win 1).blk t).view.emb y : S512x1024.Idx) 1 = (y 1 : Fin 1024) := by
    apply Fin.ext
    blk_simp [e1]
  rw [hy]
  have hr' : r.val = 512 + ((grid4.coords t 0).val * 32 + (y 0).val) := by
    rw [hr]
    blk_simp [e1]
  blk_simp
  rw [after4_1]
  have ey : (y : S32x1024.Idx) = (row 32 10 (y 0)).col (y 1) := by
    funext a; fin_cases a <;> rfl
  have hg' : StrictAnti (β := EReal) (fun j : Fin 1024 => (iblk4 V c 0 t ((row 32 10 (y 0)).col (g j)) : EReal)) := by
    convert hg using 2 with j
    blk_simp [iblk4]
    congr 1
    funext a
    apply Fin.ext
    fin_cases a
    · blk_simp [e0]
      show _ = r.val
      rw [hr']
      show _ + (y 0).val = _
      omega
    · blk_simp [e0]
      rfl
  exact (congrArg (out4_1 (iblk4 V c 0 t)) ey).trans (out4_arranges (iblk4 V c 0 t) (y 0) g hg' (y 1))

/-- The launch over the rows from 1024: a row whose 2048 scores some arrangement puts in strictly decreasing order ends as that arrangement. -/
theorem sorted5 (i : S1024x2048.Idx) : ∀ (g : Fin 2048 → Fin 2048) (r : Fin 2048), r.val = 1024 + (i 0).val →
    StrictAnti (β := EReal) (fun j : Fin 2048 => (V c main_v61 (ix2 r ((g j).castLE (by decide))) : EReal)) →
    (dat5 V c).arrAt 1 cfg5.N i = BitVec.ofNat 32 (g (i 1)).val := by
  have e0 : ∀ t : Fin cfg5.N, win5_0.index t = ![32 + (grid5.coords t 0).val, 0] := (by decide +kernel : ∀ t : Fin grid5.N, _)
  have e1 : ∀ t : Fin cfg5.N, win5_1.index t = ![(grid5.coords t 0).val, 0] := (by decide +kernel : ∀ t : Fin grid5.N, _)
  refine (dat5 V c).arrAt_forall_of_covers 1
    (fun (i : S1024x2048.Idx) v => ∀ (g : Fin 2048 → Fin 2048) (r : Fin 2048), r.val = 1024 + (i 0).val →
      StrictAnti (β := EReal) (fun j : Fin 2048 => (V c main_v61 (ix2 r ((g j).castLE (by decide))) : EReal)) →
      v = BitVec.ofNat 32 (g (i 1)).val) (by decide +kernel) (fun t hf y => ?_) i
  intro g r hr hg
  have hy : (((cfg5.win 1).blk t).view.emb y : S1024x2048.Idx) 1 = (y 1 : Fin 2048) := by
    apply Fin.ext
    blk_simp [e1]
  rw [hy]
  have hr' : r.val = 1024 + ((grid5.coords t 0).val * 32 + (y 0).val) := by
    rw [hr]
    blk_simp [e1]
  blk_simp
  rw [after5_1]
  have ey : (y : S32x2048.Idx) = (row 32 11 (y 0)).col (y 1) := by
    funext a; fin_cases a <;> rfl
  have hg' : StrictAnti (β := EReal) (fun j : Fin 2048 => (iblk5 V c 0 t ((row 32 11 (y 0)).col (g j)) : EReal)) := by
    convert hg using 2 with j
    blk_simp [iblk5]
    congr 1
    funext a
    apply Fin.ext
    fin_cases a
    · blk_simp [e0]
      show _ = r.val
      rw [hr']
      show _ + (y 0).val = _
      omega
    · blk_simp [e0]
      rfl
  exact (congrArg (out5_1 (iblk5 V c 0 t)) ey).trans (out5_arranges (iblk5 V c 0 t) (y 0) g hg' (y 1))

end Cert.KernelIdeal.Sorting
-- ==== Proof.Tails.lean ====
/-
  Two facts about rows that end in their own order: a row whose columns from `w` on fall below everything before them keeps those
  columns in place when it is put in strictly decreasing order, and a piece joined with the column numbers from `w` on reads so.
-/
module

public import Idealize.ShloMosaic.Lib.Pointwise
public import Idealize.ShloMosaic.Lib.Pipeline.Value
public import Idealize.ShloMosaic.Lib.IdealHost

@[expose] public section

noncomputable section

namespace Cert.KernelIdeal.Sorting

open Idealize.ShloMosaic

/-- Columns from `w` on, each below every column before it, stay where they are in the strictly decreasing arrangement. -/
theorem tail_fixed {n : Nat} (K : Fin n → EReal) (w : Nat) (τ : Fin n → Fin n) (hτ : StrictAnti fun j => K (τ j))
    (htail : ∀ i j : Fin n, w ≤ j.val → i < j → K j < K i) : ∀ j : Fin n, w ≤ j.val → τ j = j := by
  have hinj : Function.Injective τ := fun a b e => hτ.injective (congrArg K e)
  have hsur : Function.Surjective τ := Finite.injective_iff_surjective.mp hinj
  suffices h : ∀ d : Nat, ∀ j : Fin n, n - j.val = d → w ≤ j.val → τ j = j from fun j hj => h _ j rfl hj
  intro d
  induction d using Nat.strong_induction_on with
  | _ d ih =>
    intro j hd hj
    have hgt : ∀ j' : Fin n, j < j' → τ j' = j' := fun j' h' =>
      ih (n - j'.val) (by have := j'.isLt; have : j.val < j'.val := h'; omega) j' rfl (hj.trans (le_of_lt h'))
    obtain ⟨i, hi⟩ := hsur j
    rcases lt_trichotomy i j with h | h | h
    · have h1 : K (τ j) < K (τ i) := hτ h
      rw [hi] at h1
      rcases lt_trichotomy (τ j) j with h2 | h2 | h2
      · exact absurd (htail _ _ hj h2) (not_lt.mpr h1.le)
      · exact h2
      · exact hinj (hgt _ h2)
    · rw [h] at hi; exact hi
    · exact absurd ((hgt i h).symm.trans hi) (ne_of_gt h)

/-- Then the first `w` columns of the arrangement are an arrangement of the first `w` columns. -/
theorem prefix_arrangement {n : Nat} (K : Fin n → EReal) (w : Nat) (hw : w ≤ n) (τ : Fin n → Fin n) (hτ : StrictAnti fun j => K (τ j))
    (htail : ∀ i j : Fin n, w ≤ j.val → i < j → K j < K i) :
    ∃ g : Fin w → Fin w, (∀ j, (g j).castLE hw = τ (j.castLE hw)) ∧ StrictAnti fun j => K ((g j).castLE hw) := by
  have hfix := tail_fixed K w τ hτ htail
  have hinj : Function.Injective τ := fun a b e => hτ.injective (congrArg K e)
  have hlt : ∀ j : Fin w, (τ (j.castLE hw)).val < w := by
    intro j
    by_contra h
    have h1 := hinj (hfix (τ (j.castLE hw)) (not_lt.mp h))
    have h2 := congrArg Fin.val h1
    have h3 : (j.castLE hw).val = j.val := rfl
    have := j.isLt
    omega
  have hg : ∀ j : Fin w, (⟨(τ (j.castLE hw)).val, hlt j⟩ : Fin w).castLE hw = τ (j.castLE hw) := fun j => Fin.ext rfl
  refine ⟨fun j => ⟨(τ (j.castLE hw)).val, hlt j⟩, hg, fun a b hab => ?_⟩
  show K (Fin.castLE hw _) < K (Fin.castLE hw _)
  rw [hg, hg]
  exact hτ (show a.castLE hw < b.castLE hw from hab)

/-- A piece of `w` columns joined with the column numbers from `w` on, read at a column. -/
theorem withTail_apply {R w u : Nat} (hwu : w + u = 2048) (a : (⟨2, ![R, w]⟩ : Shape).Idx → BitVec 32)
    (hb0 : (⟨0, ![]⟩ : Shape).BroadcastsInDim ⟨1, ![u]⟩ ![]) (hb1 : (⟨1, ![u]⟩ : Shape).BroadcastsInDim ⟨2, ![1, u]⟩ ![1])
    (hb2 : (⟨2, ![1, u]⟩ : Shape).BroadcastsInDim ⟨2, ![R, u]⟩ ![0, 1])
    (hc : Shape.Concatenates [(⟨2, ![R, w]⟩ : Shape), ⟨2, ![R, u]⟩] ⟨2, ![R, 2048]⟩ 1) (r : Fin R) (j : Fin 2048) (v : BitVec 32)
    (hlo : ∀ h : j.val < w, a (ix2 r ⟨j.val, h⟩) = v) (hhi : w ≤ j.val → v = BitVec.ofNat 32 j.val) :
    concatenate ⟨2, ![R, 2048]⟩ 1 [⟨⟨2, ![R, w]⟩, a⟩, ⟨⟨2, ![R, u]⟩, broadcastInDim ⟨2, ![R, u]⟩ ![0, 1] hb2
      (broadcastInDim ⟨2, ![1, u]⟩ ![1] hb1 (addi (broadcastInDim ⟨1, ![u]⟩ ![] hb0 (constantI ⟨0, ![]⟩ 32 (BitVec.ofNat 32 w)))
        (iotaInDim ⟨1, ![u]⟩ 32 0)))⟩] hc (ix2 r j) = v := by
  by_cases h : j.val < w
  · rw [concatenate_pair_apply_left 1 a _ hc (ix2 r j) rfl (ix2 r ⟨j.val, h⟩) (fun b => by fin_cases b <;> rfl)]
    exact hlo h
  · have hj : j.val - w < u := by have := j.isLt; omega
    rw [concatenate_pair_apply_right 1 a _ hc (ix2 r j) rfl rfl (ix2 r ⟨j.val - w, hj⟩)
      (fun b hb => by
        match b, hb with
        | ⟨0, _⟩, _ => rfl
        | ⟨1, _⟩, hb => exact absurd rfl hb)
      (show j.val - w + w = j.val by omega)]
    rw [broadcastInDim_apply _ hb2 _ _ (ix2 0 ⟨j.val - w, hj⟩) (fun b => by
      match b with
      | ⟨0, _⟩ => rfl
      | ⟨1, _⟩ =>
        show j.val - w = if u = 1 then 0 else j.val - w
        split <;> omega)]
    rw [broadcastInDim_apply _ hb1 _ _ (fun b => match b with | ⟨0, _⟩ => ⟨j.val - w, hj⟩) (fun b => by
      match b with
      | ⟨0, _⟩ =>
        show j.val - w = if u = 1 then 0 else j.val - w
        split <;> omega)]
    rw [hhi (not_lt.mp h)]
    show BitVec.ofNat 32 w + BitVec.ofNat 32 (j.val - w) = BitVec.ofNat 32 j.val
    rw [← BitVec.ofNat_add]
    congr 1
    omega

end Cert.KernelIdeal.Sorting
-- ==== Proof.Result.lean ====
/-
  The kernel's result read off the array of scores: where some arrangement puts a row of scores in strictly decreasing order and the
  row's entries past the diagonal fall below everything before them, that row of the result is that arrangement.
-/
module

public import proofs.«01_k».proof.Proof.Arrays
public import proofs.«01_k».proof.Proof.Tails
public import Idealize.ShloMosaic.Lib.StableHlo.Run

@[expose] public section

set_option maxRecDepth 16384

noncomputable section

namespace Cert.KernelIdeal.Sorting

open Idealize.ShloMosaic Idealize.ShloMosaic.Pipeline Idealize.ShloMosaic.StableHlo Cert.KernelIdeal.Gen Cert.KernelIdeal

variable (m : (ℓ : Loc nD τ sig) → Buf (Elt Ideal) ℓ) (ρ : Dev nD → PrngReg) (c : Dev nD)

/-- The array of scores is still what the score launch left when the second class of rows is sorted. -/
theorem scores_W6 : W6 m ρ c (Proc.devRef .tc main_v61) = W4 m ρ c (Proc.devRef .tc main_v61) :=
  (W6_of m ρ c main_v61 (by decide)).trans (W5_of m ρ c main_v61 (by decide))

/-- The same when the third class is sorted. -/
theorem scores_W8 : W8 m ρ c (Proc.devRef .tc main_v61) = W4 m ρ c (Proc.devRef .tc main_v61) :=
  ((W8_of m ρ c main_v61 (by decide)).trans (W7_of m ρ c main_v61 (by decide))).trans (scores_W6 m ρ c)

/-- The same when the last class is sorted. -/
theorem scores_W10 : W10 m ρ c (Proc.devRef .tc main_v61) = W4 m ρ c (Proc.devRef .tc main_v61) :=
  ((W10_of m ρ c main_v61 (by decide)).trans (W9_of m ρ c main_v61 (by decide))).trans (scores_W8 m ρ c)

/-- The row of scores `r`. -/
def scoreRow (r : Fin 2048) : Fin 2048 → EReal := fun j => W4 m ρ c (Proc.devRef .tc main_v61) (ix2 r j)

variable {m ρ c} {r : Fin 2048} {τ : Fin 2048 → Fin 2048} (hτ : StrictAnti fun j => scoreRow m ρ c r (τ j))
  (htail : ∀ i j : Fin 2048, r < j → i < j → scoreRow m ρ c r j < scoreRow m ρ c r i)

include hτ htail

/-- The first class of rows, joined with its tail. -/
theorem piece2 (i : Fin 256) (hi : r.val = i.val) (j : Fin 2048) :
    W11 m ρ c (Proc.devRef .tc main_v68) (ix2 i j) = BitVec.ofNat 32 (τ j).val := by
  have htl : ∀ i j : Fin 2048, 256 ≤ j.val → i < j → scoreRow m ρ c r j < scoreRow m ρ c r i :=
    fun i' j h => htail i' j (show r.val < j.val by have := i.isLt; omega)
  obtain ⟨g, hg, hga⟩ := prefix_arrangement (scoreRow m ρ c r) 256 (by decide) τ hτ htl
  rw [W11_of m ρ c main_v68 (by decide), W10_of m ρ c main_v68 (by decide), W9_of m ρ c main_v68 (by decide), W8_of m ρ c main_v68 (by decide), W7_of m ρ c main_v68 (by decide)]
  have e : W6 m ρ c (Proc.devRef .tc main_v68) = concatenate S256x2048 1
      [⟨S256x256, (W5 m ρ c (Proc.devRef .tc main_v62) : S256x256.Idx → BitVec 32)⟩,
        ⟨S256x1792, broadcastInDim S256x1792 ![0, 1] bcast_S1x1792_S256x1792_0_1 (broadcastInDim S1x1792 ![1] bcast_S1792_S1x1792_1
          (addi (broadcastInDim S1792 ![] bcast_S_S1792 (constantI S_ 32 256#32)) (iotaInDim S1792 32 0)))⟩]
      concatenates_S256x256_S256x1792_S256x2048_d1 := by
    show after hostOps3 (W5 m ρ c) _ = _
    simp only [hostOps3]
    after_results_simp
    rfl
  rw [e]
  refine withTail_apply (by decide) _ _ _ _ _ i j _ (fun h => ?_) (fun h => by rw [tail_fixed _ 256 τ hτ htl j h])
  have e5 := congrFun (W5_arr m ρ c 1) (ix2 i ⟨j.val, h⟩)
  refine e5.trans ((sorted2 (V4 m ρ) c (ix2 i ⟨j.val, h⟩) g r (by rw [hi]; exact (Nat.zero_add _).symm) hga).trans ?_)
  exact congrArg (BitVec.ofNat 32) (congrArg Fin.val (hg ⟨j.val, h⟩))

/-- The second class of rows, joined with its tail. -/
theorem piece3 (i : Fin 256) (hi : r.val = 256 + i.val) (j : Fin 2048) :
    W11 m ρ c (Proc.devRef .tc main_v75) (ix2 i j) = BitVec.ofNat 32 (τ j).val := by
  have htl : ∀ i j : Fin 2048, 512 ≤ j.val → i < j → scoreRow m ρ c r j < scoreRow m ρ c r i :=
    fun i' j h => htail i' j (show r.val < j.val by have := i.isLt; omega)
  obtain ⟨g, hg, hga⟩ := prefix_arrangement (scoreRow m ρ c r) 512 (by decide) τ hτ htl
  rw [W11_of m ρ c main_v75 (by decide), W10_of m ρ c main_v75 (by decide), W9_of m ρ c main_v75 (by decide)]
  have e : W8 m ρ c (Proc.devRef .tc main_v75) = concatenate S256x2048 1
      [⟨S256x512, (W7 m ρ c (Proc.devRef .tc main_v69) : S256x512.Idx → BitVec 32)⟩,
        ⟨S256x1536, broadcastInDim S256x1536 ![0, 1] bcast_S1x1536_S256x1536_0_1 (broadcastInDim S1x1536 ![1] bcast_S1536_S1x1536_1
          (addi (broadcastInDim S1536 ![] bcast_S_S1536 (constantI S_ 32 512#32)) (iotaInDim S1536 32 0)))⟩]
      concatenates_S256x512_S256x1536_S256x2048_d1 := by
    show after hostOps4 (W7 m ρ c) _ = _
    simp only [hostOps4]
    after_results_simp
    rfl
  rw [e]
  refine withTail_apply (by decide) _ _ _ _ _ i j _ (fun h => ?_) (fun h => by rw [tail_fixed _ 512 τ hτ htl j h])
  have e5 := congrFun (W7_arr m ρ c 1) (ix2 i ⟨j.val, h⟩)
  refine e5.trans ((sorted3 (V6 m ρ) c (ix2 i ⟨j.val, h⟩) g r (hi) (by rw [show V6 m ρ c main_v61 = W4 m ρ c (Proc.devRef .tc main_v61) from scores_W6 m ρ c]; exact hga)).trans ?_)
  exact congrArg (BitVec.ofNat 32) (congrArg Fin.val (hg ⟨j.val, h⟩))

/-- The third class of rows, joined with its tail. -/
theorem piece4 (i : Fin 512) (hi : r.val = 512 + i.val) (j : Fin 2048) :
    W11 m ρ c (Proc.devRef .tc main_v82) (ix2 i j) = BitVec.ofNat 32 (τ j).val := by
  have htl : ∀ i j : Fin 2048, 1024 ≤ j.val → i < j → scoreRow m ρ c r j < scoreRow m ρ c r i :=
    fun i' j h => htail i' j (show r.val < j.val by have := i.isLt; omega)
  obtain ⟨g, hg, hga⟩ := prefix_arrangement (scoreRow m ρ c r) 1024 (by decide) τ hτ htl
  rw [W11_of m ρ c main_v82 (by decide)]
  have e : W10 m ρ c (Proc.devRef .tc main_v82) = concatenate S512x2048 1
      [⟨S512x1024, (W9 m ρ c (Proc.devRef .tc main_v76) : S512x1024.Idx → BitVec 32)⟩,
        ⟨S512x1024, broadcastInDim S512x1024 ![0, 1] bcast_S1x1024_S512x1024_0_1 (broadcastInDim S1x1024 ![1] bcast_S1024_S1x1024_1
          (addi (broadcastInDim S1024 ![] bcast_S_S1024 (constantI S_ 32 1024#32)) (iotaInDim S1024 32 0)))⟩]
      concatenates_S512x1024_S512x1024_S512x2048_d1 := by
    show after hostOps5 (W9 m ρ c) _ = _
    simp only [hostOps5]
    after_results_simp
    rfl
  rw [e]
  refine withTail_apply (by decide) _ _ _ _ _ i j _ (fun h => ?_) (fun h => by rw [tail_fixed _ 1024 τ hτ htl j h])
  have e5 := congrFun (W9_arr m ρ c 1) (ix2 i ⟨j.val, h⟩)
  refine e5.trans ((sorted4 (V8 m ρ) c (ix2 i ⟨j.val, h⟩) g r (hi) (by rw [show V8 m ρ c main_v61 = W4 m ρ c (Proc.devRef .tc main_v61) from scores_W8 m ρ c]; exact hga)).trans ?_)
  exact congrArg (BitVec.ofNat 32) (congrArg Fin.val (hg ⟨j.val, h⟩))

omit htail in
/-- The last class of rows, which has no tail. -/
theorem piece5 (i : Fin 1024) (hi : r.val = 1024 + i.val) (j : Fin 2048) :
    W11 m ρ c (Proc.devRef .tc main_v83) (ix2 i j) = BitVec.ofNat 32 (τ j).val := by
  refine (congrFun (W11_arr m ρ c 1) (ix2 i j)).trans (sorted5 (V10 m ρ) c (ix2 i j) τ r hi ?_)
  rw [show V10 m ρ c main_v61 = W4 m ρ c (Proc.devRef .tc main_v61) from scores_W10 m ρ c]
  exact hτ

/-- A row of the result is the arrangement of that row of scores. -/
theorem result_apply (j : Fin 2048) : W12 m ρ c (Proc.devRef .tc main_v85) (ix3 0 r j) = BitVec.ofNat 32 (τ j).val := by
  have e : W12 m ρ c (Proc.devRef .tc main_v85) = shapeCast S1x2048x2048 (concatenate S2048x2048 0
      [⟨S256x2048, (W11 m ρ c (Proc.devRef .tc main_v68) : S256x2048.Idx → BitVec 32)⟩,
        ⟨S256x2048, (W11 m ρ c (Proc.devRef .tc main_v75) : S256x2048.Idx → BitVec 32)⟩,
        ⟨S512x2048, (W11 m ρ c (Proc.devRef .tc main_v82) : S512x2048.Idx → BitVec 32)⟩,
        ⟨S1024x2048, (W11 m ρ c (Proc.devRef .tc main_v83) : S1024x2048.Idx → BitVec 32)⟩]
      concatenates_S256x2048_S256x2048_S512x2048_S1024x2048_S2048x2048_d0) shapeCasts_S2048x2048_S1x2048x2048 := by
    show after hostOps6 (W11 m ρ c) _ = _
    simp only [hostOps6]
    after_results_simp
    rfl
  rw [e, shapeCast_apply _ _ (ix3 0 r j) (ix2 r j) (by
    rw [Shape.rowMajor_val_two, Shape.rowMajor_val_three]
    show r.val * 2048 + j.val = (0 * 2048 + r.val) * 2048 + j.val
    omega)]
  have hr := r.isLt
  have hcol : ∀ {R : Nat} (i : Fin R) (b : Fin 2), b.cast (show (⟨2, ![R, 2048]⟩ : Shape).rank = S2048x2048.rank from rfl) ≠ 0 →
      (ix2 i j b).val = (ix2 r j (b.cast (show (⟨2, ![R, 2048]⟩ : Shape).rank = S2048x2048.rank from rfl))).val := fun i b hb => by
    match b, hb with
    | ⟨0, _⟩, hb => exact absurd rfl hb
    | ⟨1, _⟩, _ => rfl
  by_cases h0 : r.val < 256
  · rw [concatenate_apply_piece 0 _ _ (ix2 r j) 0 (by exact (show 0 < 4 by decide)) S256x2048 _ rfl rfl 0 rfl (ix2 ⟨r.val, h0⟩ j) (hcol _) (Nat.zero_add _)]
    exact piece2 hτ htail ⟨r.val, h0⟩ rfl j
  by_cases h1 : r.val < 512
  · rw [concatenate_apply_piece 0 _ _ (ix2 r j) 1 (by exact (show 1 < 4 by decide)) S256x2048 _ rfl rfl 256 rfl (ix2 ⟨r.val - 256, by omega⟩ j) (hcol _)
      (show 256 + (r.val - 256) = r.val by omega)]
    exact piece3 hτ htail ⟨r.val - 256, by omega⟩ (show r.val = 256 + (r.val - 256) by omega) j
  by_cases h2 : r.val < 1024
  · rw [concatenate_apply_piece 0 _ _ (ix2 r j) 2 (by exact (show 2 < 4 by decide)) S512x2048 _ rfl rfl 512 rfl (ix2 ⟨r.val - 512, by omega⟩ j) (hcol _)
      (show 512 + (r.val - 512) = r.val by omega)]
    exact piece4 hτ htail ⟨r.val - 512, by omega⟩ (show r.val = 512 + (r.val - 512) by omega) j
  · rw [concatenate_apply_piece 0 _ _ (ix2 r j) 3 (by exact (show 3 < 4 by decide)) S1024x2048 _ rfl rfl 1024 rfl (ix2 ⟨r.val - 1024, by omega⟩ j) (hcol _)
      (show 1024 + (r.val - 1024) = r.val by omega)]
    exact piece5 hτ ⟨r.val - 1024, by omega⟩ (show r.val = 1024 + (r.val - 1024) by omega) j

end Cert.KernelIdeal.Sorting
-- ==== Proof.Value.lean ====
/-
  The kernel's result is the reference's: the scores it sorts are the reference's scores with a decreasing mask past the diagonal, the
  reference's order of a row's positions puts those in strictly decreasing order, and that is what the kernel's sort returns.
-/
module

public import proofs.«01_k».proof.Proof.Match
public import proofs.«01_k».proof.Proof.Heads
public import proofs.«01_k».proof.Proof.Pre
public import proofs.«01_k».proof.Proof.Mask
public import proofs.«01_k».proof.Proof.TopK
public import proofs.«01_k».proof.Proof.Result

@[expose] public section

set_option maxRecDepth 16384

noncomputable section

namespace Cert.KernelIdeal.Scores

open Idealize.ShloMosaic Idealize.ShloMosaic.Pipeline Cert.KernelIdeal.Gen Cert.KernelIdeal
open Cert.ReferenceIdeal.Read

/-- A masked column's value: the mask's first value less a positive step for each column. -/
theorem maskAt_eq : ∃ x y : ℝ, 0 < y ∧ Ideal.ofBits .f32 0xF149F2CA#32 = (x : EReal)
    ∧ ∀ j : Fin 2048, maskAt j.val = ((x - j.val * y : ℝ) : EReal) := by
  obtain ⟨x, y, hy, hx, hy'⟩ := Order.maskAt_real
  refine ⟨x, y, hy, hx, fun j => ?_⟩
  unfold maskAt
  rw [WordCmp.toInt_ofNat_of_lt (show j.val < 2 ^ (32 - 1) by omega), hx, hy', EReal.coe_sub, EReal.coe_mul]
  simp

/-- The mask nowhere exceeds its first value, -/
theorem maskAt_le (j : Fin 2048) : maskAt j.val ≤ Ideal.ofBits .f32 0xF149F2CA#32 := by
  obtain ⟨x, y, hy, hx, h⟩ := maskAt_eq
  rw [h, hx, EReal.coe_le_coe_iff]
  have : 0 ≤ (j.val : ℝ) * y := by positivity
  linarith

/-- and decreases strictly from column to column. -/
theorem maskAt_strictAnti : StrictAnti fun j : Fin 2048 => maskAt j.val := by
  obtain ⟨x, y, hy, hx, h⟩ := maskAt_eq
  intro i j hij
  show maskAt j.val < maskAt i.val
  rw [h, h, EReal.coe_lt_coe_iff]
  have h1 : (i.val : ℝ) < (j.val : ℝ) := Nat.cast_lt.2 hij
  have := mul_lt_mul_of_pos_right h1 hy
  linarith

variable (m : (ℓ : Loc nD τ sig) → Buf (Elt Ideal) ℓ) (ρ : Dev nD → PrngReg) (c : Dev nD)

/-- The reference's score of a query row and a key row, on the launch's arguments. -/
def referenceScore (r j : Fin 2048) : EReal :=
  val_main_v64 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (ix3 0 r j)

/-- The kernel's sum over heads is the reference's. -/
theorem heads_eq (r j : Fin 2048) :
    ∑ n : Fin 16, term (V3 m ρ c main_v58) (V3 m ρ c main_v59) (V3 m ρ c main_v60) r j n = referenceScore m c r j := by
  unfold referenceScore
  rw [val_main_v64_apply]
  have hz : val_main_cst_8 (F := Ideal) (Shape.Idx.first Cert.ReferenceIdeal.Gen.facts.h_S_) = (0 : EReal) := Ideal.ofBits_zero_f32
  change _ = (_ : EReal) + _
  rw [hz, zero_add]
  refine Finset.sum_congr rfl fun n _ => ?_
  rw [val_main_v63_apply, val_main_v61_apply, val_main_v59_apply, val_main_v62_apply, val_main_v60_apply, val_main_cst_7_apply]
  unfold term
  rw [weights_read]
  refine congrArg₂ (fun a b : EReal => a * b) (congrArg₂ (fun a b : EReal => max a b) (Finset.sum_congr rfl fun d _ => ?_)
    Ideal.ofBits_zero_f32.symm) (congrArg _ ?_)
  · rw [queries_read, keys_read]
    refine congrArg₂ (fun a b : EReal => a * b) (congrArg _ ?_) (congrArg _ ?_)
    · funext a; apply Fin.ext; fin_cases a <;> rfl
    · funext a; apply Fin.ext; fin_cases a <;> rfl
  · funext a; apply Fin.ext; fin_cases a <;> rfl

/-- A row of what the kernel sorts: the reference's scores at or before the diagonal, the mask past it. -/
theorem scoreRow_eq (r j : Fin 2048) :
    Sorting.scoreRow m ρ c r j = if r < j then maskAt j.val else referenceScore m c r j := by
  refine (congrFun (W4_arr m ρ c 3) _).trans ((scores_apply (V3 m ρ) c _).trans ?_)
  rw [← heads_eq m ρ c r j]
  rfl

/-- In a row whose scores at or before the diagonal are above the mask's first value and different, the kernel's result is the reference's. -/
theorem row_eq (r j : Fin 2048) (habove : ∀ j : Fin 2048, ¬ r < j → Ideal.ofBits .f32 0xF149F2CA#32 < referenceScore m c r j)
    (hne : ∀ a b : Fin 2048, ¬ r < a → ¬ r < b → a ≠ b → referenceScore m c r a ≠ referenceScore m c r b) :
    W12 m ρ c (Proc.devRef .tc main_v85) (ix3 0 r j)
      = val_main_indices (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (ix3 0 r j) := by
  rw [Cert.ReferenceIdeal.Sorted.indices_apply]
  refine Sorting.result_apply ?_ ?_ j
  · exact Order.strictAnti_sortedFrom r (referenceScore m c r) (Sorting.scoreRow m ρ c r) _ (fun j => maskAt j.val) _
      (fun j => Cert.ReferenceIdeal.Sorted.key_apply _ _ _ _ _ _ _ _ r j) (scoreRow_eq m ρ c r) habove maskAt_le maskAt_strictAnti hne
  · exact Order.tail_lt r (referenceScore m c r) (Sorting.scoreRow m ρ c r) (fun j => maskAt j.val) _
      (scoreRow_eq m ρ c r) habove maskAt_le maskAt_strictAnti

/-- Under the precondition the kernel's result is the reference's, entry by entry. -/
theorem result_eq (h : Cert.Pre_KernelIdeal_separated m) (r j : Fin 2048) :
    W12 m ρ c (Proc.devRef .tc main_v85) (ix3 0 r j)
      = val_main_indices (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (ix3 0 r j) :=
  have hr := Cert.Pre_separated.Reading.scores_separated _ _ _ _ _ _ _ _ _ _ _ (h c) r
  row_eq m ρ c r j hr.1 hr.2

/-- At the entries that the mask selects the kernel's result is the reference's, whatever the arguments. -/
theorem result_eq_on (r j : Fin 2048)
    (h : Cert.On_separated_rows.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (ix3 0 r j) = 1#1) :
    W12 m ρ c (Proc.devRef .tc main_v85) (ix3 0 r j)
      = val_main_indices (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (ix3 0 r j) :=
  have hr := Cert.On_separated_rows.Reading.selected_separated _ _ _ _ _ _ _ _ _ _ _ r j h
  row_eq m ρ c r j hr.1 hr.2

end Cert.KernelIdeal.Scores

end
-- ==== Proof.lean ====
/-
  The proof of `Cert.Claim` (Defs.lean): the frames of the two kernels, generated; the reference's, from its generated run; and that under
  the precondition the kernel and the reference return the same positions, and without it in every row that meets it (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import proofs.«01_k».proof.Proof.Gen.On_separated_rows
public import proofs.«01_k».proof.Proof.Gen.ReferenceIdeal.Run
public import proofs.«01_k».proof.Proof.Gen.ReferenceIdeal.Read
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference ends with its arguments unchanged and no semaphore raised: it has none. -/
theorem reference_frame : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- Under the precondition the kernel's result is the reference's. -/
theorem algebraic : Cert.algebraic_KernelIdeal_ReferenceIdeal_pre_separated := by
  intro m ρ m' ρ' hpre hargs
  refine ⟨fun c => Cert.KernelIdeal.Gen.W12 m ρ c (Proc.devRef .tc Cert.KernelIdeal.main_v85), Cert.KernelIdeal.Run.result_run m ρ, ?_⟩
  refine (θ_run (Cert.ReferenceIdeal.defs (F := Ideal)) _ _).mono (fun r h c => ⟨(h c).1.trans ?_, (h c).2⟩)
    (Cert.ReferenceIdeal.Value.run (F := Ideal) m' ρ')
  obtain ⟨h0, h1, h2, h3, h4, h5, h6, h7, -⟩ := hargs c
  rw [Cert.ReferenceIdeal.Read.val_main_indices_eq, h0, h1, h2, h3, h4, h5, h6, h7]
  funext i
  have hi : i = ix3 0 (i 1) (i 2) := by
    funext a
    match a with
    | ⟨0, _⟩ => exact Subsingleton.elim (α := Fin 1) _ _
    | ⟨1, _⟩ => rfl
    | ⟨2, _⟩ => rfl
  rw [hi]
  exact (Cert.KernelIdeal.Scores.result_eq m ρ c hpre (i 1) (i 2)).symm

/-- Without it, the kernel's result is the reference's in each row whose own scores are separated. -/
theorem algebraic_on : Cert.algebraic_KernelIdeal_ReferenceIdeal_on_separated_rows := by
  intro m ρ m' ρ' _ hargs
  refine ⟨fun c => Cert.KernelIdeal.Gen.W12 m ρ c (Proc.devRef .tc Cert.KernelIdeal.main_v85), ?_, ?_⟩
  · exact (θ_run (Cert.KernelIdeal.defs (F := Ideal)) _ _).mono (fun r h c => ⟨fun i _ => congrFun (h c).1 i, (h c).2⟩)
      (Cert.KernelIdeal.Run.result_run m ρ)
  refine (θ_run (Cert.ReferenceIdeal.defs (F := Ideal)) _ _).mono (fun r h c => ⟨fun i hon => (congrFun (h c).1 i).trans ?_, (h c).2⟩)
    (Cert.ReferenceIdeal.Value.run (F := Ideal) m' ρ')
  obtain ⟨h0, h1, h2, h3, h4, h5, h6, h7, -⟩ := hargs c
  rw [Cert.ReferenceIdeal.Read.val_main_indices_eq, h0, h1, h2, h3, h4, h5, h6, h7]
  have hi : i = ix3 0 (i 1) (i 2) := by
    funext a
    match a with
    | ⟨0, _⟩ => exact Subsingleton.elim (α := Fin 1) _ _
    | ⟨1, _⟩ => rfl
    | ⟨2, _⟩ => rfl
  rw [hi] at hon ⊢
  exact (Cert.KernelIdeal.Scores.result_eq_on m ρ c (i 1) (i 2) hon).symm

/-- Every claim. -/
theorem claim : Cert.Claim := ⟨Cert.Kernel.Gen.facts, Cert.KernelIdeal.Gen.facts, Cert.ReferenceIdeal.Gen.facts, Cert.Pre_separated.Gen.facts,
  Cert.On_separated_rows.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, algebraic, algebraic_on⟩

end Cert.Proof

end
